-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_has_run : Cert.Pre_has_run.Facts] (m : (ℓ : Loc Cert.Kernel2.nD Cert.Kernel2.τ Cert.Kernel2.sig) → Buf (Elt Bits) ℓ) : Prop :=
  ∀ c : Dev Cert.Kernel2.nD,
    (Cert.Pre_has_run.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3))) = (fun _ => 1#1)

def Pre_Kernel2Ideal [hPre_has_run : Cert.Pre_has_run.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_has_run.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_has_run [hPre_has_run : Cert.Pre_has_run.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_has_run.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_has_run : Cert.Pre_has_run.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] [hPre_has_run : Cert.Pre_has_run.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_has_run [hReference2Ideal : Cert.Reference2Ideal.Facts] [hPre_has_run : Cert.Pre_has_run.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_has_run m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v138)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v138) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_has_run : Cert.Pre_has_run.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v30)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v8_0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v33) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v8_0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v33) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_has_run : Cert.Pre_has_run.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_has_run := hPre_has_run)
    ∧ quiescent_Kernel2Ideal (hKernel2Ideal := hKernel2Ideal) (hPre_has_run := hPre_has_run)
    ∧ quiescent_Reference2Ideal (hReference2Ideal := hReference2Ideal)
    ∧ quiescent_Reference2Ideal_pre_has_run (hReference2Ideal := hReference2Ideal) (hPre_has_run := hPre_has_run)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_has_run := hPre_has_run)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S32768x1024 : Shape := ⟨2, ![32768, 1024]⟩
abbrev S32768x2048 : Shape := ⟨2, ![32768, 2048]⟩
abbrev S1x16x320 : Shape := ⟨3, ![1, 16, 320]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  h_S_ : 0 < S_.numel
  slices_S32768x2048_S32768x1024_0_0 : S32768x2048.Slices ![0, 0] S32768x1024
  bcast_S_S1x16x320 : S_.BroadcastsInDim S1x16x320 (![] : Fin 0 → Fin S1x16x320.rank)
  reducesTo_S1x16x320_S_d0_1_2 : S1x16x320.ReducesTo [0, 1, 2] S_

variable [Facts]

def fn {F : FTy → Type} [FloatOps F] (main_arg0 : FVec F S32768x1024 .bf16) (main_arg1 : FVec F S32768x2048 .bf16) (main_arg2 : FVec F S1x16x320 .f32) : IVec S_ 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_c : IVec S_ 1 := constantI S_ 1 1#1
  let main_v4 : IVec S_ 1 := (fun x v => Host.reduce IntOp.andi x v reducesTo_S32768x1024_S_d0_1 h_S_) main_v3 main_c
  let main_v5 : FVec F S32768x1024 .bf16 := (extractStridedSlice S32768x1024 ![0, 0] · slices_S32768x2048_S32768x1024_0_0) main_arg1
  let main_v6 : FVec F S32768x1024 .f32 := (extf .f32 · bitsLt_bf16_f32) main_v5
  let main_v7 : FVec F S32768x1024 .f32 := Host.absf main_v6
  let main_cst_0 : FVec F S_ .f32 := constant S_ .f32 0x7F800000#32
  let main_v8 : FVec F S32768x1024 .f32 := broadcastInDim S32768x1024 ![] bcast_S_S32768x1024 main_cst_0
  let main_v9 : IVec S32768x1024 1 := cmpf .olt main_v7 main_v8
  let main_c_1 : IVec S_ 1 := constantI S_ 1 1#1
  let main_v10 : IVec S_ 1 := (fun x v => Host.reduce IntOp.andi x v reducesTo_S32768x1024_S_d0_1 h_S_) main_v9 main_c_1
  let main_v11 : IVec S_ 1 := andi main_v4 main_v10
  let main_v12 : FVec F S1x16x320 .f32 := Host.absf main_arg2
  let main_cst_2 : FVec F S_ .f32 := constant S_ .f32 0x7F800000#32
  let main_v13 : FVec F S1x16x320 .f32 := broadcastInDim S1x16x320 ![] bcast_S_S1x16x320 main_cst_2
  let main_v14 : IVec S1x16x320 1 := cmpf .olt main_v12 main_v13
  let main_c_3 : IVec S_ 1 := constantI S_ 1 1#1
  let main_v15 : IVec S_ 1 := (fun x v => Host.reduce IntOp.andi x v reducesTo_S1x16x320_S_d0_1_2 h_S_) main_v14 main_c_3
  let main_v16 : IVec S_ 1 := andi main_v11 main_v15
  main_v16
-- ==== Pre_has_run.lean ====
abbrev S327680x1024 : Shape := ⟨2, ![327680, 1024]⟩
abbrev S256 : Shape := ⟨1, ![256]⟩
abbrev S2x256x1024x512 : Shape := ⟨4, ![2, 256, 1024, 512]⟩
abbrev S2x256x256x1024 : Shape := ⟨4, ![2, 256, 256, 1024]⟩
abbrev S_ : Shape := ⟨0, ![]⟩
abbrev S1 : Shape := ⟨1, ![1]⟩

class Facts : Prop where
  bcast_S_S256 : S_.BroadcastsInDim S256 (![] : Fin 0 → Fin S256.rank)
  bcast_S_S_ : S_.BroadcastsInDim S_ (![] : Fin 0 → Fin S_.rank)
  reduceWindows_S256_S256_w256s1p255_0 : S256.ReduceWindows (![256] : Fin 1 → Nat) ![1] ![255] ![0] S256
  h_S_ : 0 < S_.numel
  slices_S256_S1_255 : S256.Slices ![255] S1
  shapeCasts_S1_S_ : S1.ShapeCasts S_

variable [Facts]

def fn_where {F : FTy → Type} [FloatOps F] (arg0 : IVec S256 1) (arg1 : IVec S256 32) (arg2 : IVec S256 32) : IVec S256 32 :=
  let v0 : IVec S256 32 := select arg0 arg1 arg2
  v0

def fn_floor_divide {F : FTy → Type} [FloatOps F] (arg0 : IVec S256 32) (arg1 : IVec S_ 32) : IVec S256 32 :=
  let v0 : IVec S_ 32 := id arg1
  let v1 : IVec S256 32 := broadcastInDim S256 ![] bcast_S_S256 v0
  let v2 : IVec S256 32 := Host.divsi arg0 v1
  let v3 : IVec S256 32 := signi arg0
  let v4 : IVec S_ 32 := signi v0
  let v5 : IVec S256 32 := broadcastInDim S256 ![] bcast_S_S256 v4
  let v6 : IVec S256 1 := cmpi .ne v3 v5
  let v7 : IVec S256 32 := broadcastInDim S256 ![] bcast_S_S256 v0
  let v8 : IVec S256 32 := Host.remsi arg0 v7
  let c : IVec S_ 32 := constantI S_ 32 0#32
  let v9 : IVec S256 32 := broadcastInDim S256 ![] bcast_S_S256 c
  let v10 : IVec S256 1 := cmpi .ne v8 v9
  let v11 : IVec S256 1 := andi v6 v10
  let c_0 : IVec S_ 32 := constantI S_ 32 1#32
  let v12 : IVec S256 32 := broadcastInDim S256 ![] bcast_S_S256 c_0
  let v13 : IVec S256 32 := subi v2 v12
  let v14 : IVec S256 32 := fn_where (F := F) v11 v13 v2
  v14

def fn_cumsum_0 {F : FTy → Type} [FloatOps F] (arg0 : IVec S256 32) : IVec S256 32 :=
  let c : IVec S_ 32 := constantI S_ 32 0#32
  let v0 : IVec S_ 32 := broadcastInDim S_ ![] bcast_S_S_ c
  let v1 : IVec S256 32 := (fun x v => Host.reduceWindow IntOp.addi ![256] ![1] ![255] ![0] x v reduceWindows_S256_S256_w256s1p255_0 h_S_) arg0 v0
  v1

def fn_cumsum {F : FTy → Type} [FloatOps F] (arg0 : IVec S256 32) : IVec S256 32 :=
  let v0 : IVec S256 32 := fn_cumsum_0 (F := F) arg0
  v0

def fn {F : FTy → Type} [FloatOps F] (main_arg0 : FVec F S327680x1024 .f32) (main_arg1 : IVec S256 32) (main_arg2 : FVec F S2x256x1024x512 .f32) (main_arg3 : FVec F S2x256x256x1024 .f32) : IVec S_ 1 :=
  let main_c : IVec S_ 32 := constantI S_ 32 256#32
  let main_v0 : IVec S256 32 := broadcastInDim S256 ![] bcast_S_S256 main_c
  let main_v1 : IVec S256 32 := addi main_arg1 main_v0
  let main_c_0 : IVec S_ 32 := constantI S_ 32 1#32
  let main_v2 : IVec S256 32 := broadcastInDim S256 ![] bcast_S_S256 main_c_0
  let main_v3 : IVec S256 32 := subi main_v1 main_v2
  let main_c_1 : IVec S_ 32 := constantI S_ 32 256#32
  let main_v4 : IVec S256 32 := fn_floor_divide (F := F) main_v3 main_c_1
  let main_c_2 : IVec S_ 32 := constantI S_ 32 256#32
  let main_v5 : IVec S256 32 := broadcastInDim S256 ![] bcast_S_S256 main_c_2
  let main_v6 : IVec S256 32 := muli main_v4 main_v5
  let main_v7 : IVec S256 32 := fn_cumsum (F := F) main_v6
  let main_v8 : IVec S1 32 := (extractStridedSlice S1 ![255] · slices_S256_S1_255) main_v7
  let main_v9 : IVec S_ 32 := shapeCast S_ main_v8 shapeCasts_S1_S_
  let main_c_3 : IVec S_ 32 := constantI S_ 32 256#32
  let main_v10 : IVec S_ 1 := cmpi .sge main_v9 main_c_3
  main_v10
-- ==== Kernel.lean ====
abbrev S32768x1024 : Shape := ⟨2, ![32768, 1024]⟩
abbrev S32768x2048 : Shape := ⟨2, ![32768, 2048]⟩
abbrev S1x16x320 : Shape := ⟨3, ![1, 16, 320]⟩
abbrev S16x320 : Shape := ⟨2, ![16, 320]⟩
abbrev S16x1 : Shape := ⟨2, ![16, 1]⟩
abbrev S16x383 : Shape := ⟨2, ![16, 383]⟩
abbrev S16x703 : Shape := ⟨2, ![16, 703]⟩
abbrev S16x640 : Shape := ⟨2, ![16, 640]⟩
abbrev S16x1x640 : Shape := ⟨3, ![16, 1, 640]⟩
abbrev S16x16x640 : Shape := ⟨3, ![16, 16, 640]⟩
abbrev S16x64x640 : Shape := ⟨3, ![16, 64, 640]⟩
abbrev S512x1024 : Shape := ⟨2, ![512, 1024]⟩
abbrev S1088x1024 : Shape := ⟨2, ![1088, 1024]⟩
abbrev S64x1024 : Shape := ⟨2, ![64, 1024]⟩
abbrev S64x128 : Shape := ⟨2, ![64, 128]⟩
abbrev S128x640 : Shape := ⟨2, ![128, 640]⟩
abbrev S128x128 : Shape := ⟨2, ![128, 128]⟩
abbrev S640x128 : Shape := ⟨2, ![640, 128]⟩
abbrev S1x64x640 : Shape := ⟨3, ![1, 64, 640]⟩
abbrev S64x640 : Shape := ⟨2, ![64, 640]⟩
abbrev S128 : Shape := ⟨1, ![128]⟩
abbrev S128x1 : Shape := ⟨2, ![128, 1]⟩

abbrev nBuf : Space → Nat
  | .hbm => 142
  | .vmem => 15
  | .smem => 0
  | _ => 0

abbrev hbmTy0_0 (i : Nat) : BufTy := match i % 128 with
  | 0 => ⟨S32768x1024, .bf16⟩
  | 1 => ⟨S32768x2048, .bf16⟩
  | 2 => ⟨S1x16x320, .f32⟩
  | 3 => ⟨S16x320, .f32⟩
  | 4 => ⟨S16x1, .f32⟩
  | 5 => ⟨S16x383, .f32⟩
  | 6 => ⟨S16x703, .f32⟩
  | 7 => ⟨S16x703, .f32⟩
  | 8 => ⟨S16x640, .f32⟩
  | 9 => ⟨S16x640, .f32⟩
  | 10 => ⟨S16x640, .f32⟩
  | 11 => ⟨S16x640, .f32⟩
  | 12 => ⟨S16x640, .f32⟩
  | 13 => ⟨S16x640, .f32⟩
  | 14 => ⟨S16x640, .f32⟩
  | 15 => ⟨S16x640, .f32⟩
  | 16 => ⟨S16x640, .f32⟩
  | 17 => ⟨S16x640, .f32⟩
  | 18 => ⟨S16x640, .f32⟩
  | 19 => ⟨S16x640, .f32⟩
  | 20 => ⟨S16x640, .f32⟩
  | 21 => ⟨S16x640, .f32⟩
  | 22 => ⟨S16x640, .f32⟩
  | 23 => ⟨S16x640, .f32⟩
  | 24 => ⟨S16x640, .f32⟩
  | 25 => ⟨S16x640, .f32⟩
  | 26 => ⟨S16x640, .f32⟩
  | 27 => ⟨S16x640, .f32⟩
  | 28 => ⟨S16x640, .f32⟩
  | 29 => ⟨S16x640, .f32⟩
  | 30 => ⟨S16x640, .f32⟩
  | 31 => ⟨S16x640, .f32⟩
  | 32 => ⟨S16x640, .f32⟩
  | 33 => ⟨S16x640, .f32⟩
  | 34 => ⟨S16x640, .f32⟩
  | 35 => ⟨S16x640, .f32⟩
  | 36 => ⟨S16x640, .f32⟩
  | 37 => ⟨S16x640, .f32⟩
  | 38 => ⟨S16x640, .f32⟩
  | 39 => ⟨S16x640, .f32⟩
  | 40 => ⟨S16x640, .f32⟩
  | 41 => ⟨S16x640, .f32⟩
  | 42 => ⟨S16x640, .f32⟩
  | 43 => ⟨S16x640, .f32⟩
  | 44 => ⟨S16x640, .f32⟩
  | 45 => ⟨S16x640, .f32⟩
  | 46 => ⟨S16x640, .f32⟩
  | 47 => ⟨S16x640, .f32⟩
  | 48 => ⟨S16x640, .f32⟩
  | 49 => ⟨S16x640, .f32⟩
  | 50 => ⟨S16x640, .f32⟩
  | 51 => ⟨S16x640, .f32⟩
  | 52 => ⟨S16x640, .f32⟩
  | 53 => ⟨S16x640, .f32⟩
  | 54 => ⟨S16x640, .f32⟩
  | 55 => ⟨S16x640, .f32⟩
  | 56 => ⟨S16x640, .f32⟩
  | 57 => ⟨S16x640, .f32⟩
  | 58 => ⟨S16x640, .f32⟩
  | 59 => ⟨S16x640, .f32⟩
  | 60 => ⟨S16x640, .f32⟩
  | 61 => ⟨S16x640, .f32⟩
  | 62 => ⟨S16x640, .f32⟩
  | 63 => ⟨S16x640, .f32⟩
  | 64 => ⟨S16x640, .f32⟩
  | 65 => ⟨S16x640, .f32⟩
  | 66 => ⟨S16x640, .f32⟩
  | 67 => ⟨S16x640, .f32⟩
  | 68 => ⟨S16x640, .f32⟩
  | 69 => ⟨S16x640, .f32⟩
  | 70 => ⟨S16x640, .f32⟩
  | 71 => ⟨S16x640, .f32⟩
  | 72 => ⟨S16x1x640, .f32⟩
  | 73 => ⟨S16x1x640, .f32⟩
  | 74 => ⟨S16x1x640, .f32⟩
  | 75 => ⟨S16x1x640, .f32⟩
  | 76 => ⟨S16x1x640, .f32⟩
  | 77 => ⟨S16x1x640, .f32⟩
  | 78 => ⟨S16x1x640, .f32⟩
  | 79 => ⟨S16x1x640, .f32⟩
  | 80 => ⟨S16x1x640, .f32⟩
  | 81 => ⟨S16x1x640, .f32⟩
  | 82 => ⟨S16x1x640, .f32⟩
  | 83 => ⟨S16x1x640, .f32⟩
  | 84 => ⟨S16x1x640, .f32⟩
  | 85 => ⟨S16x1x640, .f32⟩
  | 86 => ⟨S16x1x640, .f32⟩
  | 87 => ⟨S16x1x640, .f32⟩
  | 88 => ⟨S16x1x640, .f32⟩
  | 89 => ⟨S16x1x640, .f32⟩
  | 90 => ⟨S16x1x640, .f32⟩
  | 91 => ⟨S16x1x640, .f32⟩
  | 92 => ⟨S16x1x640, .f32⟩
  | 93 => ⟨S16x1x640, .f32⟩
  | 94 => ⟨S16x1x640, .f32⟩
  | 95 => ⟨S16x1x640, .f32⟩
  | 96 => ⟨S16x1x640, .f32⟩
  | 97 => ⟨S16x1x640, .f32⟩
  | 98 => ⟨S16x1x640, .f32⟩
  | 99 => ⟨S16x1x640, .f32⟩
  | 100 => ⟨S16x1x640, .f32⟩
  | 101 => ⟨S16x1x640, .f32⟩
  | 102 => ⟨S16x1x640, .f32⟩
  | 103 => ⟨S16x1x640, .f32⟩
  | 104 => ⟨S16x1x640, .f32⟩
  | 105 => ⟨S16x1x640, .f32⟩
  | 106 => ⟨S16x1x640, .f32⟩
  | 107 => ⟨S16x1x640, .f32⟩
  | 108 => ⟨S16x1x640, .f32⟩
  | 109 => ⟨S16x1x640, .f32⟩
  | 110 => ⟨S16x1x640, .f32⟩
  | 111 => ⟨S16x1x640, .f32⟩
  | 112 => ⟨S16x1x640, .f32⟩
  | 113 => ⟨S16x1x640, .f32⟩
  | 114 => ⟨S16x1x640, .f32⟩
  | 115 => ⟨S16x1x640, .f32⟩
  | 116 => ⟨S16x1x640, .f32⟩
  | 117 => ⟨S16x1x640, .f32⟩
  | 118 => ⟨S16x1x640, .f32⟩
  | 119 => ⟨S16x1x640, .f32⟩
  | 120 => ⟨S16x1x640, .f32⟩
  | 121 => ⟨S16x1x640, .f32⟩
  | 122 => ⟨S16x1x640, .f32⟩
  | 123 => ⟨S16x1x640, .f32⟩
  | 124 => ⟨S16x1x640, .f32⟩
  | 125 => ⟨S16x1x640, .f32⟩
  | 126 => ⟨S16x1x640, .f32⟩
  | 127 => ⟨S16x1x640, .f32⟩
  | _ => ⟨S32768x1024, .bf16⟩

abbrev hbmTy0_1 (i : Nat) : BufTy := match i % 128 with
  | 0 => ⟨S16x1x640, .f32⟩
  | 1 => ⟨S16x1x640, .f32⟩
  | 2 => ⟨S16x1x640, .f32⟩
  | 3 => ⟨S16x1x640, .f32⟩
  | 4 => ⟨S16x1x640, .f32⟩
  | 5 => ⟨S16x1x640, .f32⟩
  | 6 => ⟨S16x1x640, .f32⟩
  | 7 => ⟨S16x1x640, .f32⟩
  | 8 => ⟨S16x16x640, .f32⟩
  | 9 => ⟨S16x16x640, .f32⟩
  | 10 => ⟨S16x16x640, .f32⟩
  | 11 => ⟨S16x16x640, .f32⟩
  | 12 => ⟨S16x64x640, .f32⟩
  | 13 => ⟨S32768x1024, .bf16⟩
  | _ => ⟨S32768x1024, .bf16⟩

abbrev hbmTy (i : Nat) : BufTy := match i / 128 with
  | 0 => hbmTy0_0 i
  | 1 => hbmTy0_1 i
  | _ => ⟨S32768x1024, .bf16⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S16x64x640, .f32⟩
  | .local _ .vmem, ⟨11, _⟩ => ⟨S512x1024, .bf16⟩
  | .local _ .vmem, ⟨12, _⟩ => ⟨S512x1024, .bf16⟩
  | .local _ .vmem, ⟨13, _⟩ => ⟨S1088x1024, .bf16⟩
  | .local _ .vmem, ⟨14, _⟩ => ⟨S1088x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩
abbrev main_v109 : Ref sig .tc := ⟨.hbm, 112, rfl⟩
abbrev main_v110 : Ref sig .tc := ⟨.hbm, 113, rfl⟩
abbrev main_v111 : Ref sig .tc := ⟨.hbm, 114, rfl⟩
abbrev main_v112 : Ref sig .tc := ⟨.hbm, 115, rfl⟩
abbrev main_v113 : Ref sig .tc := ⟨.hbm, 116, rfl⟩
abbrev main_v114 : Ref sig .tc := ⟨.hbm, 117, rfl⟩
abbrev main_v115 : Ref sig .tc := ⟨.hbm, 118, rfl⟩
abbrev main_v116 : Ref sig .tc := ⟨.hbm, 119, rfl⟩
abbrev main_v117 : Ref sig .tc := ⟨.hbm, 120, rfl⟩
abbrev main_v118 : Ref sig .tc := ⟨.hbm, 121, rfl⟩
abbrev main_v119 : Ref sig .tc := ⟨.hbm, 122, rfl⟩
abbrev main_v120 : Ref sig .tc := ⟨.hbm, 123, rfl⟩
abbrev main_v121 : Ref sig .tc := ⟨.hbm, 124, rfl⟩
abbrev main_v122 : Ref sig .tc := ⟨.hbm, 125, rfl⟩
abbrev main_v123 : Ref sig .tc := ⟨.hbm, 126, rfl⟩
abbrev main_v124 : Ref sig .tc := ⟨.hbm, 127, rfl⟩
abbrev main_v125 : Ref sig .tc := ⟨.hbm, 128, rfl⟩
abbrev main_v126 : Ref sig .tc := ⟨.hbm, 129, rfl⟩
abbrev main_v127 : Ref sig .tc := ⟨.hbm, 130, rfl⟩
abbrev main_v128 : Ref sig .tc := ⟨.hbm, 131, rfl⟩
abbrev main_v129 : Ref sig .tc := ⟨.hbm, 132, rfl⟩
abbrev main_v130 : Ref sig .tc := ⟨.hbm, 133, rfl⟩
abbrev main_v131 : Ref sig .tc := ⟨.hbm, 134, rfl⟩
abbrev main_v132 : Ref sig .tc := ⟨.hbm, 135, rfl⟩
abbrev main_v133 : Ref sig .tc := ⟨.hbm, 136, rfl⟩
abbrev main_v134 : Ref sig .tc := ⟨.hbm, 137, rfl⟩
abbrev main_v135 : Ref sig .tc := ⟨.hbm, 138, rfl⟩
abbrev main_v136 : Ref sig .tc := ⟨.hbm, 139, rfl⟩
abbrev main_v137 : Ref sig .tc := ⟨.hbm, 140, rfl⟩
abbrev main_v138 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32 : BitVec 32 := 0#32
  let c8_i32 : BitVec 32 := 8#32
  let v27 : BitVec 32 := Scalar.addi c0_i32 c8_i32
  let c1_i32 : BitVec 32 := 1#32
  ⟨c0_i32, v27, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c64_i32_18 : BitVec 32 := 64#32
  let v28 : BitVec 32 := Scalar.muli arg11 c64_i32_18
  v28
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c64_i32_18 : BitVec 32 := 64#32
  let v28 : BitVec 32 := Scalar.muli arg11 c64_i32_18
  let v29 : BitVec 32 := v28
  let v41 : Index := Scalar.indexCast v29
  let c0_22 : Index := 0#32
  ![v41.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c64_i32_18 : BitVec 32 := 64#32
  let v28 : BitVec 32 := Scalar.muli arg11 c64_i32_18
  let v29 : BitVec 32 := v28
  let v49 : Index := Scalar.indexCast v29
  let c0_25 : Index := 0#32
  ![v49.toNat, 0]
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c64_i32_18 : BitVec 32 := 64#32
  let v28 : BitVec 32 := Scalar.muli arg11 c64_i32_18
  let v29 : BitVec 32 := v28
  let v60 : Index := Scalar.indexCast v29
  let c128 : Index := 128#32
  ![v60.toNat, 128]
def k0_off4 (k0_t1 : Fin k0_t1_loop.trips) : Fin 2 → Nat :=
  let c0_i32 : BitVec 32 := 0#32
  let c1_i32 : BitVec 32 := 1#32
  let arg11 : BitVec 32 := Scf.iv c0_i32 c1_i32 k0_t1
  let c64_i32_18 : BitVec 32 := 64#32
  let v28 : BitVec 32 := Scalar.muli arg11 c64_i32_18
  let v29 : BitVec 32 := v28
  let v68 : Index := Scalar.indexCast v29
  let c128_35 : Index := 128#32
  ![v68.toNat, 128]
def k0_off5 (k0_t1 : Fin k0_t1_loop.trips) : Fin 2 → Nat :=
  let c0_i32 : BitVec 32 := 0#32
  let c1_i32 : BitVec 32 := 1#32
  let arg11 : BitVec 32 := Scf.iv c0_i32 c1_i32 k0_t1
  let c64_i32_18 : BitVec 32 := 64#32
  let v28 : BitVec 32 := Scalar.muli arg11 c64_i32_18
  let v29 : BitVec 32 := v28
  let v79 : Index := Scalar.indexCast v29
  let c256 : Index := 256#32
  ![v79.toNat, 256]
def k0_off6 (k0_t1 : Fin k0_t1_loop.trips) : Fin 2 → Nat :=
  let c0_i32 : BitVec 32 := 0#32
  let c1_i32 : BitVec 32 := 1#32
  let arg11 : BitVec 32 := Scf.iv c0_i32 c1_i32 k0_t1
  let c64_i32_18 : BitVec 32 := 64#32
  let v28 : BitVec 32 := Scalar.muli arg11 c64_i32_18
  let v29 : BitVec 32 := v28
  let v87 : Index := Scalar.indexCast v29
  let c256_44 : Index := 256#32
  ![v87.toNat, 256]
def k0_off7 (k0_t1 : Fin k0_t1_loop.trips) : Fin 2 → Nat :=
  let c0_i32 : BitVec 32 := 0#32
  let c1_i32 : BitVec 32 := 1#32
  let arg11 : BitVec 32 := Scf.iv c0_i32 c1_i32 k0_t1
  let c64_i32_18 : BitVec 32 := 64#32
  let v28 : BitVec 32 := Scalar.muli arg11 c64_i32_18
  let v29 : BitVec 32 := v28
  let v98 : Index := Scalar.indexCast v29
  let c384 : Index := 384#32
  ![v98.toNat, 384]
def k0_off8 (k0_t1 : Fin k0_t1_loop.trips) : Fin 2 → Nat :=
  let c0_i32 : BitVec 32 := 0#32
  let c1_i32 : BitVec 32 := 1#32
  let arg11 : BitVec 32 := Scf.iv c0_i32 c1_i32 k0_t1
  let c64_i32_18 : BitVec 32 := 64#32
  let v28 : BitVec 32 := Scalar.muli arg11 c64_i32_18
  let v29 : BitVec 32 := v28
  let v106 : Index := Scalar.indexCast v29
  let c384_53 : Index := 384#32
  ![v106.toNat, 384]
def k0_off9 (k0_t1 : Fin k0_t1_loop.trips) : Fin 2 → Nat :=
  let c0_i32 : BitVec 32 := 0#32
  let c1_i32 : BitVec 32 := 1#32
  let arg11 : BitVec 32 := Scf.iv c0_i32 c1_i32 k0_t1
  let c64_i32_18 : BitVec 32 := 64#32
  let v28 : BitVec 32 := Scalar.muli arg11 c64_i32_18
  let v29 : BitVec 32 := v28
  let v117 : Index := Scalar.indexCast v29
  let c512 : Index := 512#32
  ![v117.toNat, 512]
def k0_off10 (k0_t1 : Fin k0_t1_loop.trips) : Fin 2 → Nat :=
  let c0_i32 : BitVec 32 := 0#32
  let c1_i32 : BitVec 32 := 1#32
  let arg11 : BitVec 32 := Scf.iv c0_i32 c1_i32 k0_t1
  let c64_i32_18 : BitVec 32 := 64#32
  let v28 : BitVec 32 := Scalar.muli arg11 c64_i32_18
  let v29 : BitVec 32 := v28
  let v125 : Index := Scalar.indexCast v29
  let c512_62 : Index := 512#32
  ![v125.toNat, 512]
def k0_off11 (k0_t1 : Fin k0_t1_loop.trips) : Fin 2 → Nat :=
  let c0_i32 : BitVec 32 := 0#32
  let c1_i32 : BitVec 32 := 1#32
  let arg11 : BitVec 32 := Scf.iv c0_i32 c1_i32 k0_t1
  let c64_i32_18 : BitVec 32 := 64#32
  let v28 : BitVec 32 := Scalar.muli arg11 c64_i32_18
  let v29 : BitVec 32 := v28
  let v136 : Index := Scalar.indexCast v29
  let c640 : Index := 640#32
  ![v136.toNat, 640]
def k0_off12 (k0_t1 : Fin k0_t1_loop.trips) : Fin 2 → Nat :=
  let c0_i32 : BitVec 32 := 0#32
  let c1_i32 : BitVec 32 := 1#32
  let arg11 : BitVec 32 := Scf.iv c0_i32 c1_i32 k0_t1
  let c64_i32_18 : BitVec 32 := 64#32
  let v28 : BitVec 32 := Scalar.muli arg11 c64_i32_18
  let v29 : BitVec 32 := v28
  let v144 : Index := Scalar.indexCast v29
  let c640_71 : Index := 640#32
  ![v144.toNat, 640]
def k0_off13 (k0_t1 : Fin k0_t1_loop.trips) : Fin 2 → Nat :=
  let c0_i32 : BitVec 32 := 0#32
  let c1_i32 : BitVec 32 := 1#32
  let arg11 : BitVec 32 := Scf.iv c0_i32 c1_i32 k0_t1
  let c64_i32_18 : BitVec 32 := 64#32
  let v28 : BitVec 32 := Scalar.muli arg11 c64_i32_18
  let v29 : BitVec 32 := v28
  let v155 : Index := Scalar.indexCast v29
  let c768 : Index := 768#32
  ![v155.toNat, 768]
def k0_off14 (k0_t1 : Fin k0_t1_loop.trips) : Fin 2 → Nat :=
  let c0_i32 : BitVec 32 := 0#32
  let c1_i32 : BitVec 32 := 1#32
  let arg11 : BitVec 32 := Scf.iv c0_i32 c1_i32 k0_t1
  let c64_i32_18 : BitVec 32 := 64#32
  let v28 : BitVec 32 := Scalar.muli arg11 c64_i32_18
  let v29 : BitVec 32 := v28
  let v163 : Index := Scalar.indexCast v29
  let c768_80 : Index := 768#32
  ![v163.toNat, 768]
def k0_off15 (k0_t1 : Fin k0_t1_loop.trips) : Fin 2 → Nat :=
  let c0_i32 : BitVec 32 := 0#32
  let c1_i32 : BitVec 32 := 1#32
  let arg11 : BitVec 32 := Scf.iv c0_i32 c1_i32 k0_t1
  let c64_i32_18 : BitVec 32 := 64#32
  let v28 : BitVec 32 := Scalar.muli arg11 c64_i32_18
  let v29 : BitVec 32 := v28
  let v174 : Index := Scalar.indexCast v29
  let c896 : Index := 896#32
  ![v174.toNat, 896]
def k0_off16 (k0_t1 : Fin k0_t1_loop.trips) : Fin 2 → Nat :=
  let c0_i32 : BitVec 32 := 0#32
  let c1_i32 : BitVec 32 := 1#32
  let arg11 : BitVec 32 := Scf.iv c0_i32 c1_i32 k0_t1
  let c64_i32_18 : BitVec 32 := 64#32
  let v28 : BitVec 32 := Scalar.muli arg11 c64_i32_18
  let v29 : BitVec 32 := v28
  let v182 : Index := Scalar.indexCast v29
  let c896_89 : Index := 896#32
  ![v182.toNat, 896]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c1_i32_0 : BitVec 32 := 1#32
  let c0_i32_1 : BitVec 32 := 0#32
  ![v3.toNat, c1_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S16x64x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S32768x1024 : Shape := ⟨2, ![32768, 1024]⟩
abbrev S32768x2048 : Shape := ⟨2, ![32768, 2048]⟩
abbrev S1x16x320 : Shape := ⟨3, ![1, 16, 320]⟩
abbrev S4x8192x16x64 : Shape := ⟨4, ![4, 8192, 16, 64]⟩
abbrev S4x16x8192x64 : Shape := ⟨4, ![4, 16, 8192, 64]⟩
abbrev S4x128x64x16x64 : Shape := ⟨5, ![4, 128, 64, 16, 64]⟩
abbrev S128x4x16x64x64 : Shape := ⟨5, ![128, 4, 16, 64, 64]⟩
abbrev S_ : Shape := ⟨0, ![]⟩
abbrev S4x16x8704x64 : Shape := ⟨4, ![4, 16, 8704, 64]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S16x320 : Shape := ⟨2, ![16, 320]⟩
abbrev S64x576x1 : Shape := ⟨3, ![64, 576, 1]⟩
abbrev S16x64x576 : Shape := ⟨3, ![16, 64, 576]⟩
abbrev S128 : Shape := ⟨1, ![128]⟩
abbrev S128x1 : Shape := ⟨2, ![128, 1]⟩
abbrev S128x576 : Shape := ⟨2, ![128, 576]⟩
abbrev S128x576x1 : Shape := ⟨3, ![128, 576, 1]⟩
abbrev S4x16x128x576x64 : Shape := ⟨5, ![4, 16, 128, 576, 64]⟩
abbrev S128x4x16x64x576 : Shape := ⟨5, ![128, 4, 16, 64, 576]⟩
abbrev S1x1x16x64x576 : Shape := ⟨5, ![1, 1, 16, 64, 576]⟩
abbrev S128x1x1x1x576 : Shape := ⟨5, ![128, 1, 1, 1, 576]⟩
abbrev S128x4x16x64 : Shape := ⟨4, ![128, 4, 16, 64]⟩
abbrev S128x4x16x64x1 : Shape := ⟨5, ![128, 4, 16, 64, 1]⟩

abbrev nBuf : Space → Nat
  | .hbm => 114
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x2048, .bf16⟩
  | .hbm, ⟨2, _⟩ => ⟨S1x16x320, .f32⟩
  | .hbm, ⟨3, _⟩ => ⟨S32768x1024, .f32⟩
  | .hbm, ⟨4, _⟩ => ⟨S32768x2048, .f32⟩
  | .hbm, ⟨5, _⟩ => ⟨S32768x1024, .f32⟩
  | .hbm, ⟨6, _⟩ => ⟨S4x8192x16x64, .f32⟩
  | .hbm, ⟨7, _⟩ => ⟨S4x16x8192x64, .f32⟩
  | .hbm, ⟨8, _⟩ => ⟨S32768x1024, .f32⟩
  | .hbm, ⟨9, _⟩ => ⟨S4x8192x16x64, .f32⟩
  | .hbm, ⟨10, _⟩ => ⟨S4x16x8192x64, .f32⟩
  | .hbm, ⟨11, _⟩ => ⟨S4x128x64x16x64, .f32⟩
  | .hbm, ⟨12, _⟩ => ⟨S128x4x16x64x64, .f32⟩
  | .hbm, ⟨13, _⟩ => ⟨S_, .f32⟩
  | .hbm, ⟨14, _⟩ => ⟨S128x4x16x64x64, .f32⟩
  | .hbm, ⟨15, _⟩ => ⟨S128x4x16x64x64, .f32⟩
  | .hbm, ⟨16, _⟩ => ⟨S_, .i32⟩
  | .hbm, ⟨17, _⟩ => ⟨S_, .f32⟩
  | .hbm, ⟨18, _⟩ => ⟨S4x16x8704x64, .f32⟩
  | .hbm, ⟨19, _⟩ => ⟨S_, .i32⟩
  | .hbm, ⟨20, _⟩ => ⟨S_, .f32⟩
  | .hbm, ⟨21, _⟩ => ⟨S4x16x8704x64, .f32⟩
  | .hbm, ⟨22, _⟩ => ⟨S64, .i32⟩
  | .hbm, ⟨23, _⟩ => ⟨S576, .i32⟩
  | .hbm, ⟨24, _⟩ => ⟨S64x1, .i32⟩
  | .hbm, ⟨25, _⟩ => ⟨S_, .i32⟩
  | .hbm, ⟨26, _⟩ => ⟨S64x1, .i32⟩
  | .hbm, ⟨27, _⟩ => ⟨S64x1, .i32⟩
  | .hbm, ⟨28, _⟩ => ⟨S1x576, .i32⟩
  | .hbm, ⟨29, _⟩ => ⟨S64x576, .i32⟩
  | .hbm, ⟨30, _⟩ => ⟨S64x576, .i32⟩
  | .hbm, ⟨31, _⟩ => ⟨S64x576, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S64x576, .i32⟩
  | .hbm, ⟨36, _⟩ => ⟨S64x576, .i32⟩
  | .hbm, ⟨37, _⟩ => ⟨S_, .i32⟩
  | .hbm, ⟨38, _⟩ => ⟨S64x576, .i32⟩
  | .hbm, ⟨39, _⟩ => ⟨S64x576, .i32⟩
  | .hbm, ⟨40, _⟩ => ⟨S_, .i32⟩
  | .hbm, ⟨41, _⟩ => ⟨S64x576, .i32⟩
  | .hbm, ⟨42, _⟩ => ⟨S64x576, .i32⟩
  | .hbm, ⟨43, _⟩ => ⟨S16x320, .f32⟩
  | .hbm, ⟨44, _⟩ => ⟨S_, .i32⟩
  | .hbm, ⟨45, _⟩ => ⟨S64x576, .i32⟩
  | .hbm, ⟨46, _⟩ => ⟨S64x576, .i1⟩
  | .hbm, ⟨47, _⟩ => ⟨S_, .i32⟩
  | .hbm, ⟨48, _⟩ => ⟨S64x576, .i32⟩
  | .hbm, ⟨49, _⟩ => ⟨S64x576, .i32⟩
  | .hbm, ⟨50, _⟩ => ⟨S64x576, .i32⟩
  | .hbm, ⟨51, _⟩ => ⟨S64x576x1, .i32⟩
  | .hbm, ⟨52, _⟩ => ⟨S16x64x576, .f32⟩
  | .hbm, ⟨53, _⟩ => ⟨S128, .i32⟩
  | .hbm, ⟨54, _⟩ => ⟨S128x1, .i32⟩
  | .hbm, ⟨55, _⟩ => ⟨S_, .i32⟩
  | .hbm, ⟨56, _⟩ => ⟨S128x1, .i32⟩
  | .hbm, ⟨57, _⟩ => ⟨S128x1, .i32⟩
  | .hbm, ⟨58, _⟩ => ⟨S1x576, .i32⟩
  | .hbm, ⟨59, _⟩ => ⟨S128x576, .i32⟩
  | .hbm, ⟨60, _⟩ => ⟨S128x576, .i32⟩
  | .hbm, ⟨61, _⟩ => ⟨S128x576, .i32⟩
  | .hbm, ⟨62, _⟩ => ⟨S_, .i32⟩
  | .hbm, ⟨63, _⟩ => ⟨S128x576, .i32⟩
  | .hbm, ⟨64, _⟩ => ⟨S128x576, .i1⟩
  | .hbm, ⟨65, _⟩ => ⟨S_, .i32⟩
  | .hbm, ⟨66, _⟩ => ⟨S128x576, .i32⟩
  | .hbm, ⟨67, _⟩ => ⟨S128x576, .i32⟩
  | .hbm, ⟨68, _⟩ => ⟨S128x576, .i32⟩
  | .hbm, ⟨69, _⟩ => ⟨S128x576x1, .i32⟩
  | .hbm, ⟨70, _⟩ => ⟨S4x16x128x576x64, .f32⟩
  | .hbm, ⟨71, _⟩ => ⟨S_, .i32⟩
  | .hbm, ⟨72, _⟩ => ⟨S128x576, .i32⟩
  | .hbm, ⟨73, _⟩ => ⟨S128x576, .i1⟩
  | .hbm, ⟨74, _⟩ => ⟨S_, .i32⟩
  | .hbm, ⟨75, _⟩ => ⟨S128x576, .i32⟩
  | .hbm, ⟨76, _⟩ => ⟨S128x576, .i32⟩
  | .hbm, ⟨77, _⟩ => ⟨S128x576, .i32⟩
  | .hbm, ⟨78, _⟩ => ⟨S128x576x1, .i32⟩
  | .hbm, ⟨79, _⟩ => ⟨S4x16x128x576x64, .f32⟩
  | .hbm, ⟨80, _⟩ => ⟨S128x4x16x64x576, .f32⟩
  | .hbm, ⟨81, _⟩ => ⟨S1x1x16x64x576, .f32⟩
  | .hbm, ⟨82, _⟩ => ⟨S128x4x16x64x576, .f32⟩
  | .hbm, ⟨83, _⟩ => ⟨S128x4x16x64x576, .f32⟩
  | .hbm, ⟨84, _⟩ => ⟨S_, .i32⟩
  | .hbm, ⟨85, _⟩ => ⟨S128x576, .i32⟩
  | .hbm, ⟨86, _⟩ => ⟨S128x576, .i32⟩
  | .hbm, ⟨87, _⟩ => ⟨S_, .i32⟩
  | .hbm, ⟨88, _⟩ => ⟨S128x576, .i32⟩
  | .hbm, ⟨89, _⟩ => ⟨S128x576, .i1⟩
  | .hbm, ⟨90, _⟩ => ⟨S128x1x1x1x576, .i1⟩
  | .hbm, ⟨91, _⟩ => ⟨S_, .f32⟩
  | .hbm, ⟨92, _⟩ => ⟨S_, .f32⟩
  | .hbm, ⟨93, _⟩ => ⟨S128x4x16x64x576, .i1⟩
  | .hbm, ⟨94, _⟩ => ⟨S128x4x16x64x576, .f32⟩
  | .hbm, ⟨95, _⟩ => ⟨S128x4x16x64x576, .f32⟩
  | .hbm, ⟨96, _⟩ => ⟨S_, .f32⟩
  | .hbm, ⟨97, _⟩ => ⟨S128x4x16x64, .f32⟩
  | .hbm, ⟨98, _⟩ => ⟨S_, .f32⟩
  | .hbm, ⟨99, _⟩ => ⟨S128x4x16x64, .f32⟩
  | .hbm, ⟨100, _⟩ => ⟨S128x4x16x64, .f32⟩
  | .hbm, ⟨101, _⟩ => ⟨S128x4x16x64x1, .f32⟩
  | .hbm, ⟨102, _⟩ => ⟨S128x4x16x64x576, .f32⟩
  | .hbm, ⟨103, _⟩ => ⟨S128x4x16x64x576, .f32⟩
  | .hbm, ⟨104, _⟩ => ⟨S128x4x16x64x576, .f32⟩
  | .hbm, ⟨105, _⟩ => ⟨S_, .f32⟩
  | .hbm, ⟨106, _⟩ => ⟨S128x4x16x64, .f32⟩
  | .hbm, ⟨107, _⟩ => ⟨S128x4x16x64x1, .f32⟩
  | .hbm, ⟨108, _⟩ => ⟨S128x4x16x64x576, .f32⟩
  | .hbm, ⟨109, _⟩ => ⟨S128x4x16x64x576, .f32⟩
  | .hbm, ⟨110, _⟩ => ⟨S128x4x16x64x64, .f32⟩
  | .hbm, ⟨111, _⟩ => ⟨S4x128x64x16x64, .f32⟩
  | .hbm, ⟨112, _⟩ => ⟨S32768x1024, .f32⟩
  | .hbm, ⟨113, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_v12 : Ref sig .tc := ⟨.hbm, 18, rfl⟩
abbrev main_c_0 : Ref sig .tc := ⟨.hbm, 19, rfl⟩
abbrev main_call1_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_c_3 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_8 : Ref sig .tc := ⟨.hbm, 62, rfl⟩
abbrev main_v42 : Ref sig .tc := ⟨.hbm, 63, rfl⟩
abbrev main_v43 : Ref sig .tc := ⟨.hbm, 64, rfl⟩
abbrev main_c_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_14 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v65 : Ref sig .tc := ⟨.hbm, 95, rfl⟩
abbrev main_cst_15 : Ref sig .tc := ⟨.hbm, 96, rfl⟩
abbrev main_v66 : Ref sig .tc := ⟨.hbm, 97, rfl⟩
abbrev main_cst_16 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_17 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]
-- ==== Kernel2.lean ====
abbrev S327680x1024 : Shape := ⟨2, ![327680, 1024]⟩
abbrev S256 : Shape := ⟨1, ![256]⟩
abbrev S2x256x1024x512 : Shape := ⟨4, ![2, 256, 1024, 512]⟩
abbrev S2x256x256x1024 : Shape := ⟨4, ![2, 256, 256, 1024]⟩
abbrev S_ : Shape := ⟨0, ![]⟩
abbrev S1 : Shape := ⟨1, ![1]⟩
abbrev S1280 : Shape := ⟨1, ![1280]⟩
abbrev S1x256 : Shape := ⟨2, ![1, 256]⟩
abbrev S1280x1 : Shape := ⟨2, ![1280, 1]⟩
abbrev S1280x256 : Shape := ⟨2, ![1280, 256]⟩
abbrev S256x1024 : Shape := ⟨2, ![256, 1024]⟩
abbrev S1x1x1024x512 : Shape := ⟨4, ![1, 1, 1024, 512]⟩
abbrev S1x1x256x1024 : Shape := ⟨4, ![1, 1, 256, 1024]⟩
abbrev S1024x512 : Shape := ⟨2, ![1024, 512]⟩
abbrev S256x512 : Shape := ⟨2, ![256, 512]⟩
abbrev S256x256 : Shape := ⟨2, ![256, 256]⟩

abbrev nBuf : Space → Nat
  | .hbm => 71
  | .vmem => 8
  | .smem => 2
  | _ => 0

abbrev bufTy : (tb : Table) → Fin (tcTables nBuf tb) → BufTy
  | .hbm, ⟨0, _⟩ => ⟨S327680x1024, .f32⟩
  | .hbm, ⟨1, _⟩ => ⟨S256, .i32⟩
  | .hbm, ⟨2, _⟩ => ⟨S2x256x1024x512, .f32⟩
  | .hbm, ⟨3, _⟩ => ⟨S2x256x256x1024, .f32⟩
  | .hbm, ⟨4, _⟩ => ⟨S_, .i32⟩
  | .hbm, ⟨5, _⟩ => ⟨S256, .i32⟩
  | .hbm, ⟨6, _⟩ => ⟨S256, .i32⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S_, .i32⟩
  | .hbm, ⟨11, _⟩ => ⟨S_, .i32⟩
  | .hbm, ⟨12, _⟩ => ⟨S256, .i32⟩
  | .hbm, ⟨13, _⟩ => ⟨S256, .i32⟩
  | .hbm, ⟨14, _⟩ => ⟨S256, .i32⟩
  | .hbm, ⟨15, _⟩ => ⟨S_, .i32⟩
  | .hbm, ⟨16, _⟩ => ⟨S256, .i32⟩
  | .hbm, ⟨17, _⟩ => ⟨S256, .i1⟩
  | .hbm, ⟨18, _⟩ => ⟨S256, .i32⟩
  | .hbm, ⟨19, _⟩ => ⟨S256, .i32⟩
  | .hbm, ⟨20, _⟩ => ⟨S_, .i32⟩
  | .hbm, ⟨21, _⟩ => ⟨S256, .i32⟩
  | .hbm, ⟨22, _⟩ => ⟨S256, .i1⟩
  | .hbm, ⟨23, _⟩ => ⟨S256, .i1⟩
  | .hbm, ⟨24, _⟩ => ⟨S_, .i32⟩
  | .hbm, ⟨25, _⟩ => ⟨S256, .i32⟩
  | .hbm, ⟨26, _⟩ => ⟨S256, .i32⟩
  | .hbm, ⟨27, _⟩ => ⟨S256, .i32⟩
  | .hbm, ⟨28, _⟩ => ⟨S_, .i32⟩
  | .hbm, ⟨29, _⟩ => ⟨S256, .i32⟩
  | .hbm, ⟨30, _⟩ => ⟨S256, .i32⟩
  | .hbm, ⟨31, _⟩ => ⟨S_, .i32⟩
  | .hbm, ⟨32, _⟩ => ⟨S_, .i32⟩
  | .hbm, ⟨33, _⟩ => ⟨S256, .i32⟩
  | .hbm, ⟨34, _⟩ => ⟨S256, .i32⟩
  | .hbm, ⟨35, _⟩ => ⟨S1, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1280, .i32⟩
  | .hbm, ⟨51, _⟩ => ⟨S_, .i32⟩
  | .hbm, ⟨52, _⟩ => ⟨S1280, .i32⟩
  | .hbm, ⟨53, _⟩ => ⟨S1280, .i32⟩
  | .hbm, ⟨54, _⟩ => ⟨S1, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1280, .i32⟩
  | .hbm, ⟨59, _⟩ => ⟨S1280, .i32⟩
  | .hbm, ⟨60, _⟩ => ⟨S1x256, .i32⟩
  | .hbm, ⟨61, _⟩ => ⟨S1280x1, .i32⟩
  | .hbm, ⟨62, _⟩ => ⟨S1280x256, .i32⟩
  | .hbm, ⟨63, _⟩ => ⟨S1280x256, .i32⟩
  | .hbm, ⟨64, _⟩ => ⟨S1280x256, .i1⟩
  | .hbm, ⟨65, _⟩ => ⟨S1280x256, .i32⟩
  | .hbm, ⟨66, _⟩ => ⟨S_, .i32⟩
  | .hbm, ⟨67, _⟩ => ⟨S1280, .i32⟩
  | .hbm, ⟨68, _⟩ => ⟨S_, .i32⟩
  | .hbm, ⟨69, _⟩ => ⟨S1280, .i32⟩
  | .hbm, ⟨70, _⟩ => ⟨S327680x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x256x1024, .f32⟩
  | .local _ .vmem, ⟨5, _⟩ => ⟨S1x1x256x1024, .f32⟩
  | .local _ .vmem, ⟨6, _⟩ => ⟨S256x1024, .f32⟩
  | .local _ .vmem, ⟨7, _⟩ => ⟨S256x1024, .f32⟩
  | .local _ .smem, ⟨0, _⟩ => ⟨S1280, .i32⟩
  | .local _ .smem, ⟨1, _⟩ => ⟨S1, .i32⟩
  | _, _ => ⟨S327680x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_2 : Ref sig .tc := ⟨.hbm, 28, rfl⟩
abbrev main_v5 : Ref sig .tc := ⟨.hbm, 29, rfl⟩
abbrev main_v6 : Ref sig .tc := ⟨.hbm, 30, rfl⟩
abbrev main_call1_call0_c : Ref sig .tc := ⟨.hbm, 31, rfl⟩
abbrev main_call1_call0_v0 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_c_3 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_c : Ref sig .tc := ⟨.hbm, 44, rfl⟩
abbrev main_call2_v6 : Ref sig .tc := ⟨.hbm, 45, rfl⟩
abbrev main_call2_v7 : Ref sig .tc := ⟨.hbm, 46, rfl⟩
abbrev main_call2_c_0 : Ref sig .tc := ⟨.hbm, 47, rfl⟩
abbrev main_call2_v8 : Ref sig .tc := ⟨.hbm, 48, rfl⟩
abbrev main_v11 : Ref sig .tc := ⟨.hbm, 49, rfl⟩
abbrev main_v12 : Ref sig .tc := ⟨.hbm, 50, rfl⟩
abbrev main_c_4 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_c_5 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_c_6 : Ref sig .tc := ⟨.hbm, 66, rfl⟩
abbrev main_v26 : Ref sig .tc := ⟨.hbm, 67, rfl⟩
abbrev main_c_7 : Ref sig .tc := ⟨.hbm, 68, rfl⟩
abbrev main_v27 : Ref sig .tc := ⟨.hbm, 69, rfl⟩
abbrev main_v30 : Ref sig .tc := ⟨.hbm, 70, rfl⟩
abbrev main_v28 : Ref sig .tc := ⟨.smem, 0, rfl⟩
abbrev main_v29 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![1280], ![false]⟩

abbrev pre0 : Pipeline.Prefetch sig := ⟨2, ![main_v28.idx, main_v29.idx], fun | 0 => main_v28.names | 1 => main_v29.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S1280.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S1280) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S1280.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S1280) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S327680x1024 : Shape := ⟨2, ![327680, 1024]⟩
abbrev S256 : Shape := ⟨1, ![256]⟩
abbrev S2x256x1024x512 : Shape := ⟨4, ![2, 256, 1024, 512]⟩
abbrev S2x256x256x1024 : Shape := ⟨4, ![2, 256, 256, 1024]⟩
abbrev S_ : Shape := ⟨0, ![]⟩
abbrev S327680 : Shape := ⟨1, ![327680]⟩
abbrev S1x256 : Shape := ⟨2, ![1, 256]⟩
abbrev S327680x1 : Shape := ⟨2, ![327680, 1]⟩
abbrev S327680x256 : Shape := ⟨2, ![327680, 256]⟩
abbrev S1x256x1024x512 : Shape := ⟨4, ![1, 256, 1024, 512]⟩
abbrev S256x1024x512 : Shape := ⟨3, ![256, 1024, 512]⟩
abbrev S327680x1024x512 : Shape := ⟨3, ![327680, 1024, 512]⟩
abbrev S327680x512 : Shape := ⟨2, ![327680, 512]⟩
abbrev S1x256x256x1024 : Shape := ⟨4, ![1, 256, 256, 1024]⟩
abbrev S256x256x1024 : Shape := ⟨3, ![256, 256, 1024]⟩
abbrev S327680x256x1024 : Shape := ⟨3, ![327680, 256, 1024]⟩
abbrev S1 : Shape := ⟨1, ![1]⟩

abbrev nBuf : Space → Nat
  | .hbm => 92
  | .vmem => 0
  | .smem => 0
  | _ => 0

abbrev bufTy : (tb : Table) → Fin (tcTables nBuf tb) → BufTy
  | .hbm, ⟨0, _⟩ => ⟨S327680x1024, .f32⟩
  | .hbm, ⟨1, _⟩ => ⟨S256, .i32⟩
  | .hbm, ⟨2, _⟩ => ⟨S2x256x1024x512, .f32⟩
  | .hbm, ⟨3, _⟩ => ⟨S2x256x256x1024, .f32⟩
  | .hbm, ⟨4, _⟩ => ⟨S_, .i32⟩
  | .hbm, ⟨5, _⟩ => ⟨S256, .i32⟩
  | .hbm, ⟨6, _⟩ => ⟨S256, .i32⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S_, .i32⟩
  | .hbm, ⟨11, _⟩ => ⟨S_, .i32⟩
  | .hbm, ⟨12, _⟩ => ⟨S256, .i32⟩
  | .hbm, ⟨13, _⟩ => ⟨S256, .i32⟩
  | .hbm, ⟨14, _⟩ => ⟨S256, .i32⟩
  | .hbm, ⟨15, _⟩ => ⟨S_, .i32⟩
  | .hbm, ⟨16, _⟩ => ⟨S256, .i32⟩
  | .hbm, ⟨17, _⟩ => ⟨S256, .i1⟩
  | .hbm, ⟨18, _⟩ => ⟨S256, .i32⟩
  | .hbm, ⟨19, _⟩ => ⟨S256, .i32⟩
  | .hbm, ⟨20, _⟩ => ⟨S_, .i32⟩
  | .hbm, ⟨21, _⟩ => ⟨S256, .i32⟩
  | .hbm, ⟨22, _⟩ => ⟨S256, .i1⟩
  | .hbm, ⟨23, _⟩ => ⟨S256, .i1⟩
  | .hbm, ⟨24, _⟩ => ⟨S_, .i32⟩
  | .hbm, ⟨25, _⟩ => ⟨S256, .i32⟩
  | .hbm, ⟨26, _⟩ => ⟨S256, .i32⟩
  | .hbm, ⟨27, _⟩ => ⟨S256, .i32⟩
  | .hbm, ⟨28, _⟩ => ⟨S_, .i32⟩
  | .hbm, ⟨29, _⟩ => ⟨S256, .i32⟩
  | .hbm, ⟨30, _⟩ => ⟨S256, .i32⟩
  | .hbm, ⟨31, _⟩ => ⟨S_, .i32⟩
  | .hbm, ⟨32, _⟩ => ⟨S_, .i32⟩
  | .hbm, ⟨33, _⟩ => ⟨S256, .i32⟩
  | .hbm, ⟨34, _⟩ => ⟨S327680, .i32⟩
  | .hbm, ⟨35, _⟩ => ⟨S1x256, .i32⟩
  | .hbm, ⟨36, _⟩ => ⟨S327680x1, .i32⟩
  | .hbm, ⟨37, _⟩ => ⟨S327680x256, .i32⟩
  | .hbm, ⟨38, _⟩ => ⟨S327680x256, .i32⟩
  | .hbm, ⟨39, _⟩ => ⟨S327680x256, .i1⟩
  | .hbm, ⟨40, _⟩ => ⟨S327680x256, .i32⟩
  | .hbm, ⟨41, _⟩ => ⟨S_, .i32⟩
  | .hbm, ⟨42, _⟩ => ⟨S327680, .i32⟩
  | .hbm, ⟨43, _⟩ => ⟨S_, .i32⟩
  | .hbm, ⟨44, _⟩ => ⟨S327680, .i32⟩
  | .hbm, ⟨45, _⟩ => ⟨S327680, .i32⟩
  | .hbm, ⟨46, _⟩ => ⟨S1x256x1024x512, .f32⟩
  | .hbm, ⟨47, _⟩ => ⟨S256x1024x512, .f32⟩
  | .hbm, ⟨48, _⟩ => ⟨S_, .i32⟩
  | .hbm, ⟨49, _⟩ => ⟨S327680, .i32⟩
  | .hbm, ⟨50, _⟩ => ⟨S327680, .i1⟩
  | .hbm, ⟨51, _⟩ => ⟨S_, .i32⟩
  | .hbm, ⟨52, _⟩ => ⟨S327680, .i32⟩
  | .hbm, ⟨53, _⟩ => ⟨S327680, .i32⟩
  | .hbm, ⟨54, _⟩ => ⟨S327680, .i32⟩
  | .hbm, ⟨55, _⟩ => ⟨S327680x1, .i32⟩
  | .hbm, ⟨56, _⟩ => ⟨S327680x1024x512, .f32⟩
  | .hbm, ⟨57, _⟩ => ⟨S327680x512, .f32⟩
  | .hbm, ⟨58, _⟩ => ⟨S327680x256, .f32⟩
  | .hbm, ⟨59, _⟩ => ⟨S327680x256, .f32⟩
  | .hbm, ⟨60, _⟩ => ⟨S327680x256, .f32⟩
  | .hbm, ⟨61, _⟩ => ⟨S_, .f32⟩
  | .hbm, ⟨62, _⟩ => ⟨S327680x256, .f32⟩
  | .hbm, ⟨63, _⟩ => ⟨S327680x256, .f32⟩
  | .hbm, ⟨64, _⟩ => ⟨S_, .f32⟩
  | .hbm, ⟨65, _⟩ => ⟨S327680x256, .f32⟩
  | .hbm, ⟨66, _⟩ => ⟨S327680x256, .f32⟩
  | .hbm, ⟨67, _⟩ => ⟨S327680x256, .f32⟩
  | .hbm, ⟨68, _⟩ => ⟨S327680x256, .f32⟩
  | .hbm, ⟨69, _⟩ => ⟨S327680x256, .f32⟩
  | .hbm, ⟨70, _⟩ => ⟨S1x256x256x1024, .f32⟩
  | .hbm, ⟨71, _⟩ => ⟨S256x256x1024, .f32⟩
  | .hbm, ⟨72, _⟩ => ⟨S_, .i32⟩
  | .hbm, ⟨73, _⟩ => ⟨S327680, .i32⟩
  | .hbm, ⟨74, _⟩ => ⟨S327680, .i1⟩
  | .hbm, ⟨75, _⟩ => ⟨S_, .i32⟩
  | .hbm, ⟨76, _⟩ => ⟨S327680, .i32⟩
  | .hbm, ⟨77, _⟩ => ⟨S327680, .i32⟩
  | .hbm, ⟨78, _⟩ => ⟨S327680, .i32⟩
  | .hbm, ⟨79, _⟩ => ⟨S327680x1, .i32⟩
  | .hbm, ⟨80, _⟩ => ⟨S327680x256x1024, .f32⟩
  | .hbm, ⟨81, _⟩ => ⟨S327680x1024, .f32⟩
  | .hbm, ⟨82, _⟩ => ⟨S1, .i32⟩
  | .hbm, ⟨83, _⟩ => ⟨S_, .i32⟩
  | .hbm, ⟨84, _⟩ => ⟨S327680, .i32⟩
  | .hbm, ⟨85, _⟩ => ⟨S327680, .i1⟩
  | .hbm, ⟨86, _⟩ => ⟨S327680x1, .i1⟩
  | .hbm, ⟨87, _⟩ => ⟨S_, .f32⟩
  | .hbm, ⟨88, _⟩ => ⟨S_, .f32⟩
  | .hbm, ⟨89, _⟩ => ⟨S327680x1024, .i1⟩
  | .hbm, ⟨90, _⟩ => ⟨S327680x1024, .f32⟩
  | .hbm, ⟨91, _⟩ => ⟨S327680x1024, .f32⟩
  | _, _ => ⟨S327680x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_2 : Ref sig .tc := ⟨.hbm, 28, rfl⟩
abbrev main_v5 : Ref sig .tc := ⟨.hbm, 29, rfl⟩
abbrev main_v6 : Ref sig .tc := ⟨.hbm, 30, rfl⟩
abbrev main_call1_call0_c : Ref sig .tc := ⟨.hbm, 31, rfl⟩
abbrev main_call1_call0_v0 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_c_3 : Ref sig .tc := ⟨.hbm, 41, rfl⟩
abbrev main_v15 : Ref sig .tc := ⟨.hbm, 42, rfl⟩
abbrev main_c_4 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c_5 : Ref sig .tc := ⟨.hbm, 48, rfl⟩
abbrev main_v20 : Ref sig .tc := ⟨.hbm, 49, rfl⟩
abbrev main_v21 : Ref sig .tc := ⟨.hbm, 50, rfl⟩
abbrev main_c_6 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_call2_v0 : Ref sig .tc := ⟨.hbm, 59, rfl⟩
abbrev main_call2_v1 : Ref sig .tc := ⟨.hbm, 60, rfl⟩
abbrev main_call2_cst : Ref sig .tc := ⟨.hbm, 61, rfl⟩
abbrev main_call2_v2 : Ref sig .tc := ⟨.hbm, 62, rfl⟩
abbrev main_call2_v3 : Ref sig .tc := ⟨.hbm, 63, rfl⟩
abbrev main_call2_cst_0 : Ref sig .tc := ⟨.hbm, 64, rfl⟩
abbrev main_call2_v4 : Ref sig .tc := ⟨.hbm, 65, rfl⟩
abbrev main_call2_v5 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_c_7 : Ref sig .tc := ⟨.hbm, 72, rfl⟩
abbrev main_v34 : Ref sig .tc := ⟨.hbm, 73, rfl⟩
abbrev main_v35 : Ref sig .tc := ⟨.hbm, 74, rfl⟩
abbrev main_c_8 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v47 : Ref sig .tc := ⟨.hbm, 91, rfl⟩

abbrev nD : Nat := 1
abbrev τ : Topo := Topo.v7x

variable {F : FTy → Type} [FloatOps F]
-- ==== Kernel3.lean ====
abbrev S4x8192x1024 : Shape := ⟨3, ![4, 8192, 1024]⟩
abbrev S1x1024x4112 : Shape := ⟨3, ![1, 1024, 4112]⟩
abbrev S32768x1024 : Shape := ⟨2, ![32768, 1024]⟩
abbrev S1024x4112 : Shape := ⟨2, ![1024, 4112]⟩
abbrev S1024x4096 : Shape := ⟨2, ![1024, 4096]⟩
abbrev S32768x4096 : Shape := ⟨2, ![32768, 4096]⟩
abbrev S512x1024 : Shape := ⟨2, ![512, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S1x1024x4112, .f32⟩
  | .hbm, ⟨2, _⟩ => ⟨S32768x1024, .f32⟩
  | .hbm, ⟨3, _⟩ => ⟨S32768x1024, .bf16⟩
  | .hbm, ⟨4, _⟩ => ⟨S1024x4112, .f32⟩
  | .hbm, ⟨5, _⟩ => ⟨S1024x4096, .f32⟩
  | .hbm, ⟨6, _⟩ => ⟨S1024x4096, .bf16⟩
  | .hbm, ⟨7, _⟩ => ⟨S32768x4096, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4x8192x1024 : Shape := ⟨3, ![4, 8192, 1024]⟩
abbrev S1x1024x4112 : Shape := ⟨3, ![1, 1024, 4112]⟩
abbrev S1024x4112 : Shape := ⟨2, ![1024, 4112]⟩
abbrev S4x8192x4112 : Shape := ⟨3, ![4, 8192, 4112]⟩
abbrev S4x8192x4096 : Shape := ⟨3, ![4, 8192, 4096]⟩
abbrev S32768x4096 : Shape := ⟨2, ![32768, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024x4112, .f32⟩
  | .hbm, ⟨2, _⟩ => ⟨S1024x4112, .f32⟩
  | .hbm, ⟨3, _⟩ => ⟨S4x8192x4112, .f32⟩
  | .hbm, ⟨4, _⟩ => ⟨S4x8192x4096, .f32⟩
  | .hbm, ⟨5, _⟩ => ⟨S32768x4096, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S32768x1024 : Shape := ⟨2, ![32768, 1024]⟩
abbrev S1024x2048 : Shape := ⟨2, ![1024, 2048]⟩
abbrev S32768x2048 : Shape := ⟨2, ![32768, 2048]⟩
abbrev S512x1024 : Shape := ⟨2, ![512, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S32768x1024, .bf16⟩
  | .hbm, ⟨1, _⟩ => ⟨S1024x2048, .f32⟩
  | .hbm, ⟨2, _⟩ => ⟨S1024x2048, .bf16⟩
  | .hbm, ⟨3, _⟩ => ⟨S32768x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S32768x1024 : Shape := ⟨2, ![32768, 1024]⟩
abbrev S1024x2048 : Shape := ⟨2, ![1024, 2048]⟩
abbrev S32768x2048 : Shape := ⟨2, ![32768, 2048]⟩

abbrev nBuf : Space → Nat
  | .hbm => 5
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x2048, .f32⟩
  | .hbm, ⟨2, _⟩ => ⟨S32768x1024, .f32⟩
  | .hbm, ⟨3, _⟩ => ⟨S32768x2048, .f32⟩
  | .hbm, ⟨4, _⟩ => ⟨S32768x2048, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S32768x1024 : Shape := ⟨2, ![32768, 1024]⟩
abbrev S1x1024x1024 : Shape := ⟨3, ![1, 1024, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S32768x1024, .bf16⟩
  | .hbm, ⟨1, _⟩ => ⟨S1x1024x1024, .f32⟩
  | .hbm, ⟨2, _⟩ => ⟨S1024x1024, .f32⟩
  | .hbm, ⟨3, _⟩ => ⟨S1024x1024, .bf16⟩
  | .hbm, ⟨4, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S32768x1024 : Shape := ⟨2, ![32768, 1024]⟩
abbrev S1x1024x1024 : Shape := ⟨3, ![1, 1024, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1x1024x1024, .f32⟩
  | .hbm, ⟨2, _⟩ => ⟨S32768x1024, .f32⟩
  | .hbm, ⟨3, _⟩ => ⟨S1024x1024, .f32⟩
  | .hbm, ⟨4, _⟩ => ⟨S32768x1024, .f32⟩
  | .hbm, ⟨5, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S32768x1024 : Shape := ⟨2, ![32768, 1024]⟩
abbrev S1x1024x1024 : Shape := ⟨3, ![1, 1024, 1024]⟩
abbrev S2x1024 : Shape := ⟨2, ![2, 1024]⟩
abbrev S1024x1024 : Shape := ⟨2, ![1024, 1024]⟩
abbrev S1x1024 : Shape := ⟨2, ![1, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 11
  | .smem => 0
  | _ => 0

abbrev bufTy : (tb : Table) → Fin (tcTables nBuf tb) → BufTy
  | .hbm, ⟨0, _⟩ => ⟨S32768x1024, .bf16⟩
  | .hbm, ⟨1, _⟩ => ⟨S1x1024x1024, .f32⟩
  | .hbm, ⟨2, _⟩ => ⟨S32768x1024, .f32⟩
  | .hbm, ⟨3, _⟩ => ⟨S2x1024, .f32⟩
  | .hbm, ⟨4, _⟩ => ⟨S2x1024, .f32⟩
  | .hbm, ⟨5, _⟩ => ⟨S1024x1024, .f32⟩
  | .hbm, ⟨6, _⟩ => ⟨S1024x1024, .bf16⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S32768x1024, .f32⟩
  | .hbm, ⟨14, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S32768x1024 : Shape := ⟨2, ![32768, 1024]⟩
abbrev S1x1024x1024 : Shape := ⟨3, ![1, 1024, 1024]⟩
abbrev S2x1024 : Shape := ⟨2, ![2, 1024]⟩
abbrev S_ : Shape := ⟨0, ![]⟩
abbrev S1024x1024 : Shape := ⟨2, ![1024, 1024]⟩
abbrev S1x1024 : Shape := ⟨2, ![1, 1024]⟩
abbrev S1024 : Shape := ⟨1, ![1024]⟩
abbrev S32768 : Shape := ⟨1, ![32768]⟩
abbrev S32768x1 : Shape := ⟨2, ![32768, 1]⟩

abbrev nBuf : Space → Nat
  | .hbm => 45
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1x1024x1024, .f32⟩
  | .hbm, ⟨2, _⟩ => ⟨S32768x1024, .f32⟩
  | .hbm, ⟨3, _⟩ => ⟨S2x1024, .f32⟩
  | .hbm, ⟨4, _⟩ => ⟨S2x1024, .f32⟩
  | .hbm, ⟨5, _⟩ => ⟨S_, .f32⟩
  | .hbm, ⟨6, _⟩ => ⟨S32768x1024, .f32⟩
  | .hbm, ⟨7, _⟩ => ⟨S32768x1024, .f32⟩
  | .hbm, ⟨8, _⟩ => ⟨S32768x1024, .f32⟩
  | .hbm, ⟨9, _⟩ => ⟨S1024x1024, .f32⟩
  | .hbm, ⟨10, _⟩ => ⟨S32768x1024, .f32⟩
  | .hbm, ⟨11, _⟩ => ⟨S32768x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S32768x1, .f32⟩
  | .hbm, ⟨37, _⟩ => ⟨S32768x1024, .f32⟩
  | .hbm, ⟨38, _⟩ => ⟨S32768x1024, .f32⟩
  | .hbm, ⟨39, _⟩ => ⟨S1x1024, .f32⟩
  | .hbm, ⟨40, _⟩ => ⟨S32768x1024, .f32⟩
  | .hbm, ⟨41, _⟩ => ⟨S32768x1024, .f32⟩
  | .hbm, ⟨42, _⟩ => ⟨S1x1024, .f32⟩
  | .hbm, ⟨43, _⟩ => ⟨S32768x1024, .f32⟩
  | .hbm, ⟨44, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel7.lean ====
abbrev S32768x1024 : Shape := ⟨2, ![32768, 1024]⟩
abbrev S1x1024x1024 : Shape := ⟨3, ![1, 1024, 1024]⟩
abbrev S2x1024 : Shape := ⟨2, ![2, 1024]⟩
abbrev S1024x1024 : Shape := ⟨2, ![1024, 1024]⟩
abbrev S1x1024 : Shape := ⟨2, ![1, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 11
  | .smem => 0
  | _ => 0

abbrev bufTy : (tb : Table) → Fin (tcTables nBuf tb) → BufTy
  | .hbm, ⟨0, _⟩ => ⟨S32768x1024, .bf16⟩
  | .hbm, ⟨1, _⟩ => ⟨S1x1024x1024, .f32⟩
  | .hbm, ⟨2, _⟩ => ⟨S32768x1024, .f32⟩
  | .hbm, ⟨3, _⟩ => ⟨S2x1024, .f32⟩
  | .hbm, ⟨4, _⟩ => ⟨S2x1024, .f32⟩
  | .hbm, ⟨5, _⟩ => ⟨S1024x1024, .f32⟩
  | .hbm, ⟨6, _⟩ => ⟨S1024x1024, .bf16⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S32768x1024, .f32⟩
  | .hbm, ⟨14, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S32768x1024 : Shape := ⟨2, ![32768, 1024]⟩
abbrev S1x1024x1024 : Shape := ⟨3, ![1, 1024, 1024]⟩
abbrev S2x1024 : Shape := ⟨2, ![2, 1024]⟩
abbrev S_ : Shape := ⟨0, ![]⟩
abbrev S1024x1024 : Shape := ⟨2, ![1024, 1024]⟩
abbrev S1x1024 : Shape := ⟨2, ![1, 1024]⟩
abbrev S1024 : Shape := ⟨1, ![1024]⟩
abbrev S32768 : Shape := ⟨1, ![32768]⟩
abbrev S32768x1 : Shape := ⟨2, ![32768, 1]⟩

abbrev nBuf : Space → Nat
  | .hbm => 45
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1x1024x1024, .f32⟩
  | .hbm, ⟨2, _⟩ => ⟨S32768x1024, .f32⟩
  | .hbm, ⟨3, _⟩ => ⟨S2x1024, .f32⟩
  | .hbm, ⟨4, _⟩ => ⟨S2x1024, .f32⟩
  | .hbm, ⟨5, _⟩ => ⟨S_, .f32⟩
  | .hbm, ⟨6, _⟩ => ⟨S32768x1024, .f32⟩
  | .hbm, ⟨7, _⟩ => ⟨S32768x1024, .f32⟩
  | .hbm, ⟨8, _⟩ => ⟨S32768x1024, .f32⟩
  | .hbm, ⟨9, _⟩ => ⟨S1024x1024, .f32⟩
  | .hbm, ⟨10, _⟩ => ⟨S32768x1024, .f32⟩
  | .hbm, ⟨11, _⟩ => ⟨S32768x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S32768x1, .f32⟩
  | .hbm, ⟨37, _⟩ => ⟨S32768x1024, .f32⟩
  | .hbm, ⟨38, _⟩ => ⟨S32768x1024, .f32⟩
  | .hbm, ⟨39, _⟩ => ⟨S1x1024, .f32⟩
  | .hbm, ⟨40, _⟩ => ⟨S32768x1024, .f32⟩
  | .hbm, ⟨41, _⟩ => ⟨S32768x1024, .f32⟩
  | .hbm, ⟨42, _⟩ => ⟨S1x1024, .f32⟩
  | .hbm, ⟨43, _⟩ => ⟨S32768x1024, .f32⟩
  | .hbm, ⟨44, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Proof.Pair.lean ====
module

public import proofs.«01_k».proof.Proof.Gen.KernelIdeal.Loops

/-! The kernel treats the sixteen heads two at a time, eight pairs per trip of its loop. This module names what one pair
writes, as ONE function of the tiles the pair loads, and says that a trip writes the eight values of that function. -/

@[expose] public section

set_option maxRecDepth 16384

noncomputable section

namespace Cert.KernelIdeal.Att

open Idealize.ShloMosaic Idealize.ShloMosaic.TcCoe Idealize.SL.Sem
open Cert.KernelIdeal Cert.KernelIdeal.Gen

variable {F : FTy → Type} [FloatOps F]

/-- The masked scores of a pair of heads: 64 query rows of the first head over 64 of the second, against 640 keys. -/
def pairScore (v25 : IVec S64x128 1) (valid : IVec S128x640 1) (q : Vec F S64x128 .bf16) (k : Vec F S640x128 .bf16)
    (b0 b1 : Vec F S1x64x640 .f32) : FVec F S128x640 .f32 :=
  k0_pay9 v25 valid (k0_pay6 q) (k0_pay7 (F := F)) (k0_pay8 v25 q) k b0 b1

/-- What a pair of heads writes: the softmax of the masked scores against the values, each head's 64 lanes side by side. -/
def pairOut (v25 : IVec S64x128 1) (valid : IVec S128x640 1) (q : Vec F S64x128 .bf16) (k : Vec F S640x128 .bf16)
    (b0 b1 : Vec F S1x64x640 .f32) (v : Vec F S640x128 .bf16) : FVec F S64x128 .bf16 :=
  k0_pay43 v25 (k0_pay19 (pairScore v25 valid q k b0 b1)) (k0_pay20 (pairScore v25 valid q k b0 b1)) v

/-- One trip of the loop writes eight tiles, the last pair's first in the list: each is `pairOut` of the tiles loaded. -/
theorem tripL_eq (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S16x64x640 .f32) (harg7 : arg7.IsWhole) (arg8 : Memref sig .tc .vmem S512x1024 .bf16) (harg8 : arg8.IsWhole) (arg9 : Memref sig .tc .vmem S1088x1024 .bf16) (harg9 : arg9.IsWhole) (arg10 : Memref sig .tc .vmem S1088x1024 .bf16) (harg10 : arg10.IsWhole) (arg1 : BitVec 32) (v25 : IVec S64x128 1) (v26 : IVec S128x640 32) (X_arg2 : BufTy.Contents (Elt F) arg2.view.ty) (X_arg7 : BufTy.Contents (Elt F) arg7.view.ty) (X_arg9 : BufTy.Contents (Elt F) arg9.view.ty) (X_arg10 : BufTy.Contents (Elt F) arg10.view.ty)
    (k : Fin k0_t1_loop.trips) :
    tripL_k0_t1 (F := F) 𝒱 c bd i arg2 harg2 arg3 harg3 arg4 harg4 arg5 harg5 arg6 harg6 arg7 harg7 arg8 harg8 arg9 harg9 arg10 harg10 arg1 v25 v26 0#32 X_arg2 X_arg7 X_arg9 X_arg10 k =
      [⟨Rect.unit (s := S512x1024) (k0_off15 k) S64x128.size (k0_off15_inb k), pairOut v25 (k0_pay4 arg1 v26 0#32 1#32 k)
        (arg2.view.readAt (Elt F) (Rect.unit (s := S512x1024) (k0_off15 k) S64x128.size (k0_off15_inb k)).toLoadRect X_arg2)
        (arg9.view.readAt (Elt F) (Rect.unit (s := S1088x1024) (k0_off16 k) S640x128.size (k0_off16_inb k)).toLoadRect X_arg9)
        (arg7.view.readAt (Elt F) (Rect.unit (s := S16x64x640) ![14, 0, 0] S1x64x640.size inb_S16x64x640_S1x64x640_14_0_0).toLoadRect X_arg7)
        (arg7.view.readAt (Elt F) (Rect.unit (s := S16x64x640) ![15, 0, 0] S1x64x640.size inb_S16x64x640_S1x64x640_15_0_0).toLoadRect X_arg7)
        (arg10.view.readAt (Elt F) (Rect.unit (s := S1088x1024) (k0_off16 k) S640x128.size (k0_off16_inb k)).toLoadRect X_arg10)⟩,
       ⟨Rect.unit (s := S512x1024) (k0_off13 k) S64x128.size (k0_off13_inb k), pairOut v25 (k0_pay4 arg1 v26 0#32 1#32 k)
        (arg2.view.readAt (Elt F) (Rect.unit (s := S512x1024) (k0_off13 k) S64x128.size (k0_off13_inb k)).toLoadRect X_arg2)
        (arg9.view.readAt (Elt F) (Rect.unit (s := S1088x1024) (k0_off14 k) S640x128.size (k0_off14_inb k)).toLoadRect X_arg9)
        (arg7.view.readAt (Elt F) (Rect.unit (s := S16x64x640) ![12, 0, 0] S1x64x640.size inb_S16x64x640_S1x64x640_12_0_0).toLoadRect X_arg7)
        (arg7.view.readAt (Elt F) (Rect.unit (s := S16x64x640) ![13, 0, 0] S1x64x640.size inb_S16x64x640_S1x64x640_13_0_0).toLoadRect X_arg7)
        (arg10.view.readAt (Elt F) (Rect.unit (s := S1088x1024) (k0_off14 k) S640x128.size (k0_off14_inb k)).toLoadRect X_arg10)⟩,
       ⟨Rect.unit (s := S512x1024) (k0_off11 k) S64x128.size (k0_off11_inb k), pairOut v25 (k0_pay4 arg1 v26 0#32 1#32 k)
        (arg2.view.readAt (Elt F) (Rect.unit (s := S512x1024) (k0_off11 k) S64x128.size (k0_off11_inb k)).toLoadRect X_arg2)
        (arg9.view.readAt (Elt F) (Rect.unit (s := S1088x1024) (k0_off12 k) S640x128.size (k0_off12_inb k)).toLoadRect X_arg9)
        (arg7.view.readAt (Elt F) (Rect.unit (s := S16x64x640) ![10, 0, 0] S1x64x640.size inb_S16x64x640_S1x64x640_10_0_0).toLoadRect X_arg7)
        (arg7.view.readAt (Elt F) (Rect.unit (s := S16x64x640) ![11, 0, 0] S1x64x640.size inb_S16x64x640_S1x64x640_11_0_0).toLoadRect X_arg7)
        (arg10.view.readAt (Elt F) (Rect.unit (s := S1088x1024) (k0_off12 k) S640x128.size (k0_off12_inb k)).toLoadRect X_arg10)⟩,
       ⟨Rect.unit (s := S512x1024) (k0_off9 k) S64x128.size (k0_off9_inb k), pairOut v25 (k0_pay4 arg1 v26 0#32 1#32 k)
        (arg2.view.readAt (Elt F) (Rect.unit (s := S512x1024) (k0_off9 k) S64x128.size (k0_off9_inb k)).toLoadRect X_arg2)
        (arg9.view.readAt (Elt F) (Rect.unit (s := S1088x1024) (k0_off10 k) S640x128.size (k0_off10_inb k)).toLoadRect X_arg9)
        (arg7.view.readAt (Elt F) (Rect.unit (s := S16x64x640) ![8, 0, 0] S1x64x640.size inb_S16x64x640_S1x64x640_8_0_0).toLoadRect X_arg7)
        (arg7.view.readAt (Elt F) (Rect.unit (s := S16x64x640) ![9, 0, 0] S1x64x640.size inb_S16x64x640_S1x64x640_9_0_0).toLoadRect X_arg7)
        (arg10.view.readAt (Elt F) (Rect.unit (s := S1088x1024) (k0_off10 k) S640x128.size (k0_off10_inb k)).toLoadRect X_arg10)⟩,
       ⟨Rect.unit (s := S512x1024) (k0_off7 k) S64x128.size (k0_off7_inb k), pairOut v25 (k0_pay4 arg1 v26 0#32 1#32 k)
        (arg2.view.readAt (Elt F) (Rect.unit (s := S512x1024) (k0_off7 k) S64x128.size (k0_off7_inb k)).toLoadRect X_arg2)
        (arg9.view.readAt (Elt F) (Rect.unit (s := S1088x1024) (k0_off8 k) S640x128.size (k0_off8_inb k)).toLoadRect X_arg9)
        (arg7.view.readAt (Elt F) (Rect.unit (s := S16x64x640) ![6, 0, 0] S1x64x640.size inb_S16x64x640_S1x64x640_6_0_0).toLoadRect X_arg7)
        (arg7.view.readAt (Elt F) (Rect.unit (s := S16x64x640) ![7, 0, 0] S1x64x640.size inb_S16x64x640_S1x64x640_7_0_0).toLoadRect X_arg7)
        (arg10.view.readAt (Elt F) (Rect.unit (s := S1088x1024) (k0_off8 k) S640x128.size (k0_off8_inb k)).toLoadRect X_arg10)⟩,
       ⟨Rect.unit (s := S512x1024) (k0_off5 k) S64x128.size (k0_off5_inb k), pairOut v25 (k0_pay4 arg1 v26 0#32 1#32 k)
        (arg2.view.readAt (Elt F) (Rect.unit (s := S512x1024) (k0_off5 k) S64x128.size (k0_off5_inb k)).toLoadRect X_arg2)
        (arg9.view.readAt (Elt F) (Rect.unit (s := S1088x1024) (k0_off6 k) S640x128.size (k0_off6_inb k)).toLoadRect X_arg9)
        (arg7.view.readAt (Elt F) (Rect.unit (s := S16x64x640) ![4, 0, 0] S1x64x640.size inb_S16x64x640_S1x64x640_4_0_0).toLoadRect X_arg7)
        (arg7.view.readAt (Elt F) (Rect.unit (s := S16x64x640) ![5, 0, 0] S1x64x640.size inb_S16x64x640_S1x64x640_5_0_0).toLoadRect X_arg7)
        (arg10.view.readAt (Elt F) (Rect.unit (s := S1088x1024) (k0_off6 k) S640x128.size (k0_off6_inb k)).toLoadRect X_arg10)⟩,
       ⟨Rect.unit (s := S512x1024) (k0_off3 k) S64x128.size (k0_off3_inb k), pairOut v25 (k0_pay4 arg1 v26 0#32 1#32 k)
        (arg2.view.readAt (Elt F) (Rect.unit (s := S512x1024) (k0_off3 k) S64x128.size (k0_off3_inb k)).toLoadRect X_arg2)
        (arg9.view.readAt (Elt F) (Rect.unit (s := S1088x1024) (k0_off4 k) S640x128.size (k0_off4_inb k)).toLoadRect X_arg9)
        (arg7.view.readAt (Elt F) (Rect.unit (s := S16x64x640) ![2, 0, 0] S1x64x640.size inb_S16x64x640_S1x64x640_2_0_0).toLoadRect X_arg7)
        (arg7.view.readAt (Elt F) (Rect.unit (s := S16x64x640) ![3, 0, 0] S1x64x640.size inb_S16x64x640_S1x64x640_3_0_0).toLoadRect X_arg7)
        (arg10.view.readAt (Elt F) (Rect.unit (s := S1088x1024) (k0_off4 k) S640x128.size (k0_off4_inb k)).toLoadRect X_arg10)⟩,
       ⟨Rect.unit (s := S512x1024) (k0_off1 k) S64x128.size (k0_off1_inb k), pairOut v25 (k0_pay4 arg1 v26 0#32 1#32 k)
        (arg2.view.readAt (Elt F) (Rect.unit (s := S512x1024) (k0_off1 k) S64x128.size (k0_off1_inb k)).toLoadRect X_arg2)
        (arg9.view.readAt (Elt F) (Rect.unit (s := S1088x1024) (k0_off2 k) S640x128.size (k0_off2_inb k)).toLoadRect X_arg9)
        (arg7.view.readAt (Elt F) (Rect.unit (s := S16x64x640) ![0, 0, 0] S1x64x640.size inb_S16x64x640_S1x64x640_0_0_0).toLoadRect X_arg7)
        (arg7.view.readAt (Elt F) (Rect.unit (s := S16x64x640) ![1, 0, 0] S1x64x640.size inb_S16x64x640_S1x64x640_1_0_0).toLoadRect X_arg7)
        (arg10.view.readAt (Elt F) (Rect.unit (s := S1088x1024) (k0_off2 k) S640x128.size (k0_off2_inb k)).toLoadRect X_arg10)⟩] := by
  unfold tripL_k0_t1 trip_k0_t1
  rfl

end Cert.KernelIdeal.Att
-- ==== Proof.Attention.lean ====
module

public import Idealize.ShloMosaic.Lib.Pointwise

@[expose] public section

open Idealize.ShloMosaic Idealize.SL.Sem

/-! Chunked attention as a formula over extended reals: the masked scores of a query row, its values, and the softmax
that mixes them, in the two orders of operations the kernel and the reference have. -/
namespace Cert.Att

/-- The scale of the queries, an eighth. -/
noncomputable def sc : EReal := Ideal.ofBits .f32 1040187392#32

/-- The score of band column `j` for row `r` of chunk `n` of batch `b`, head `h`. The band's column `j` is the key of
position `64 n + j - 512` of the batch; a column before the batch's first key is masked. -/
noncomputable def score (q : Fin 32768 → Fin 1024 → EReal) (kv : Fin 32768 → Fin 2048 → EReal) (bias : Fin 16 → Fin 320 → EReal)
    (n : Fin 128) (b : Fin 4) (h : Fin 16) (r : Fin 64) (j : Fin 576) : EReal :=
  if 512 ≤ n.val * 64 + j.val then
    (∑ d : Fin 64, q ⟨b.val * 8192 + n.val * 64 + r.val, by omega⟩ ⟨h.val * 64 + d.val, by omega⟩ * sc
        * kv ⟨b.val * 8192 + (n.val * 64 + j.val - 512), by omega⟩ ⟨h.val * 64 + d.val, by omega⟩)
      + bias h ⟨min (575 + r.val - j.val) 319, by omega⟩
  else ⊥

/-- The value of band column `j` at column `C` of the result; zero before the batch's first key. -/
noncomputable def val (kv : Fin 32768 → Fin 2048 → EReal) (n : Fin 128) (b : Fin 4) (C : Fin 1024) (j : Fin 576) : EReal :=
  if 512 ≤ n.val * 64 + j.val then
    kv ⟨b.val * 8192 + (n.val * 64 + j.val - 512), by omega⟩ ⟨1024 + C.val, by omega⟩
  else 0

section
variable {n : ℕ}

/-- The largest score of a row. -/
noncomputable def top (s : Fin n → EReal) : EReal := Finset.univ.fold max ⊥ s

/-- Softmax against the values, the division last. -/
noncomputable def att (s v : Fin n → EReal) : EReal :=
  Ideal.div (∑ x, Ideal.exp (s x - top s) * v x) (∑ x, Ideal.exp (s x - top s))

/-- Softmax against the values, each weight divided first. -/
noncomputable def attR (s v : Fin n → EReal) : EReal :=
  ∑ x, Ideal.div (Ideal.exp (s x - top s)) (∑ y, Ideal.exp (s y - top s)) * v x

theorem le_top (s : Fin n → EReal) (x : Fin n) : s x ≤ top s :=
  (Finset.le_fold_max _).2 (.inr ⟨x, Finset.mem_univ x, le_rfl⟩)

theorem top_le (s : Fin n → EReal) (c : EReal) (h : ∀ x, s x ≤ c) : top s ≤ c :=
  Finset.fold_max_le _ |>.2 ⟨bot_le, fun x _ => h x⟩

/-- A finite sum of reals, as an extended real. -/
theorem coe_sum {ι : Type} (S : Finset ι) (f : ι → ℝ) : ((∑ x ∈ S, f x : ℝ) : EReal) = ∑ x ∈ S, (f x : EReal) := by
  classical
  induction S using Finset.induction_on with
  | empty => simp
  | insert a S ha ih => rw [Finset.sum_insert ha, Finset.sum_insert ha, EReal.coe_add, ih]

/-- A factor that is a real and not negative goes inside a finite sum. -/
theorem mul_sum_coe {ι : Type} (S : Finset ι) (f : ι → EReal) (c : ℝ) (hc : 0 ≤ c) :
    (c : EReal) * ∑ x ∈ S, f x = ∑ x ∈ S, (c : EReal) * f x := by
  classical
  induction S using Finset.induction_on with
  | empty => simp
  | insert a S ha ih =>
    rw [Finset.sum_insert ha, Finset.sum_insert ha,
      EReal.left_distrib_of_nonneg_of_ne_top (EReal.coe_nonneg.2 hc) (EReal.coe_ne_top c), ih]

theorem exp_nonneg (x : EReal) : 0 ≤ Ideal.exp x := by
  induction x using EReal.rec with
  | bot => exact le_of_eq rfl
  | top => exact _root_.le_top
  | coe r => exact EReal.coe_nonneg.2 (Real.exp_pos r).le

/-- With finite scores, one of them not masked, the sum of the exponentials is a positive real. -/
theorem denom_pos (s : Fin n → EReal) (h : ∀ x, s x ≠ ⊤) (h' : ∃ x, s x ≠ ⊥) :
    ∃ d : ℝ, 0 < d ∧ ∑ x, Ideal.exp (s x - top s) = (d : EReal) := by
  have htop : top s ≠ ⊤ := by
    intro e
    have : top s < ⊤ := Finset.fold_max_lt _ |>.2 ⟨bot_lt_top, fun x _ => lt_top_iff_ne_top.2 (h x)⟩
    exact this.ne e
  obtain ⟨x₀, hx₀⟩ := h'
  have hbot : top s ≠ ⊥ := fun e => hx₀ (le_bot_iff.1 (e ▸ le_top s x₀))
  lift top s to ℝ using ⟨htop, hbot⟩ with M hM
  have key : ∀ x, ∃ e : ℝ, 0 ≤ e ∧ Ideal.exp (s x - (M : EReal)) = (e : EReal) ∧ (s x ≠ ⊥ → 0 < e) := by
    intro x
    by_cases hb : s x = ⊥
    · exact ⟨0, le_rfl, by rw [hb]; rfl, fun h => absurd hb h⟩
    · have hx := h x
      lift s x to ℝ using ⟨hx, hb⟩ with a
      exact ⟨Real.exp (a - M), (Real.exp_pos _).le, rfl, fun _ => Real.exp_pos _⟩
  choose e he₀ he he₁ using key
  refine ⟨∑ x, e x, ?_, ?_⟩
  · exact Finset.sum_pos' (fun x _ => he₀ x) ⟨x₀, Finset.mem_univ _, he₁ x₀ hx₀⟩
  · rw [Finset.sum_congr rfl fun x _ => he x]
    exact (coe_sum _ _).symm

/-- The two orders of operations agree where the scores are finite and one is not masked, whatever the values. -/
theorem att_eq_attR (s v : Fin n → EReal) (h : ∀ x, s x ≠ ⊤) (h' : ∃ x, s x ≠ ⊥) : att s v = attR s v := by
  obtain ⟨d, hd, e⟩ := denom_pos s h h'
  have hne : (d : EReal) ≠ 0 := by
    rw [← EReal.coe_zero]; exact fun h => hd.ne' (EReal.coe_injective h)
  unfold att attR
  rw [e]
  unfold Ideal.div
  simp only [if_neg hne]
  rw [← EReal.coe_inv]
  rw [mul_comm, mul_sum_coe _ _ _ (inv_nonneg.2 hd.le)]
  refine Finset.sum_congr rfl fun x _ => ?_
  rw [← mul_assoc, mul_comm ((d⁻¹ : ℝ) : EReal)]

end

/-- Leading masked columns, and the values of masked columns, do not matter. -/
theorem att_shift (s v : Fin 640 → EReal) (s' v' : Fin 576 → EReal) (h₀ : ∀ j : Fin 640, j.val < 64 → s j = ⊥)
    (h₁ : ∀ j : Fin 576, s ⟨64 + j.val, by omega⟩ = s' j) (h₂ : ∀ j : Fin 576, s' j = ⊥ ∨ v ⟨64 + j.val, by omega⟩ = v' j) :
    att s v = att s' v' := by
  have ht : top s = top s' := by
    refine le_antisymm (top_le _ _ fun x => ?_) (top_le _ _ fun x => ?_)
    · by_cases hx : x.val < 64
      · rw [h₀ x hx]; exact bot_le
      · have := h₁ ⟨x.val - 64, by omega⟩
        rw [show x = ⟨64 + (⟨x.val - 64, by omega⟩ : Fin 576).val, by simp only; omega⟩ from Fin.ext (by simp only; omega), this]
        exact le_top _ _
    · rw [← h₁ x]; exact le_top _ _
  have hbot : ∀ c : EReal, Ideal.exp (⊥ - c) = 0 := fun c => by
    rw [sub_eq_add_neg, EReal.bot_add]; rfl
  have hsum : ∀ f : Fin 640 → EReal, (∀ j : Fin 640, j.val < 64 → f j = 0) → ∑ x, f x = ∑ x : Fin 576, f ⟨64 + x.val, by omega⟩ := by
    intro f hf
    have := Fin.sum_univ_add (a := 64) (b := 576) f
    refine this.trans ?_
    rw [Finset.sum_eq_zero fun x _ => hf _ x.isLt, zero_add]
    rfl
  unfold att
  rw [hsum _ fun j hj => by rw [h₀ j hj, hbot, zero_mul], hsum (fun x => Ideal.exp (s x - top s)) fun j hj => by rw [h₀ j hj, hbot], ht]
  congr 1
  · refine Finset.sum_congr rfl fun x _ => ?_
    rw [h₁ x]
    rcases h₂ x with h | h
    · rw [h, hbot, zero_mul, zero_mul]
    · rw [h]
  · exact Finset.sum_congr rfl fun x _ => by rw [h₁ x]

end Cert.Att

end
-- ==== Proof.PairAt.lean ====
module

public import proofs.«01_k».proof.Proof.Pair
public import proofs.«01_k».proof.Proof.Attention
public import Idealize.ShloMosaic.Lib.Pointwise

@[expose] public section

open Idealize.ShloMosaic Idealize.ShloMosaic.TcCoe Idealize.SL.Sem
set_option maxRecDepth 16384

/-! What a pair of heads writes, at an index: the softmax formula on the tiles it loads. -/
namespace Cert.KernelIdeal.Att
open Cert.KernelIdeal Cert.KernelIdeal.Gen

theorem half_word : ∀ x : Fin 128, IntOp.cmpi .slt (BitVec.ofNat 32 x.val) 64#32 = if x.val < 64 then 1#1 else 0#1 := by decide +kernel

theorem negInf : Ideal.ofBits .f32 4286578688#32 = ⊥ := by
  simp [Ideal.ofBits, Ideal.ieee]

theorem eighth : Ideal.ofBits .bf16 15872#16 = Cert.Att.sc := by
  unfold Cert.Att.sc
  simp [Ideal.ofBits, Ideal.ieee]
  rw [← EReal.coe_mul, ← EReal.coe_mul]
  norm_num

/-- A sum over 128 lanes that is zero on the upper half. -/
theorem sum_lower (f : Fin 128 → EReal) (h : ∀ x : Fin 128, ¬ x.val < 64 → f x = 0) :
    ∑ x, f x = ∑ d : Fin 64, f ⟨d.val, by omega⟩ := by
  refine (Fin.sum_univ_add (a := 64) (b := 64) f).trans ?_
  rw [Finset.sum_eq_zero (s := Finset.univ) (f := fun i : Fin 64 => f (Fin.natAdd 64 i)) fun x _ => h _ (by show ¬ 64 + x.val < 64; omega), add_zero]
  rfl

/-- A sum over 128 lanes that is zero on the lower half. -/
theorem sum_upper (f : Fin 128 → EReal) (h : ∀ x : Fin 128, x.val < 64 → f x = 0) :
    ∑ x, f x = ∑ d : Fin 64, f ⟨64 + d.val, by omega⟩ := by
  refine (Fin.sum_univ_add (a := 64) (b := 64) f).trans ?_
  rw [Finset.sum_eq_zero fun x _ => h _ x.isLt, zero_add]
  rfl

variable (valid : IVec S128x640 1) (q : FVec Ideal S64x128 .bf16) (k : FVec Ideal S640x128 .bf16) (b0 b1 : FVec Ideal S1x64x640 .f32)
  (v : FVec Ideal S640x128 .bf16)

/-- The first head's scores. -/
theorem pairScore_lower (r : Fin 64) (j : Fin 640) :
    pairScore (F := Ideal) k0_pay55 valid q k b0 b1 (ix2 ⟨r.val, by omega⟩ j)
      = if valid (ix2 ⟨r.val, by omega⟩ j) = 1#1 then
          ((∑ d : Fin 64, q (ix2 r ⟨d.val, by omega⟩) * Cert.Att.sc * k (ix2 j ⟨d.val, by omega⟩) : EReal) + b0 (ix3 0 r j) : EReal)
        else (⊥ : EReal) := by
  pointwise [pairScore, k0_pay9, k0_pay8, k0_pay7, k0_pay6, k0_pay55]
  simp only [dif_pos r.isLt, half_word, eighth, negInf]
  unfold Scalar.select
  refine if_congr Iff.rfl ?_ rfl
  refine congrArg (· + (b0 (ix3 0 r j) : EReal)) ?_
  refine (sum_lower _ fun x hx => ?_).trans (Finset.sum_congr rfl fun d _ => ?_)
  · simp only [if_neg hx]
    simp
  · simp only [if_pos d.isLt]
    simp

/-- The second head's scores. -/
theorem pairScore_upper (r : Fin 64) (j : Fin 640) :
    pairScore (F := Ideal) k0_pay55 valid q k b0 b1 (ix2 ⟨64 + r.val, by omega⟩ j)
      = if valid (ix2 ⟨64 + r.val, by omega⟩ j) = 1#1 then
          ((∑ d : Fin 64, q (ix2 r ⟨64 + d.val, by omega⟩) * Cert.Att.sc * k (ix2 j ⟨64 + d.val, by omega⟩) : EReal) + b1 (ix3 0 r j) : EReal)
        else (⊥ : EReal) := by
  have hr : ¬ 64 + r.val < 64 := by omega
  have er : 64 + r.val - 64 = r.val := by omega
  pointwise [pairScore, k0_pay9, k0_pay8, k0_pay7, k0_pay6, k0_pay55]
  simp only [dif_neg hr, half_word, eighth, negInf, er]
  unfold Scalar.select
  refine if_congr Iff.rfl ?_ rfl
  refine congrArg (· + (b1 (ix3 0 r j) : EReal)) ?_
  refine (sum_upper _ fun x hx => ?_).trans (Finset.sum_congr rfl fun d _ => ?_)
  · simp only [if_pos hx]
    simp
  · simp only [if_neg (show ¬ 64 + d.val < 64 by omega)]
    simp

/-- The mix of a pair at an index: the row of the first head on the lower lanes, of the second on the upper. -/
theorem mix_at (s : FVec Ideal S128x640 .f32) (r : Fin 64) (l : Fin 128) :
    k0_pay43 (F := Ideal) k0_pay55 (k0_pay19 s) (k0_pay20 s) v (ix2 r l)
      = if l.val < 64 then Cert.Att.att (fun j : Fin 640 => s (ix2 ⟨r.val, by omega⟩ j)) (fun j => v (ix2 j l))
        else Cert.Att.att (fun j : Fin 640 => s (ix2 ⟨64 + r.val, by omega⟩ j)) (fun j => v (ix2 j l)) := by
  pointwise [k0_pay43, k0_pay19, k0_pay20, k0_pay18, k0_pay55]
  simp only [half_word, negInf]
  unfold Scalar.select
  by_cases h : l.val < 64
  · simp only [if_pos h]
    exact if_pos rfl
  · simp only [if_neg h]
    exact if_neg (by decide)

/-- What a pair writes at an index. -/
theorem pairOut_at (V : Fin 640 → Prop) [DecidablePred V] (hv : ∀ r j, valid (ix2 r j) = if V j then 1#1 else 0#1) (r : Fin 64) (l : Fin 128) :
    pairOut (F := Ideal) k0_pay55 valid q k b0 b1 v (ix2 r l)
      = Cert.Att.att
          (fun j : Fin 640 => if V j then
              ((∑ d : Fin 64, q (ix2 r ⟨l.val / 64 * 64 + d.val, by omega⟩) * Cert.Att.sc * k (ix2 j ⟨l.val / 64 * 64 + d.val, by omega⟩) : EReal)
                + (if l.val < 64 then b0 (ix3 0 r j) else b1 (ix3 0 r j)) : EReal)
            else (⊥ : EReal))
          (fun j => v (ix2 j l)) := by
  have hV : ∀ j r (a b : EReal), (if valid (ix2 r j) = 1#1 then a else b) = if V j then a else b := by
    intro j r a b
    rw [hv]
    by_cases h : V j
    · rw [if_pos h, if_pos h]; exact if_pos rfl
    · rw [if_neg h, if_neg h]; exact if_neg (by decide)
  unfold pairOut
  rw [mix_at]
  by_cases h : l.val < 64
  · have e : ∀ d : ℕ, l.val / 64 * 64 + d = d := by omega
    simp only [if_pos h, pairScore_lower, hV, e]
  · have e : ∀ d : ℕ, l.val / 64 * 64 + d = 64 + d := by omega
    simp only [if_neg h, pairScore_upper, hV, e]

end Cert.KernelIdeal.Att

end
-- ==== Proof.Block.lean ====
module

public import proofs.«01_k».proof.Proof.PairAt
public import proofs.«01_k».proof.Proof.Gen.KernelIdeal.Value
public import Idealize.ShloMosaic.Lib.WholeRead
public import Idealize.ShloMosaic.Lib.Pointwise

@[expose] public section

open Idealize.ShloMosaic Idealize.ShloMosaic.TcCoe Idealize.SL.Sem
set_option maxRecDepth 16384

/-! What one grid point leaves in its output block: the softmax formula on the blocks it reads. -/
namespace Cert.KernelIdeal.Att
open Cert.KernelIdeal Cert.KernelIdeal.Gen

/-- The rows of the strip of keys or values: 64 of zeros, the previous block's 512, the current block's 512. -/
noncomputable def strip (a b : FVec Ideal S512x1024 .bf16) (R : Fin 1088) (C : Fin 1024) : EReal :=
  if R.val < 64 then 0 else if R.val < 576 then a (ix2 ⟨(R.val - 64) % 512, by omega⟩ C) else b (ix2 ⟨(R.val - 576) % 512, by omega⟩ C)

/-- One entry of the output block. -/
noncomputable def entry (tix : ℕ) (x0 x1 x2 x3 x4 : FVec Ideal S512x1024 .bf16) (x5 : FVec Ideal S16x64x640 .f32) (R : Fin 512) (C : Fin 1024) : EReal :=
  Cert.Att.att
    (fun j : Fin 640 => if 64 ≤ j.val ∧ 576 ≤ tix * 512 + R.val / 64 * 64 + j.val then
        ((∑ d : Fin 64, x0 (ix2 R ⟨C.val / 64 * 64 + d.val, by omega⟩) * Cert.Att.sc
            * strip x1 x2 ⟨R.val / 64 * 64 + j.val, by omega⟩ ⟨C.val / 64 * 64 + d.val, by omega⟩ : EReal)
          + x5 (ix3 ⟨C.val / 64, by omega⟩ ⟨R.val % 64, by omega⟩ j) : EReal)
      else (⊥ : EReal))
    (fun j => strip x3 x4 ⟨R.val / 64 * 64 + j.val, by omega⟩ C)

/-- The output block. -/
noncomputable def blockOut (tix : ℕ) (x0 x1 x2 x3 x4 : FVec Ideal S512x1024 .bf16) (x5 : FVec Ideal S16x64x640 .f32) : S512x1024.Idx → EReal :=
  fun y => entry tix x0 x1 x2 x3 x4 x5 (y 0) (y 1)

section Rects
variable {n0 n1 m0 m1 : ℕ}

theorem unit_emb2 (o0 o1 : ℕ) (inb) (r : Fin m0) (c : Fin m1) (h0 : o0 + r.val < n0) (h1 : o1 + c.val < n1) :
    (Rect.unit (s := ⟨2, ![n0, n1]⟩) ![o0, o1] ![m0, m1] inb).emb (ix2 r c) = ix2 ⟨o0 + r.val, h0⟩ ⟨o1 + c.val, h1⟩ := by
  funext a
  refine Fin.ext ?_
  match a with
  | ⟨0, _⟩ => show o0 + 1 * r.val = _ + r.val; simp
  | ⟨1, _⟩ => show o1 + 1 * c.val = _ + c.val; simp

theorem unit_idx2 (o0 o1 : ℕ) (inb) (r : Fin m0) (c : Fin m1) (h0 : o0 + r.val < n0) (h1 : o1 + c.val < n1) :
    (Rect.unit (s := ⟨2, ![n0, n1]⟩) ![o0, o1] ![m0, m1] inb).toLoadRect.idx (ix2 r c) = ix2 ⟨o0 + r.val, h0⟩ ⟨o1 + c.val, h1⟩ :=
  unit_emb2 o0 o1 inb r c h0 h1

end Rects

theorem unit_idx3 (h : ℕ) (hh : h < 16) (inb) (r : Fin 64) (c : Fin 640) :
    (Rect.unit (s := S16x64x640) ![h, 0, 0] S1x64x640.size inb).toLoadRect.idx (ix3 0 r c) = ix3 ⟨h, hh⟩ r c := by
  funext a
  refine Fin.ext ?_
  match a with
  | ⟨0, _⟩ => rfl
  | ⟨1, _⟩ => show 0 + 1 * r.val = r.val; simp
  | ⟨2, _⟩ => show 0 + 1 * c.val = c.val; simp

/-- The strip of keys, written in three pieces. -/
theorem strip_canon (p53 p51 : FVec Ideal S512x1024 .bf16) (p49 : FVec Ideal S64x1024 .bf16) (a b : FVec Ideal S512x1024 .bf16)
    (h53 : ∀ r c, p53 (ix2 r c) = b (ix2 r c)) (h51 : ∀ r c, p51 (ix2 r c) = a (ix2 r c)) (h49 : ∀ r c, p49 (ix2 r c) = (0 : EReal))
    (R : Fin 1088) (C : Fin 1024) :
    (View.canon [⟨Rect.unit (s := S1088x1024) ![576, 0] S512x1024.size inb_S1088x1024_S512x1024_576_0, p53⟩,
      ⟨Rect.unit (s := S1088x1024) ![64, 0] S512x1024.size inb_S1088x1024_S512x1024_64_0, p51⟩,
      ⟨Rect.unit (s := S1088x1024) ![0, 0] S64x1024.size inb_S1088x1024_S64x1024_0_0, p49⟩] (ix2 R C) : Elt Ideal .bf16) = strip a b R C := by
  refine (View.canon_apply_of_pieces (Val := Elt Ideal) (e := .bf16) (fun y : S1088x1024.Idx => strip a b (y 0) (y 1)) _ ?_ (ix2 R C) ?_)
  · intro p hp x
    simp only [List.mem_cons, List.not_mem_nil, or_false] at hp
    rcases hp with rfl | rfl | rfl
    · obtain ⟨r, c, rfl⟩ : ∃ (r : Fin 512) (c : Fin 1024), x = ix2 r c := ⟨x 0, x 1, eq_ix2 x⟩
      refine (h53 r c).trans ?_
      simp only
      rw [unit_emb2 576 0 _ r c (by omega) (by omega)]
      show _ = strip a b ⟨576 + r.val, _⟩ ⟨0 + c.val, _⟩
      unfold strip
      rw [if_neg (by simp only; omega), if_neg (by simp only; omega)]
      congr 2
      · ext; simp only; omega
      · ext; simp only; omega
    · obtain ⟨r, c, rfl⟩ : ∃ (r : Fin 512) (c : Fin 1024), x = ix2 r c := ⟨x 0, x 1, eq_ix2 x⟩
      refine (h51 r c).trans ?_
      simp only
      rw [unit_emb2 64 0 _ r c (by omega) (by omega)]
      show _ = strip a b ⟨64 + r.val, _⟩ ⟨0 + c.val, _⟩
      unfold strip
      rw [if_neg (by simp only; omega), if_pos (by simp only; omega)]
      congr 2
      · ext; simp only; omega
      · ext; simp only; omega
    · obtain ⟨r, c, rfl⟩ : ∃ (r : Fin 64) (c : Fin 1024), x = ix2 r c := ⟨x 0, x 1, eq_ix2 x⟩
      refine (h49 r c).trans ?_
      simp only
      rw [unit_emb2 0 0 _ r c (by omega) (by omega)]
      show _ = strip a b ⟨0 + r.val, _⟩ ⟨0 + c.val, _⟩
      unfold strip
      rw [if_pos (by simp only; omega)]
  · by_cases h1 : R.val < 64
    · refine ⟨_, List.mem_cons_of_mem _ (List.mem_cons_of_mem _ List.mem_cons_self), ?_⟩
      refine (Rect.mem_set_unit (inb := inb_S1088x1024_S64x1024_0_0)).2 fun a => ?_
      match a with
      | ⟨0, _⟩ => exact ⟨Nat.zero_le _, by show R.val < 0 + 64; omega⟩
      | ⟨1, _⟩ => exact ⟨Nat.zero_le _, by show C.val < 0 + 1024; omega⟩
    by_cases h2 : R.val < 576
    · refine ⟨_, List.mem_cons_of_mem _ List.mem_cons_self, ?_⟩
      refine (Rect.mem_set_unit (inb := inb_S1088x1024_S512x1024_64_0)).2 fun a => ?_
      match a with
      | ⟨0, _⟩ => exact ⟨by show 64 ≤ R.val; omega, by show R.val < 64 + 512; omega⟩
      | ⟨1, _⟩ => exact ⟨Nat.zero_le _, by show C.val < 0 + 1024; omega⟩
    · refine ⟨_, List.mem_cons_self, ?_⟩
      refine (Rect.mem_set_unit (inb := inb_S1088x1024_S512x1024_576_0)).2 fun a => ?_
      match a with
      | ⟨0, _⟩ => exact ⟨by show 576 ≤ R.val; omega, by show R.val < 576 + 512; omega⟩
      | ⟨1, _⟩ => exact ⟨Nat.zero_le _, by show C.val < 0 + 1024; omega⟩

theorem col_word : ∀ j : Fin 640, IntOp.cmpi .sge (BitVec.ofNat 32 j.val) 64#32 = if 64 ≤ j.val then 1#1 else 0#1 := by decide +kernel

theorem start_word : ∀ x : Fin 8768, IntOp.cmpi .sge (BitVec.ofNat 32 x.val - 576#32) 0#32 = if 576 ≤ x.val then 1#1 else 0#1 := by decide +kernel

theorem iv_word : ∀ k : Fin k0_t1_loop.trips, k.val < 8 ∧ Scf.iv 0#32 1#32 k.val = BitVec.ofNat 32 k.val := by decide +kernel

theorem v26_at (r : Fin 128) (j : Fin 640) : kernelRun0_A.sl.v26 (ix2 r j) = BitVec.ofNat 32 j.val := by
  pointwise [kernelRun0_A.sl.v26]

/-- The mask of a trip. -/
theorem valid_at (t : Fin 16) (k : Fin k0_t1_loop.trips) (r : Fin 128) (j : Fin 640) :
    k0_pay4 (BitVec.ofNat 32 t.val) kernelRun0_A.sl.v26 0#32 1#32 k (ix2 r j)
      = if 64 ≤ j.val ∧ 576 ≤ t.val * 512 + k.val * 64 + j.val then 1#1 else 0#1 := by
  pointwise [k0_pay4]
  obtain ⟨hk, ek⟩ := iv_word k
  rw [v26_at, ek, col_word]
  have e : IntOp.addi (Scalar.addi (Scalar.subi (Scalar.muli (BitVec.ofNat 32 t.val) 512#32) 576#32) (Scalar.muli (BitVec.ofNat 32 k.val) 64#32)) (BitVec.ofNat 32 j.val)
      = BitVec.ofNat 32 (t.val * 512 + k.val * 64 + j.val) - 576#32 := by
    show BitVec.ofNat 32 t.val * 512#32 - 576#32 + BitVec.ofNat 32 k.val * 64#32 + BitVec.ofNat 32 j.val = _
    apply BitVec.eq_of_toNat_eq
    simp only [BitVec.toNat_sub, BitVec.toNat_add, BitVec.toNat_mul, BitVec.toNat_ofNat]
    omega
  have w := start_word ⟨t.val * 512 + k.val * 64 + j.val, by omega⟩
  simp only at w
  rw [e, w]
  by_cases h1 : 64 ≤ j.val <;> by_cases h2 : 576 ≤ t.val * 512 + k.val * 64 + j.val <;> simp only [h1, h2, if_true, if_false, and_self, and_true, and_false, false_and, true_and] <;> rfl

section Pieces
variable (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S16x64x640 .f32) (harg7 : arg7.IsWhole) (arg8 : Memref sig .tc .vmem S512x1024 .bf16) (harg8 : arg8.IsWhole) (arg9 : Memref sig .tc .vmem S1088x1024 .bf16) (harg9 : arg9.IsWhole) (arg10 : Memref sig .tc .vmem S1088x1024 .bf16) (harg10 : arg10.IsWhole)
  (x0 x1 x2 x3 x4 : FVec Ideal S512x1024 .bf16) (x5 : FVec Ideal S16x64x640 .f32)

/-- What a pair writes is its tile of the output block. -/
theorem pair_block (t : Fin 16) (kt : Fin k0_t1_loop.trips) (hp : ℕ) (hhp : hp < 8) (off offk : Fin 2 → ℕ)
    (hoff : off = ![kt.val * 64, hp * 128]) (hoffk : offk = ![kt.val * 64, hp * 128])
    (inb : ∀ a : Fin S512x1024.rank, off a + S64x128.size a ≤ S512x1024.size a)
    (inbk : ∀ a : Fin S1088x1024.rank, offk a + S640x128.size a ≤ S1088x1024.size a)
    (g0 g1 : ℕ) (hg0 : g0 = 2 * hp) (hg1 : g1 = 2 * hp + 1)
    (inb0 : ∀ a : Fin S16x64x640.rank, (![g0, 0, 0] : Fin 3 → ℕ) a + S1x64x640.size a ≤ S16x64x640.size a)
    (inb1 : ∀ a : Fin S16x64x640.rank, (![g1, 0, 0] : Fin 3 → ℕ) a + S1x64x640.size a ≤ S16x64x640.size a)
    (L9 L10 : List (View.Piece (Elt Ideal) S1088x1024 .bf16))
    (hL9 : ∀ R C, (View.canon L9 (ix2 R C) : Elt Ideal .bf16) = strip x1 x2 R C)
    (hL10 : ∀ R C, (View.canon L10 (ix2 R C) : Elt Ideal .bf16) = strip x3 x4 R C)
    (x : S64x128.Idx) :
    pairOut (F := Ideal) k0_pay55 (k0_pay4 (BitVec.ofNat 32 t.val) kernelRun0_A.sl.v26 0#32 1#32 kt)
      (arg2.view.readAt (Elt Ideal) (Rect.unit (s := S512x1024) off S64x128.size inb).toLoadRect (harg2.unread x0))
      (arg9.view.readAt (Elt Ideal) (Rect.unit (s := S1088x1024) offk S640x128.size inbk).toLoadRect (arg9.view.writes (Elt Ideal) arg9.view.junk L9))
      (arg7.view.readAt (Elt Ideal) (Rect.unit (s := S16x64x640) ![g0, 0, 0] S1x64x640.size inb0).toLoadRect (harg7.unread x5))
      (arg7.view.readAt (Elt Ideal) (Rect.unit (s := S16x64x640) ![g1, 0, 0] S1x64x640.size inb1).toLoadRect (harg7.unread x5))
      (arg10.view.readAt (Elt Ideal) (Rect.unit (s := S1088x1024) offk S640x128.size inbk).toLoadRect (arg10.view.writes (Elt Ideal) arg10.view.junk L10)) x
    = blockOut t.val x0 x1 x2 x3 x4 x5 ((Rect.unit (s := S512x1024) off S64x128.size inb).emb x) := by
  subst hoff hoffk hg0 hg1
  have hkt := (iv_word kt).1
  obtain ⟨r, l, rfl⟩ : ∃ (r : Fin 64) (l : Fin 128), x = ix2 r l := ⟨x 0, x 1, eq_ix2 x⟩
  rw [pairOut_at _ _ _ _ _ _ (fun j => 64 ≤ j.val ∧ 576 ≤ t.val * 512 + kt.val * 64 + j.val) (valid_at t kt)]
  rw [unit_emb2 _ _ _ r l (by omega) (by omega)]
  show _ = entry t.val x0 x1 x2 x3 x4 x5 ⟨kt.val * 64 + r.val, _⟩ ⟨hp * 128 + l.val, _⟩
  unfold entry
  have e1 : (kt.val * 64 + r.val) / 64 = kt.val := by omega
  have e2 : (kt.val * 64 + r.val) % 64 = r.val := by omega
  have e3 : ∀ d, (hp * 128 + l.val) / 64 * 64 + d = hp * 128 + (l.val / 64 * 64 + d) := by omega
  refine congrArg₂ Cert.Att.att (funext fun j => ?_) (funext fun j => ?_)
  · simp only [e1, e2, e3]
    refine if_congr Iff.rfl ?_ rfl
    refine congrArg₂ (· + ·) (Finset.sum_congr rfl fun d _ => ?_) ?_
    · refine congrArg₂ (· * ·) (congrArg (· * Cert.Att.sc) ?_) ?_
      · rw [harg2.readAt_unread, unit_idx2 _ _ _ r ⟨l.val / 64 * 64 + d.val, by omega⟩ (by omega) (by simp only; omega)]
      · rw [View.readAt_writes_junk_eq_canon]
        simp only
        rw [unit_idx2 _ _ _ j ⟨l.val / 64 * 64 + d.val, by omega⟩ (by omega) (by simp only; omega)]
        exact hL9 _ _
    · by_cases hl : l.val < 64
      · rw [if_pos hl, harg7.readAt_unread, unit_idx3 _ (by omega)]
        refine congrArg (fun h => (x5 (ix3 h r j) : EReal)) (Fin.ext ?_)
        simp only; omega
      · rw [if_neg hl, harg7.readAt_unread, unit_idx3 _ (by omega)]
        refine congrArg (fun h => (x5 (ix3 h r j) : EReal)) (Fin.ext ?_)
        simp only; omega
  · simp only [e1]
    rw [View.readAt_writes_junk_eq_canon]
    simp only
    rw [unit_idx2 _ _ _ j l (by omega) (by omega)]
    exact hL10 _ _

theorem off1_eq : ∀ k, k0_off1 k = ![k.val * 64, 0 * 128] := by decide +kernel
theorem off2_eq : ∀ k, k0_off2 k = ![k.val * 64, 0 * 128] := by decide +kernel
theorem off3_eq : ∀ k, k0_off3 k = ![k.val * 64, 1 * 128] := by decide +kernel
theorem off4_eq : ∀ k, k0_off4 k = ![k.val * 64, 1 * 128] := by decide +kernel
theorem off5_eq : ∀ k, k0_off5 k = ![k.val * 64, 2 * 128] := by decide +kernel
theorem off6_eq : ∀ k, k0_off6 k = ![k.val * 64, 2 * 128] := by decide +kernel
theorem off7_eq : ∀ k, k0_off7 k = ![k.val * 64, 3 * 128] := by decide +kernel
theorem off8_eq : ∀ k, k0_off8 k = ![k.val * 64, 3 * 128] := by decide +kernel
theorem off9_eq : ∀ k, k0_off9 k = ![k.val * 64, 4 * 128] := by decide +kernel
theorem off10_eq : ∀ k, k0_off10 k = ![k.val * 64, 4 * 128] := by decide +kernel
theorem off11_eq : ∀ k, k0_off11 k = ![k.val * 64, 5 * 128] := by decide +kernel
theorem off12_eq : ∀ k, k0_off12 k = ![k.val * 64, 5 * 128] := by decide +kernel
theorem off13_eq : ∀ k, k0_off13 k = ![k.val * 64, 6 * 128] := by decide +kernel
theorem off14_eq : ∀ k, k0_off14 k = ![k.val * 64, 6 * 128] := by decide +kernel
theorem off15_eq : ∀ k, k0_off15 k = ![k.val * 64, 7 * 128] := by decide +kernel
theorem off16_eq : ∀ k, k0_off16 k = ![k.val * 64, 7 * 128] := by decide +kernel

/-- Every piece the trips before `n` wrote is a tile of the output block. -/
theorem pieces (t : Fin 16) (bd : Option Variants.none.V) (L9 L10 : List (View.Piece (Elt Ideal) S1088x1024 .bf16))
    (hL9 : ∀ R C, (View.canon L9 (ix2 R C) : Elt Ideal .bf16) = strip x1 x2 R C)
    (hL10 : ∀ R C, (View.canon L10 (ix2 R C) : Elt Ideal .bf16) = strip x3 x4 R C) :
    ∀ n : ℕ, n ≤ k0_t1_loop.trips → ∀ p ∈ pb_k0_t1 (F := Ideal) Variants.none c bd i arg2 harg2 arg3 harg3 arg4 harg4 arg5 harg5 arg6 harg6 arg7 harg7 arg8 harg8 arg9 harg9 arg10 harg10 (BitVec.ofNat 32 t.val) k0_pay55 kernelRun0_A.sl.v26 0#32
        (harg2.unread x0) (harg7.unread x5) (arg9.view.writes (Elt Ideal) arg9.view.junk L9) (arg10.view.writes (Elt Ideal) arg10.view.junk L10) n,
      ∀ x : p.1.shape.Idx, p.2 x = blockOut t.val x0 x1 x2 x3 x4 x5 (p.1.emb x)
  | 0, _, p, hp => by rw [pb_k0_t1.eq_1] at hp; exact absurd hp List.not_mem_nil
  | n + 1, hn, p, hp => by
      have hp' := hp
      rw [pb_k0_t1_succ (F := Ideal) Variants.none c bd i arg2 harg2 arg3 harg3 arg4 harg4 arg5 harg5 arg6 harg6 arg7 harg7 arg8 harg8 arg9 harg9 arg10 harg10 _ _ _ _ _ _ _ _ ⟨n, hn⟩, List.mem_append] at hp'
      rcases hp' with hp' | hp'
      · rw [tripL_eq] at hp'
        simp only [List.mem_cons, List.not_mem_nil, or_false] at hp'
        intro x
        rcases hp' with rfl | rfl | rfl | rfl | rfl | rfl | rfl | rfl
        · exact pair_block arg2 harg2 arg7 harg7 arg9 arg10 x0 x1 x2 x3 x4 x5 t ⟨n, hn⟩ 7 (by omega) _ _ (off15_eq _) (off16_eq _) _ _ 14 15 rfl rfl _ _ L9 L10 hL9 hL10 x
        · exact pair_block arg2 harg2 arg7 harg7 arg9 arg10 x0 x1 x2 x3 x4 x5 t ⟨n, hn⟩ 6 (by omega) _ _ (off13_eq _) (off14_eq _) _ _ 12 13 rfl rfl _ _ L9 L10 hL9 hL10 x
        · exact pair_block arg2 harg2 arg7 harg7 arg9 arg10 x0 x1 x2 x3 x4 x5 t ⟨n, hn⟩ 5 (by omega) _ _ (off11_eq _) (off12_eq _) _ _ 10 11 rfl rfl _ _ L9 L10 hL9 hL10 x
        · exact pair_block arg2 harg2 arg7 harg7 arg9 arg10 x0 x1 x2 x3 x4 x5 t ⟨n, hn⟩ 4 (by omega) _ _ (off9_eq _) (off10_eq _) _ _ 8 9 rfl rfl _ _ L9 L10 hL9 hL10 x
        · exact pair_block arg2 harg2 arg7 harg7 arg9 arg10 x0 x1 x2 x3 x4 x5 t ⟨n, hn⟩ 3 (by omega) _ _ (off7_eq _) (off8_eq _) _ _ 6 7 rfl rfl _ _ L9 L10 hL9 hL10 x
        · exact pair_block arg2 harg2 arg7 harg7 arg9 arg10 x0 x1 x2 x3 x4 x5 t ⟨n, hn⟩ 2 (by omega) _ _ (off5_eq _) (off6_eq _) _ _ 4 5 rfl rfl _ _ L9 L10 hL9 hL10 x
        · exact pair_block arg2 harg2 arg7 harg7 arg9 arg10 x0 x1 x2 x3 x4 x5 t ⟨n, hn⟩ 1 (by omega) _ _ (off3_eq _) (off4_eq _) _ _ 2 3 rfl rfl _ _ L9 L10 hL9 hL10 x
        · exact pair_block arg2 harg2 arg7 harg7 arg9 arg10 x0 x1 x2 x3 x4 x5 t ⟨n, hn⟩ 0 (by omega) _ _ (off1_eq _) (off2_eq _) _ _ 0 1 rfl rfl _ _ L9 L10 hL9 hL10 x
      · exact pieces t bd L9 L10 hL9 hL10 n (by omega) p hp'

end Pieces

/-- The output block of a grid point, at an index. -/
theorem out_at (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S16x64x640 .f32) (harg7 : arg7.IsWhole) (arg8 : Memref sig .tc .vmem S512x1024 .bf16) (harg8 : arg8.IsWhole) (arg9 : Memref sig .tc .vmem S1088x1024 .bf16) (harg9 : arg9.IsWhole) (arg10 : Memref sig .tc .vmem S1088x1024 .bf16) (harg10 : arg10.IsWhole)
    (x0 x1 x2 x3 x4 : FVec Ideal S512x1024 .bf16) (x5 : FVec Ideal S16x64x640 .f32) (t : Fin 16) (ht : (i 1).val = t.val) (y : S512x1024.Idx) :
    out0_A_6 (F := Ideal) c i arg2 harg2 arg3 harg3 arg4 harg4 arg5 harg5 arg6 harg6 arg7 harg7 arg8 harg8 arg9 harg9 arg10 harg10 x0 x1 x2 x3 x4 x5 y = blockOut t.val x0 x1 x2 x3 x4 x5 y := by
  unfold out0_A_6
  rw [View.read_writes_junk_eq_canon]
  refine View.canon_apply_of_pieces (Val := Elt Ideal) (e := .bf16) (blockOut t.val x0 x1 x2 x3 x4 x5) _ ?_ y (cover0_A_6 (F := Ideal) c i arg2 harg2 arg3 harg3 arg4 harg4 arg5 harg5 arg6 harg6 arg7 harg7 arg8 harg8 arg9 harg9 arg10 harg10 x0 x1 x2 x3 x4 x5 y)
  intro p hp
  unfold kernelRun0_A at hp
  dsimp only at hp
  rw [ht] at hp
  refine pieces c i arg2 harg2 arg3 harg3 arg4 harg4 arg5 harg5 arg6 harg6 arg7 harg7 arg8 harg8 arg9 harg9 arg10 harg10 x0 x1 x2 x3 x4 x5 t none _ _ ?_ ?_ _ (by decide) p hp
  · intro R C
    refine strip_canon _ _ _ x1 x2 (fun r c => ?_) (fun r c => ?_) (fun r c => ?_) R C
    · pointwise [k0_pay53]
      rw [harg4.readAt_unread, unit_idx2 0 0 _ r c (by omega) (by omega)]
      simp only [zero_add]
    · pointwise [k0_pay51]
      rw [harg3.readAt_unread, unit_idx2 0 0 _ r c (by omega) (by omega)]
      simp only [zero_add]
    · pointwise [k0_pay49, k0_pay48]
  · intro R C
    refine strip_canon _ _ _ x3 x4 (fun r c => ?_) (fun r c => ?_) (fun r c => ?_) R C
    · pointwise [k0_pay54]
      rw [harg6.readAt_unread, unit_idx2 0 0 _ r c (by omega) (by omega)]
      simp only [zero_add]
    · pointwise [k0_pay52]
      rw [harg5.readAt_unread, unit_idx2 0 0 _ r c (by omega) (by omega)]
      simp only [zero_add]
    · pointwise [k0_pay50, k0_pay48]

end Cert.KernelIdeal.Att

end
-- ==== Proof.Bias.lean ====
module

public import proofs.«01_k».proof.Proof.Gen.KernelIdeal.Value
public import Idealize.ShloMosaic.Lib.Pointwise
public import Idealize.ShloMosaic.Lib.StableHlo.RunRead

@[expose] public section

open Idealize.ShloMosaic Idealize.ShloMosaic.TcCoe Idealize.SL.Sem
set_option maxRecDepth 16384

/-! The bias table as the host code hands it to the kernel. -/
namespace Cert.KernelIdeal.Att
open Cert.KernelIdeal Cert.KernelIdeal.Gen Facts
variable {F : FTy → Type} [FloatOps F]

section Line
open StableHlo
variable {ops : List (HloOp τ sig (Elt F))} {W : List (Ref sig .tc)}
  (hall : ops.map HloOp.writes = W.map fun w => {Proc.devRef (τ := τ) .tc w}) (X : Valuation τ sig (Elt F))
include hall

/-- A buffer no later step writes holds what its step wrote. -/
theorem line_at (i : ℕ) {op : HloOp τ sig (Elt F)} (hop : ops[i]? = some op) {y : Ref sig .tc} (hy : y ∉ W.drop (i + 1)) :
    after ops X (Proc.devRef .tc y) = op.result (upto ops X i) (Proc.devRef .tc y) := by
  obtain ⟨h, e⟩ := List.getElem?_eq_some_iff.mp hop
  exact after_last_write (W.drop (i + 1)) (by rw [List.drop_eq_getElem_cons h, e]) (by rw [List.map_drop, hall, ← List.map_drop]) hy X

/-- A buffer that no step from here on writes already holds its last contents. -/
theorem line_arg (i : ℕ) {a : Ref sig .tc} (ha : a ∉ W.drop i) :
    upto ops X i (Proc.devRef .tc a) = after ops X (Proc.devRef .tc a) := by
  have h : ∀ (l l' : List (HloOp τ sig (Elt F))) (Y : Valuation τ sig (Elt F)), after (l ++ l') Y = after l' (after l Y) := by
    intro l; induction l with
    | nil => intro _ _; rfl
    | cons o l ih => intro l' Y; exact ih _ _
  have e := h (ops.take i) (ops.drop i) X
  rw [List.take_append_drop] at e
  rw [e, after_unwritten (W.drop i) (by rw [List.map_drop, hall, ← List.map_drop]) ha]
  rfl

/-- The contents after a step of one operand. -/
theorem line_unary (i : ℕ) {x y : Ref sig .tc} {f : x.ty.Contents (Elt F) → y.ty.Contents (Elt F)} {hx hy}
    (hop : ops[i]? = some (unary x y f hx hy)) (h₁ : y ∉ W.drop (i + 1)) (h₂ : x ∉ W.drop i) :
    after ops X (Proc.devRef .tc y) = f (after ops X (Proc.devRef .tc x)) := by
  rw [line_at hall X i hop h₁, unary_result, line_arg hall X i h₂]

/-- The contents after a step of two operands. -/
theorem line_binary (i : ℕ) {a b y : Ref sig .tc} {f : a.ty.Contents (Elt F) → b.ty.Contents (Elt F) → y.ty.Contents (Elt F)} {ha hb hy}
    (hop : ops[i]? = some (binary a b y f ha hb hy)) (h₁ : y ∉ W.drop (i + 1)) (h₂ : a ∉ W.drop i) (h₃ : b ∉ W.drop i) :
    after ops X (Proc.devRef .tc y) = f (after ops X (Proc.devRef .tc a)) (after ops X (Proc.devRef .tc b)) := by
  rw [line_at hall X i hop h₁, binary_result, line_arg hall X i h₂, line_arg hall X i h₃]

/-- The contents after a step of several operands. -/
theorem line_nary (i : ℕ) {n : ℕ} {xs : Fin n → Ref sig .tc} {y : Ref sig .tc}
    {f : ((k : Fin n) → (xs k).ty.Contents (Elt F)) → y.ty.Contents (Elt F)} {hxs hy}
    (hop : ops[i]? = some (nary xs y f hxs hy)) (h₁ : y ∉ W.drop (i + 1)) (h₂ : ∀ k, xs k ∉ W.drop i) :
    after ops X (Proc.devRef .tc y) = f (fun k => after ops X (Proc.devRef .tc (xs k))) := by
  rw [line_at hall X i hop h₁, nary_result]
  congr 1
  funext k
  exact line_arg hall X i (h₂ k)

end Line

/-- What the steps of the host code write, in order. -/
noncomputable def written : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137]

theorem hostOps0_written : (hostOps0 : List (HloOp τ sig (Elt F))).map HloOp.writes
    = written.map fun w => {Proc.devRef (τ := τ) .tc w} := rfl

/-- The extended table, back to front. -/
def revOf (B : FVec F S1x16x320 .f32) : FVec F S16x703 .f32 :=
  Host.reverse [1] (concatenate S16x703 1 [⟨S16x320, shapeCast S16x320 B shapeCasts_S1x16x320_S16x320⟩,
    ⟨S16x383, broadcastInDim S16x383 ![0, 1] bcast_S16x1_S16x383_0_1
      (extractStridedSlice S16x1 ![0, 319] (shapeCast S16x320 B shapeCasts_S1x16x320_S16x320) slices_S16x320_S16x1_0_319)⟩]
    concatenates_S16x320_S16x383_S16x703_d1)

/-- One row of the bias, a window of the reversed table. -/
def rowOf (x : FVec F S16x703 .f32) (o : ℕ) (h : S16x703.Slices ![0, o] S16x640) : FVec F S16x1x640 .f32 :=
  broadcastInDim S16x1x640 ![0, 2] bcast_S16x640_S16x1x640_0_2 (extractStridedSlice S16x640 ![0, o] x h)

/-- Sixteen rows of the bias. -/
def rows0 (x : FVec F S16x703 .f32) : FVec F S16x16x640 .f32 :=
  concatenate S16x16x640 1 [
    ⟨S16x1x640, rowOf x 63 slices_S16x703_S16x640_0_63⟩,
    ⟨S16x1x640, rowOf x 62 slices_S16x703_S16x640_0_62⟩,
    ⟨S16x1x640, rowOf x 61 slices_S16x703_S16x640_0_61⟩,
    ⟨S16x1x640, rowOf x 60 slices_S16x703_S16x640_0_60⟩,
    ⟨S16x1x640, rowOf x 59 slices_S16x703_S16x640_0_59⟩,
    ⟨S16x1x640, rowOf x 58 slices_S16x703_S16x640_0_58⟩,
    ⟨S16x1x640, rowOf x 57 slices_S16x703_S16x640_0_57⟩,
    ⟨S16x1x640, rowOf x 56 slices_S16x703_S16x640_0_56⟩,
    ⟨S16x1x640, rowOf x 55 slices_S16x703_S16x640_0_55⟩,
    ⟨S16x1x640, rowOf x 54 slices_S16x703_S16x640_0_54⟩,
    ⟨S16x1x640, rowOf x 53 slices_S16x703_S16x640_0_53⟩,
    ⟨S16x1x640, rowOf x 52 slices_S16x703_S16x640_0_52⟩,
    ⟨S16x1x640, rowOf x 51 slices_S16x703_S16x640_0_51⟩,
    ⟨S16x1x640, rowOf x 50 slices_S16x703_S16x640_0_50⟩,
    ⟨S16x1x640, rowOf x 49 slices_S16x703_S16x640_0_49⟩,
    ⟨S16x1x640, rowOf x 48 slices_S16x703_S16x640_0_48⟩] concatenates_S16x1x640_S16x1x640_S16x1x640_S16x1x640_S16x1x640_S16x1x640_S16x1x640_S16x1x640_S16x1x640_S16x1x640_S16x1x640_S16x1x640_S16x1x640_S16x1x640_S16x1x640_S16x1x640_S16x16x640_d1

/-- Sixteen rows of the bias. -/
def rows1 (x : FVec F S16x703 .f32) : FVec F S16x16x640 .f32 :=
  concatenate S16x16x640 1 [
    ⟨S16x1x640, rowOf x 47 slices_S16x703_S16x640_0_47⟩,
    ⟨S16x1x640, rowOf x 46 slices_S16x703_S16x640_0_46⟩,
    ⟨S16x1x640, rowOf x 45 slices_S16x703_S16x640_0_45⟩,
    ⟨S16x1x640, rowOf x 44 slices_S16x703_S16x640_0_44⟩,
    ⟨S16x1x640, rowOf x 43 slices_S16x703_S16x640_0_43⟩,
    ⟨S16x1x640, rowOf x 42 slices_S16x703_S16x640_0_42⟩,
    ⟨S16x1x640, rowOf x 41 slices_S16x703_S16x640_0_41⟩,
    ⟨S16x1x640, rowOf x 40 slices_S16x703_S16x640_0_40⟩,
    ⟨S16x1x640, rowOf x 39 slices_S16x703_S16x640_0_39⟩,
    ⟨S16x1x640, rowOf x 38 slices_S16x703_S16x640_0_38⟩,
    ⟨S16x1x640, rowOf x 37 slices_S16x703_S16x640_0_37⟩,
    ⟨S16x1x640, rowOf x 36 slices_S16x703_S16x640_0_36⟩,
    ⟨S16x1x640, rowOf x 35 slices_S16x703_S16x640_0_35⟩,
    ⟨S16x1x640, rowOf x 34 slices_S16x703_S16x640_0_34⟩,
    ⟨S16x1x640, rowOf x 33 slices_S16x703_S16x640_0_33⟩,
    ⟨S16x1x640, rowOf x 32 slices_S16x703_S16x640_0_32⟩] concatenates_S16x1x640_S16x1x640_S16x1x640_S16x1x640_S16x1x640_S16x1x640_S16x1x640_S16x1x640_S16x1x640_S16x1x640_S16x1x640_S16x1x640_S16x1x640_S16x1x640_S16x1x640_S16x1x640_S16x16x640_d1

/-- Sixteen rows of the bias. -/
def rows2 (x : FVec F S16x703 .f32) : FVec F S16x16x640 .f32 :=
  concatenate S16x16x640 1 [
    ⟨S16x1x640, rowOf x 31 slices_S16x703_S16x640_0_31⟩,
    ⟨S16x1x640, rowOf x 30 slices_S16x703_S16x640_0_30⟩,
    ⟨S16x1x640, rowOf x 29 slices_S16x703_S16x640_0_29⟩,
    ⟨S16x1x640, rowOf x 28 slices_S16x703_S16x640_0_28⟩,
    ⟨S16x1x640, rowOf x 27 slices_S16x703_S16x640_0_27⟩,
    ⟨S16x1x640, rowOf x 26 slices_S16x703_S16x640_0_26⟩,
    ⟨S16x1x640, rowOf x 25 slices_S16x703_S16x640_0_25⟩,
    ⟨S16x1x640, rowOf x 24 slices_S16x703_S16x640_0_24⟩,
    ⟨S16x1x640, rowOf x 23 slices_S16x703_S16x640_0_23⟩,
    ⟨S16x1x640, rowOf x 22 slices_S16x703_S16x640_0_22⟩,
    ⟨S16x1x640, rowOf x 21 slices_S16x703_S16x640_0_21⟩,
    ⟨S16x1x640, rowOf x 20 slices_S16x703_S16x640_0_20⟩,
    ⟨S16x1x640, rowOf x 19 slices_S16x703_S16x640_0_19⟩,
    ⟨S16x1x640, rowOf x 18 slices_S16x703_S16x640_0_18⟩,
    ⟨S16x1x640, rowOf x 17 slices_S16x703_S16x640_0_17⟩,
    ⟨S16x1x640, rowOf x 16 slices_S16x703_S16x640_0_16⟩] concatenates_S16x1x640_S16x1x640_S16x1x640_S16x1x640_S16x1x640_S16x1x640_S16x1x640_S16x1x640_S16x1x640_S16x1x640_S16x1x640_S16x1x640_S16x1x640_S16x1x640_S16x1x640_S16x1x640_S16x16x640_d1

/-- Sixteen rows of the bias. -/
def rows3 (x : FVec F S16x703 .f32) : FVec F S16x16x640 .f32 :=
  concatenate S16x16x640 1 [
    ⟨S16x1x640, rowOf x 15 slices_S16x703_S16x640_0_15⟩,
    ⟨S16x1x640, rowOf x 14 slices_S16x703_S16x640_0_14⟩,
    ⟨S16x1x640, rowOf x 13 slices_S16x703_S16x640_0_13⟩,
    ⟨S16x1x640, rowOf x 12 slices_S16x703_S16x640_0_12⟩,
    ⟨S16x1x640, rowOf x 11 slices_S16x703_S16x640_0_11⟩,
    ⟨S16x1x640, rowOf x 10 slices_S16x703_S16x640_0_10⟩,
    ⟨S16x1x640, rowOf x 9 slices_S16x703_S16x640_0_9⟩,
    ⟨S16x1x640, rowOf x 8 slices_S16x703_S16x640_0_8⟩,
    ⟨S16x1x640, rowOf x 7 slices_S16x703_S16x640_0_7⟩,
    ⟨S16x1x640, rowOf x 6 slices_S16x703_S16x640_0_6⟩,
    ⟨S16x1x640, rowOf x 5 slices_S16x703_S16x640_0_5⟩,
    ⟨S16x1x640, rowOf x 4 slices_S16x703_S16x640_0_4⟩,
    ⟨S16x1x640, rowOf x 3 slices_S16x703_S16x640_0_3⟩,
    ⟨S16x1x640, rowOf x 2 slices_S16x703_S16x640_0_2⟩,
    ⟨S16x1x640, rowOf x 1 slices_S16x703_S16x640_0_1⟩,
    ⟨S16x1x640, rowOf x 0 slices_S16x703_S16x640_0_0⟩] concatenates_S16x1x640_S16x1x640_S16x1x640_S16x1x640_S16x1x640_S16x1x640_S16x1x640_S16x1x640_S16x1x640_S16x1x640_S16x1x640_S16x1x640_S16x1x640_S16x1x640_S16x1x640_S16x1x640_S16x16x640_d1

/-- The whole bias. -/
def biasOf (x : FVec F S16x703 .f32) : FVec F S16x64x640 .f32 :=
  concatenate S16x64x640 1 [⟨S16x16x640, rows0 x⟩, ⟨S16x16x640, rows1 x⟩, ⟨S16x16x640, rows2 x⟩, ⟨S16x16x640, rows3 x⟩]
    concatenates_S16x16x640_S16x16x640_S16x16x640_S16x16x640_S16x64x640_d1

variable (m : (ℓ : Loc nD τ sig) → Buf (Elt F) ℓ) (c : Dev nD)

theorem v0_eq : V (F := F) m c main_v0 = shapeCast S16x320 (m ((c : Thread nD τ).loc main_arg2)) shapeCasts_S1x16x320_S16x320 := by
  refine (line_at hostOps0_written _ 0 rfl (by decide +kernel)).trans ?_
  exact StableHlo.reshape_result ..

theorem v4_eq : V (F := F) m c main_v4 = revOf (m ((c : Thread nD τ).loc main_arg2)) := by
  have h4 := line_unary (F := F) hostOps0_written (fun b => m (c, b)) 4 (x := main_v3) (y := main_v4) rfl (by decide +kernel) (by decide +kernel)
  have h3 := line_binary (F := F) hostOps0_written (fun b => m (c, b)) 3 (a := main_v0) (b := main_v2) (y := main_v3) rfl (by decide +kernel) (by decide +kernel) (by decide +kernel)
  have h2 := line_unary (F := F) hostOps0_written (fun b => m (c, b)) 2 (x := main_v1) (y := main_v2) rfl (by decide +kernel) (by decide +kernel)
  have h1 := line_unary (F := F) hostOps0_written (fun b => m (c, b)) 1 (x := main_v0) (y := main_v1) rfl (by decide +kernel) (by decide +kernel)
  have h0 := v0_eq (F := F) m c
  unfold V at h0
  unfold V
  rw [h4, h3, h2, h1, h0]
  rfl

theorem row0_eq : V (F := F) m c main_v69 = rowOf (V m c main_v4) 63 slices_S16x703_S16x640_0_63 :=
  (line_unary (F := F) hostOps0_written _ 69 (x := main_v5) (y := main_v69) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 5 (x := main_v4) (y := main_v5) rfl (by decide +kernel) (by decide +kernel)))

theorem row1_eq : V (F := F) m c main_v70 = rowOf (V m c main_v4) 62 slices_S16x703_S16x640_0_62 :=
  (line_unary (F := F) hostOps0_written _ 70 (x := main_v6) (y := main_v70) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 6 (x := main_v4) (y := main_v6) rfl (by decide +kernel) (by decide +kernel)))

theorem row2_eq : V (F := F) m c main_v71 = rowOf (V m c main_v4) 61 slices_S16x703_S16x640_0_61 :=
  (line_unary (F := F) hostOps0_written _ 71 (x := main_v7) (y := main_v71) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 7 (x := main_v4) (y := main_v7) rfl (by decide +kernel) (by decide +kernel)))

theorem row3_eq : V (F := F) m c main_v72 = rowOf (V m c main_v4) 60 slices_S16x703_S16x640_0_60 :=
  (line_unary (F := F) hostOps0_written _ 72 (x := main_v8) (y := main_v72) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 8 (x := main_v4) (y := main_v8) rfl (by decide +kernel) (by decide +kernel)))

theorem row4_eq : V (F := F) m c main_v73 = rowOf (V m c main_v4) 59 slices_S16x703_S16x640_0_59 :=
  (line_unary (F := F) hostOps0_written _ 73 (x := main_v9) (y := main_v73) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 9 (x := main_v4) (y := main_v9) rfl (by decide +kernel) (by decide +kernel)))

theorem row5_eq : V (F := F) m c main_v74 = rowOf (V m c main_v4) 58 slices_S16x703_S16x640_0_58 :=
  (line_unary (F := F) hostOps0_written _ 74 (x := main_v10) (y := main_v74) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 10 (x := main_v4) (y := main_v10) rfl (by decide +kernel) (by decide +kernel)))

theorem row6_eq : V (F := F) m c main_v75 = rowOf (V m c main_v4) 57 slices_S16x703_S16x640_0_57 :=
  (line_unary (F := F) hostOps0_written _ 75 (x := main_v11) (y := main_v75) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 11 (x := main_v4) (y := main_v11) rfl (by decide +kernel) (by decide +kernel)))

theorem row7_eq : V (F := F) m c main_v76 = rowOf (V m c main_v4) 56 slices_S16x703_S16x640_0_56 :=
  (line_unary (F := F) hostOps0_written _ 76 (x := main_v12) (y := main_v76) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 12 (x := main_v4) (y := main_v12) rfl (by decide +kernel) (by decide +kernel)))

theorem row8_eq : V (F := F) m c main_v77 = rowOf (V m c main_v4) 55 slices_S16x703_S16x640_0_55 :=
  (line_unary (F := F) hostOps0_written _ 77 (x := main_v13) (y := main_v77) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 13 (x := main_v4) (y := main_v13) rfl (by decide +kernel) (by decide +kernel)))

theorem row9_eq : V (F := F) m c main_v78 = rowOf (V m c main_v4) 54 slices_S16x703_S16x640_0_54 :=
  (line_unary (F := F) hostOps0_written _ 78 (x := main_v14) (y := main_v78) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 14 (x := main_v4) (y := main_v14) rfl (by decide +kernel) (by decide +kernel)))

theorem row10_eq : V (F := F) m c main_v79 = rowOf (V m c main_v4) 53 slices_S16x703_S16x640_0_53 :=
  (line_unary (F := F) hostOps0_written _ 79 (x := main_v15) (y := main_v79) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 15 (x := main_v4) (y := main_v15) rfl (by decide +kernel) (by decide +kernel)))

theorem row11_eq : V (F := F) m c main_v80 = rowOf (V m c main_v4) 52 slices_S16x703_S16x640_0_52 :=
  (line_unary (F := F) hostOps0_written _ 80 (x := main_v16) (y := main_v80) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 16 (x := main_v4) (y := main_v16) rfl (by decide +kernel) (by decide +kernel)))

theorem row12_eq : V (F := F) m c main_v81 = rowOf (V m c main_v4) 51 slices_S16x703_S16x640_0_51 :=
  (line_unary (F := F) hostOps0_written _ 81 (x := main_v17) (y := main_v81) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 17 (x := main_v4) (y := main_v17) rfl (by decide +kernel) (by decide +kernel)))

theorem row13_eq : V (F := F) m c main_v82 = rowOf (V m c main_v4) 50 slices_S16x703_S16x640_0_50 :=
  (line_unary (F := F) hostOps0_written _ 82 (x := main_v18) (y := main_v82) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 18 (x := main_v4) (y := main_v18) rfl (by decide +kernel) (by decide +kernel)))

theorem row14_eq : V (F := F) m c main_v83 = rowOf (V m c main_v4) 49 slices_S16x703_S16x640_0_49 :=
  (line_unary (F := F) hostOps0_written _ 83 (x := main_v19) (y := main_v83) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 19 (x := main_v4) (y := main_v19) rfl (by decide +kernel) (by decide +kernel)))

theorem row15_eq : V (F := F) m c main_v84 = rowOf (V m c main_v4) 48 slices_S16x703_S16x640_0_48 :=
  (line_unary (F := F) hostOps0_written _ 84 (x := main_v20) (y := main_v84) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 20 (x := main_v4) (y := main_v20) rfl (by decide +kernel) (by decide +kernel)))

theorem row16_eq : V (F := F) m c main_v85 = rowOf (V m c main_v4) 47 slices_S16x703_S16x640_0_47 :=
  (line_unary (F := F) hostOps0_written _ 85 (x := main_v21) (y := main_v85) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 21 (x := main_v4) (y := main_v21) rfl (by decide +kernel) (by decide +kernel)))

theorem row17_eq : V (F := F) m c main_v86 = rowOf (V m c main_v4) 46 slices_S16x703_S16x640_0_46 :=
  (line_unary (F := F) hostOps0_written _ 86 (x := main_v22) (y := main_v86) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 22 (x := main_v4) (y := main_v22) rfl (by decide +kernel) (by decide +kernel)))

theorem row18_eq : V (F := F) m c main_v87 = rowOf (V m c main_v4) 45 slices_S16x703_S16x640_0_45 :=
  (line_unary (F := F) hostOps0_written _ 87 (x := main_v23) (y := main_v87) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 23 (x := main_v4) (y := main_v23) rfl (by decide +kernel) (by decide +kernel)))

theorem row19_eq : V (F := F) m c main_v88 = rowOf (V m c main_v4) 44 slices_S16x703_S16x640_0_44 :=
  (line_unary (F := F) hostOps0_written _ 88 (x := main_v24) (y := main_v88) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 24 (x := main_v4) (y := main_v24) rfl (by decide +kernel) (by decide +kernel)))

theorem row20_eq : V (F := F) m c main_v89 = rowOf (V m c main_v4) 43 slices_S16x703_S16x640_0_43 :=
  (line_unary (F := F) hostOps0_written _ 89 (x := main_v25) (y := main_v89) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 25 (x := main_v4) (y := main_v25) rfl (by decide +kernel) (by decide +kernel)))

theorem row21_eq : V (F := F) m c main_v90 = rowOf (V m c main_v4) 42 slices_S16x703_S16x640_0_42 :=
  (line_unary (F := F) hostOps0_written _ 90 (x := main_v26) (y := main_v90) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 26 (x := main_v4) (y := main_v26) rfl (by decide +kernel) (by decide +kernel)))

theorem row22_eq : V (F := F) m c main_v91 = rowOf (V m c main_v4) 41 slices_S16x703_S16x640_0_41 :=
  (line_unary (F := F) hostOps0_written _ 91 (x := main_v27) (y := main_v91) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 27 (x := main_v4) (y := main_v27) rfl (by decide +kernel) (by decide +kernel)))

theorem row23_eq : V (F := F) m c main_v92 = rowOf (V m c main_v4) 40 slices_S16x703_S16x640_0_40 :=
  (line_unary (F := F) hostOps0_written _ 92 (x := main_v28) (y := main_v92) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 28 (x := main_v4) (y := main_v28) rfl (by decide +kernel) (by decide +kernel)))

theorem row24_eq : V (F := F) m c main_v93 = rowOf (V m c main_v4) 39 slices_S16x703_S16x640_0_39 :=
  (line_unary (F := F) hostOps0_written _ 93 (x := main_v29) (y := main_v93) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 29 (x := main_v4) (y := main_v29) rfl (by decide +kernel) (by decide +kernel)))

theorem row25_eq : V (F := F) m c main_v94 = rowOf (V m c main_v4) 38 slices_S16x703_S16x640_0_38 :=
  (line_unary (F := F) hostOps0_written _ 94 (x := main_v30) (y := main_v94) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 30 (x := main_v4) (y := main_v30) rfl (by decide +kernel) (by decide +kernel)))

theorem row26_eq : V (F := F) m c main_v95 = rowOf (V m c main_v4) 37 slices_S16x703_S16x640_0_37 :=
  (line_unary (F := F) hostOps0_written _ 95 (x := main_v31) (y := main_v95) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 31 (x := main_v4) (y := main_v31) rfl (by decide +kernel) (by decide +kernel)))

theorem row27_eq : V (F := F) m c main_v96 = rowOf (V m c main_v4) 36 slices_S16x703_S16x640_0_36 :=
  (line_unary (F := F) hostOps0_written _ 96 (x := main_v32) (y := main_v96) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 32 (x := main_v4) (y := main_v32) rfl (by decide +kernel) (by decide +kernel)))

theorem row28_eq : V (F := F) m c main_v97 = rowOf (V m c main_v4) 35 slices_S16x703_S16x640_0_35 :=
  (line_unary (F := F) hostOps0_written _ 97 (x := main_v33) (y := main_v97) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 33 (x := main_v4) (y := main_v33) rfl (by decide +kernel) (by decide +kernel)))

theorem row29_eq : V (F := F) m c main_v98 = rowOf (V m c main_v4) 34 slices_S16x703_S16x640_0_34 :=
  (line_unary (F := F) hostOps0_written _ 98 (x := main_v34) (y := main_v98) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 34 (x := main_v4) (y := main_v34) rfl (by decide +kernel) (by decide +kernel)))

theorem row30_eq : V (F := F) m c main_v99 = rowOf (V m c main_v4) 33 slices_S16x703_S16x640_0_33 :=
  (line_unary (F := F) hostOps0_written _ 99 (x := main_v35) (y := main_v99) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 35 (x := main_v4) (y := main_v35) rfl (by decide +kernel) (by decide +kernel)))

theorem row31_eq : V (F := F) m c main_v100 = rowOf (V m c main_v4) 32 slices_S16x703_S16x640_0_32 :=
  (line_unary (F := F) hostOps0_written _ 100 (x := main_v36) (y := main_v100) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 36 (x := main_v4) (y := main_v36) rfl (by decide +kernel) (by decide +kernel)))

theorem row32_eq : V (F := F) m c main_v101 = rowOf (V m c main_v4) 31 slices_S16x703_S16x640_0_31 :=
  (line_unary (F := F) hostOps0_written _ 101 (x := main_v37) (y := main_v101) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 37 (x := main_v4) (y := main_v37) rfl (by decide +kernel) (by decide +kernel)))

theorem row33_eq : V (F := F) m c main_v102 = rowOf (V m c main_v4) 30 slices_S16x703_S16x640_0_30 :=
  (line_unary (F := F) hostOps0_written _ 102 (x := main_v38) (y := main_v102) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 38 (x := main_v4) (y := main_v38) rfl (by decide +kernel) (by decide +kernel)))

theorem row34_eq : V (F := F) m c main_v103 = rowOf (V m c main_v4) 29 slices_S16x703_S16x640_0_29 :=
  (line_unary (F := F) hostOps0_written _ 103 (x := main_v39) (y := main_v103) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 39 (x := main_v4) (y := main_v39) rfl (by decide +kernel) (by decide +kernel)))

theorem row35_eq : V (F := F) m c main_v104 = rowOf (V m c main_v4) 28 slices_S16x703_S16x640_0_28 :=
  (line_unary (F := F) hostOps0_written _ 104 (x := main_v40) (y := main_v104) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 40 (x := main_v4) (y := main_v40) rfl (by decide +kernel) (by decide +kernel)))

theorem row36_eq : V (F := F) m c main_v105 = rowOf (V m c main_v4) 27 slices_S16x703_S16x640_0_27 :=
  (line_unary (F := F) hostOps0_written _ 105 (x := main_v41) (y := main_v105) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 41 (x := main_v4) (y := main_v41) rfl (by decide +kernel) (by decide +kernel)))

theorem row37_eq : V (F := F) m c main_v106 = rowOf (V m c main_v4) 26 slices_S16x703_S16x640_0_26 :=
  (line_unary (F := F) hostOps0_written _ 106 (x := main_v42) (y := main_v106) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 42 (x := main_v4) (y := main_v42) rfl (by decide +kernel) (by decide +kernel)))

theorem row38_eq : V (F := F) m c main_v107 = rowOf (V m c main_v4) 25 slices_S16x703_S16x640_0_25 :=
  (line_unary (F := F) hostOps0_written _ 107 (x := main_v43) (y := main_v107) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 43 (x := main_v4) (y := main_v43) rfl (by decide +kernel) (by decide +kernel)))

theorem row39_eq : V (F := F) m c main_v108 = rowOf (V m c main_v4) 24 slices_S16x703_S16x640_0_24 :=
  (line_unary (F := F) hostOps0_written _ 108 (x := main_v44) (y := main_v108) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 44 (x := main_v4) (y := main_v44) rfl (by decide +kernel) (by decide +kernel)))

theorem row40_eq : V (F := F) m c main_v109 = rowOf (V m c main_v4) 23 slices_S16x703_S16x640_0_23 :=
  (line_unary (F := F) hostOps0_written _ 109 (x := main_v45) (y := main_v109) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 45 (x := main_v4) (y := main_v45) rfl (by decide +kernel) (by decide +kernel)))

theorem row41_eq : V (F := F) m c main_v110 = rowOf (V m c main_v4) 22 slices_S16x703_S16x640_0_22 :=
  (line_unary (F := F) hostOps0_written _ 110 (x := main_v46) (y := main_v110) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 46 (x := main_v4) (y := main_v46) rfl (by decide +kernel) (by decide +kernel)))

theorem row42_eq : V (F := F) m c main_v111 = rowOf (V m c main_v4) 21 slices_S16x703_S16x640_0_21 :=
  (line_unary (F := F) hostOps0_written _ 111 (x := main_v47) (y := main_v111) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 47 (x := main_v4) (y := main_v47) rfl (by decide +kernel) (by decide +kernel)))

theorem row43_eq : V (F := F) m c main_v112 = rowOf (V m c main_v4) 20 slices_S16x703_S16x640_0_20 :=
  (line_unary (F := F) hostOps0_written _ 112 (x := main_v48) (y := main_v112) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 48 (x := main_v4) (y := main_v48) rfl (by decide +kernel) (by decide +kernel)))

theorem row44_eq : V (F := F) m c main_v113 = rowOf (V m c main_v4) 19 slices_S16x703_S16x640_0_19 :=
  (line_unary (F := F) hostOps0_written _ 113 (x := main_v49) (y := main_v113) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 49 (x := main_v4) (y := main_v49) rfl (by decide +kernel) (by decide +kernel)))

theorem row45_eq : V (F := F) m c main_v114 = rowOf (V m c main_v4) 18 slices_S16x703_S16x640_0_18 :=
  (line_unary (F := F) hostOps0_written _ 114 (x := main_v50) (y := main_v114) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 50 (x := main_v4) (y := main_v50) rfl (by decide +kernel) (by decide +kernel)))

theorem row46_eq : V (F := F) m c main_v115 = rowOf (V m c main_v4) 17 slices_S16x703_S16x640_0_17 :=
  (line_unary (F := F) hostOps0_written _ 115 (x := main_v51) (y := main_v115) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 51 (x := main_v4) (y := main_v51) rfl (by decide +kernel) (by decide +kernel)))

theorem row47_eq : V (F := F) m c main_v116 = rowOf (V m c main_v4) 16 slices_S16x703_S16x640_0_16 :=
  (line_unary (F := F) hostOps0_written _ 116 (x := main_v52) (y := main_v116) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 52 (x := main_v4) (y := main_v52) rfl (by decide +kernel) (by decide +kernel)))

theorem row48_eq : V (F := F) m c main_v117 = rowOf (V m c main_v4) 15 slices_S16x703_S16x640_0_15 :=
  (line_unary (F := F) hostOps0_written _ 117 (x := main_v53) (y := main_v117) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 53 (x := main_v4) (y := main_v53) rfl (by decide +kernel) (by decide +kernel)))

theorem row49_eq : V (F := F) m c main_v118 = rowOf (V m c main_v4) 14 slices_S16x703_S16x640_0_14 :=
  (line_unary (F := F) hostOps0_written _ 118 (x := main_v54) (y := main_v118) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 54 (x := main_v4) (y := main_v54) rfl (by decide +kernel) (by decide +kernel)))

theorem row50_eq : V (F := F) m c main_v119 = rowOf (V m c main_v4) 13 slices_S16x703_S16x640_0_13 :=
  (line_unary (F := F) hostOps0_written _ 119 (x := main_v55) (y := main_v119) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 55 (x := main_v4) (y := main_v55) rfl (by decide +kernel) (by decide +kernel)))

theorem row51_eq : V (F := F) m c main_v120 = rowOf (V m c main_v4) 12 slices_S16x703_S16x640_0_12 :=
  (line_unary (F := F) hostOps0_written _ 120 (x := main_v56) (y := main_v120) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 56 (x := main_v4) (y := main_v56) rfl (by decide +kernel) (by decide +kernel)))

theorem row52_eq : V (F := F) m c main_v121 = rowOf (V m c main_v4) 11 slices_S16x703_S16x640_0_11 :=
  (line_unary (F := F) hostOps0_written _ 121 (x := main_v57) (y := main_v121) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 57 (x := main_v4) (y := main_v57) rfl (by decide +kernel) (by decide +kernel)))

theorem row53_eq : V (F := F) m c main_v122 = rowOf (V m c main_v4) 10 slices_S16x703_S16x640_0_10 :=
  (line_unary (F := F) hostOps0_written _ 122 (x := main_v58) (y := main_v122) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 58 (x := main_v4) (y := main_v58) rfl (by decide +kernel) (by decide +kernel)))

theorem row54_eq : V (F := F) m c main_v123 = rowOf (V m c main_v4) 9 slices_S16x703_S16x640_0_9 :=
  (line_unary (F := F) hostOps0_written _ 123 (x := main_v59) (y := main_v123) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 59 (x := main_v4) (y := main_v59) rfl (by decide +kernel) (by decide +kernel)))

theorem row55_eq : V (F := F) m c main_v124 = rowOf (V m c main_v4) 8 slices_S16x703_S16x640_0_8 :=
  (line_unary (F := F) hostOps0_written _ 124 (x := main_v60) (y := main_v124) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 60 (x := main_v4) (y := main_v60) rfl (by decide +kernel) (by decide +kernel)))

theorem row56_eq : V (F := F) m c main_v125 = rowOf (V m c main_v4) 7 slices_S16x703_S16x640_0_7 :=
  (line_unary (F := F) hostOps0_written _ 125 (x := main_v61) (y := main_v125) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 61 (x := main_v4) (y := main_v61) rfl (by decide +kernel) (by decide +kernel)))

theorem row57_eq : V (F := F) m c main_v126 = rowOf (V m c main_v4) 6 slices_S16x703_S16x640_0_6 :=
  (line_unary (F := F) hostOps0_written _ 126 (x := main_v62) (y := main_v126) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 62 (x := main_v4) (y := main_v62) rfl (by decide +kernel) (by decide +kernel)))

theorem row58_eq : V (F := F) m c main_v127 = rowOf (V m c main_v4) 5 slices_S16x703_S16x640_0_5 :=
  (line_unary (F := F) hostOps0_written _ 127 (x := main_v63) (y := main_v127) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 63 (x := main_v4) (y := main_v63) rfl (by decide +kernel) (by decide +kernel)))

theorem row59_eq : V (F := F) m c main_v128 = rowOf (V m c main_v4) 4 slices_S16x703_S16x640_0_4 :=
  (line_unary (F := F) hostOps0_written _ 128 (x := main_v64) (y := main_v128) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 64 (x := main_v4) (y := main_v64) rfl (by decide +kernel) (by decide +kernel)))

theorem row60_eq : V (F := F) m c main_v129 = rowOf (V m c main_v4) 3 slices_S16x703_S16x640_0_3 :=
  (line_unary (F := F) hostOps0_written _ 129 (x := main_v65) (y := main_v129) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 65 (x := main_v4) (y := main_v65) rfl (by decide +kernel) (by decide +kernel)))

theorem row61_eq : V (F := F) m c main_v130 = rowOf (V m c main_v4) 2 slices_S16x703_S16x640_0_2 :=
  (line_unary (F := F) hostOps0_written _ 130 (x := main_v66) (y := main_v130) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 66 (x := main_v4) (y := main_v66) rfl (by decide +kernel) (by decide +kernel)))

theorem row62_eq : V (F := F) m c main_v131 = rowOf (V m c main_v4) 1 slices_S16x703_S16x640_0_1 :=
  (line_unary (F := F) hostOps0_written _ 131 (x := main_v67) (y := main_v131) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 67 (x := main_v4) (y := main_v67) rfl (by decide +kernel) (by decide +kernel)))

theorem row63_eq : V (F := F) m c main_v132 = rowOf (V m c main_v4) 0 slices_S16x703_S16x640_0_0 :=
  (line_unary (F := F) hostOps0_written _ 132 (x := main_v68) (y := main_v132) rfl (by decide +kernel) (by decide +kernel)).trans
    (congrArg (broadcastInDim S16x1x640 ![0, 2] bcast_S16x640_S16x1x640_0_2 : FVec F S16x640 .f32 → FVec F S16x1x640 .f32)
      (line_unary (F := F) hostOps0_written _ 68 (x := main_v4) (y := main_v68) rfl (by decide +kernel) (by decide +kernel)))

theorem rows0_eq : V (F := F) m c main_v133 = rows0 (V m c main_v4) := by
  refine (line_nary (F := F) hostOps0_written _ 133 (y := main_v133) rfl (by decide +kernel) (by decide +kernel)).trans ?_
  unfold rows0
  rw [← row0_eq, ← row1_eq, ← row2_eq, ← row3_eq, ← row4_eq, ← row5_eq, ← row6_eq, ← row7_eq, ← row8_eq, ← row9_eq, ← row10_eq, ← row11_eq, ← row12_eq, ← row13_eq, ← row14_eq, ← row15_eq]
  rfl

theorem rows1_eq : V (F := F) m c main_v134 = rows1 (V m c main_v4) := by
  refine (line_nary (F := F) hostOps0_written _ 134 (y := main_v134) rfl (by decide +kernel) (by decide +kernel)).trans ?_
  unfold rows1
  rw [← row16_eq, ← row17_eq, ← row18_eq, ← row19_eq, ← row20_eq, ← row21_eq, ← row22_eq, ← row23_eq, ← row24_eq, ← row25_eq, ← row26_eq, ← row27_eq, ← row28_eq, ← row29_eq, ← row30_eq, ← row31_eq]
  rfl

theorem rows2_eq : V (F := F) m c main_v135 = rows2 (V m c main_v4) := by
  refine (line_nary (F := F) hostOps0_written _ 135 (y := main_v135) rfl (by decide +kernel) (by decide +kernel)).trans ?_
  unfold rows2
  rw [← row32_eq, ← row33_eq, ← row34_eq, ← row35_eq, ← row36_eq, ← row37_eq, ← row38_eq, ← row39_eq, ← row40_eq, ← row41_eq, ← row42_eq, ← row43_eq, ← row44_eq, ← row45_eq, ← row46_eq, ← row47_eq]
  rfl

theorem rows3_eq : V (F := F) m c main_v136 = rows3 (V m c main_v4) := by
  refine (line_nary (F := F) hostOps0_written _ 136 (y := main_v136) rfl (by decide +kernel) (by decide +kernel)).trans ?_
  unfold rows3
  rw [← row48_eq, ← row49_eq, ← row50_eq, ← row51_eq, ← row52_eq, ← row53_eq, ← row54_eq, ← row55_eq, ← row56_eq, ← row57_eq, ← row58_eq, ← row59_eq, ← row60_eq, ← row61_eq, ← row62_eq, ← row63_eq]
  rfl

theorem bias_eq : V (F := F) m c main_v137 = biasOf (revOf (m ((c : Thread nD τ).loc main_arg2))) := by
  refine (line_nary (F := F) hostOps0_written _ 137 (y := main_v137) rfl (by decide +kernel) (by decide +kernel)).trans ?_
  unfold biasOf
  rw [← v4_eq, ← rows0_eq, ← rows1_eq, ← rows2_eq, ← rows3_eq]
  rfl

end Cert.KernelIdeal.Att

end
-- ==== Proof.BiasAt.lean ====
module

public import proofs.«01_k».proof.Proof.Bias
public import Idealize.ShloMosaic.Lib.Pointwise

@[expose] public section

open Idealize.ShloMosaic Idealize.ShloMosaic.TcCoe Idealize.SL.Sem
set_option maxRecDepth 16384

/-! The kernel's bias at an index: the table's entry at the clipped distance. -/
namespace Cert.KernelIdeal.Att
open Cert.KernelIdeal Cert.KernelIdeal.Gen Facts

/-- A value chosen by cases equals `z` if it does in each case. -/
theorem dite_is {α : Sort _} {c : Prop} [Decidable c] {a : c → α} {b : ¬c → α} {z : α} (ha : ∀ h, a h = z) (hb : ∀ h, b h = z) :
    (if h : c then a h else b h) = z := by
  split_ifs with h
  · exact ha h
  · exact hb h

/-- The reversed table at an index. -/
theorem rev_at (B : FVec Ideal S1x16x320 .f32) (h : Fin 16) (x : Fin 703) :
    revOf B (ix2 h x) = B (ix3 0 h ⟨min (702 - x.val) 319, by omega⟩) := by
  pointwise [revOf]
  refine dite_is (fun h1 => ?_) (fun h1 => ?_)
  · change x.rev.val < 320 at h1
    rw [Fin.val_rev] at h1
    refine congrArg (fun k => B (ix3 0 h k)) (Fin.ext ?_)
    show x.rev.val = min (702 - x.val) 319
    rw [Fin.val_rev]; omega
  · change ¬ x.rev.val < 320 at h1
    rw [Fin.val_rev] at h1
    refine congrArg (fun k => B (ix3 0 h k)) (Fin.ext ?_)
    show 319 = min (702 - x.val) 319
    omega

theorem rows0_at (x : FVec Ideal S16x703 .f32) (h : Fin 16) (i : Fin 16) (j : Fin 640) :
    rows0 x (ix3 h i j) = x (ix2 h ⟨63 - i.val + j.val, by omega⟩) := by
  pointwise [rows0, rowOf]
  iterate 15 refine dite_is (fun _ => congrArg (fun k => x (ix2 h k)) (Fin.ext (by show _ + j.val = _ - i.val + j.val; omega))) fun _ => ?_
  exact congrArg (fun k => x (ix2 h k)) (Fin.ext (by show _ + j.val = _ - i.val + j.val; omega))

theorem rows1_at (x : FVec Ideal S16x703 .f32) (h : Fin 16) (i : Fin 16) (j : Fin 640) :
    rows1 x (ix3 h i j) = x (ix2 h ⟨47 - i.val + j.val, by omega⟩) := by
  pointwise [rows1, rowOf]
  iterate 15 refine dite_is (fun _ => congrArg (fun k => x (ix2 h k)) (Fin.ext (by show _ + j.val = _ - i.val + j.val; omega))) fun _ => ?_
  exact congrArg (fun k => x (ix2 h k)) (Fin.ext (by show _ + j.val = _ - i.val + j.val; omega))

theorem rows2_at (x : FVec Ideal S16x703 .f32) (h : Fin 16) (i : Fin 16) (j : Fin 640) :
    rows2 x (ix3 h i j) = x (ix2 h ⟨31 - i.val + j.val, by omega⟩) := by
  pointwise [rows2, rowOf]
  iterate 15 refine dite_is (fun _ => congrArg (fun k => x (ix2 h k)) (Fin.ext (by show _ + j.val = _ - i.val + j.val; omega))) fun _ => ?_
  exact congrArg (fun k => x (ix2 h k)) (Fin.ext (by show _ + j.val = _ - i.val + j.val; omega))

theorem rows3_at (x : FVec Ideal S16x703 .f32) (h : Fin 16) (i : Fin 16) (j : Fin 640) :
    rows3 x (ix3 h i j) = x (ix2 h ⟨15 - i.val + j.val, by omega⟩) := by
  pointwise [rows3, rowOf]
  iterate 15 refine dite_is (fun _ => congrArg (fun k => x (ix2 h k)) (Fin.ext (by show _ + j.val = _ - i.val + j.val; omega))) fun _ => ?_
  exact congrArg (fun k => x (ix2 h k)) (Fin.ext (by show j.val = 15 - i.val + j.val; omega))

/-- The bias at an index. -/
theorem biasOf_at (B : FVec Ideal S1x16x320 .f32) (h : Fin 16) (i : Fin 64) (j : Fin 640) :
    biasOf (revOf B) (ix3 h i j) = B (ix3 0 h ⟨min (639 + i.val - j.val) 319, by omega⟩) := by
  pointwise [biasOf]
  refine dite_is (fun _ => ?_) fun _ => dite_is (fun _ => ?_) fun _ => dite_is (fun _ => ?_) fun _ => ?_
  · rw [rows0_at, rev_at]; exact congrArg (fun k => B (ix3 0 h k)) (Fin.ext (by show min _ 319 = min _ 319; simp only; omega))
  · rw [rows1_at, rev_at]; exact congrArg (fun k => B (ix3 0 h k)) (Fin.ext (by show min _ 319 = min _ 319; simp only; omega))
  · rw [rows2_at, rev_at]; exact congrArg (fun k => B (ix3 0 h k)) (Fin.ext (by show min _ 319 = min _ 319; simp only; omega))
  · rw [rows3_at, rev_at]; exact congrArg (fun k => B (ix3 0 h k)) (Fin.ext (by show min _ 319 = min _ 319; simp only; omega))
end Cert.KernelIdeal.Att

end
-- ==== Proof.Reads.lean ====
module

public import proofs.«01_k».proof.Proof.Block
public import proofs.«01_k».proof.Proof.BiasAt
public import Idealize.ShloMosaic.Lib.Pipeline.ValueKit

@[expose] public section

open Idealize.ShloMosaic Idealize.ShloMosaic.TcCoe Idealize.SL.Sem
set_option maxRecDepth 16384

/-! What the windows of a grid point read: blocks of the queries, the keys, the values and the bias. -/
namespace Cert.KernelIdeal.Att
open Cert.KernelIdeal Cert.KernelIdeal.Gen

/-- Where the windows of a grid point lie. -/
theorem win_idx : ∀ t : Fin cfg0.N, win0_0.index t = ![t.val, 0] ∧ win0_1.index t = ![t.val / 16 * 16 + (t.val % 16 - 1), 0]
    ∧ win0_2.index t = ![t.val, 0] ∧ win0_3.index t = ![t.val / 16 * 16 + (t.val % 16 - 1), 1] ∧ win0_4.index t = ![t.val, 1]
    ∧ win0_5.index t = ![0, 0, 0] ∧ win0_6.index t = ![t.val, 0] := by decide +kernel

/-- The second grid coordinate of a point. -/
theorem point_col : ∀ t : Fin cfg0.N, (grid0.coords t 1).val = t.val % 16 := by decide +kernel

/-- The grid has 64 points. -/
theorem points : cfg0.N = 64 := by decide +kernel

variable (m : (ℓ : Loc nD τ sig) → Buf (Elt Ideal) ℓ) (c : Dev nD) (t : Fin cfg0.N)

/-- The queries of a block. -/
theorem read0 (R : Fin 512) (C : Fin 1024) (h : t.val * 512 + R.val < 32768) :
    (iblk m c 0 t : S512x1024.Idx → EReal) (ix2 R C) = m ((c : Thread nD τ).loc main_arg0) (ix2 ⟨t.val * 512 + R.val, h⟩ C) := by
  obtain ⟨h0, h1, h2, h3, h4, h5, h6⟩ := win_idx t
  rw [← V_main_arg0 m c]
  blk_ext [iblk, h0]

/-- The keys of the block before. -/
theorem read1 (R : Fin 512) (C : Fin 1024) (h : (t.val / 16 * 16 + (t.val % 16 - 1)) * 512 + R.val < 32768) :
    (iblk m c 1 t : S512x1024.Idx → EReal) (ix2 R C)
      = m ((c : Thread nD τ).loc main_arg1) (ix2 ⟨(t.val / 16 * 16 + (t.val % 16 - 1)) * 512 + R.val, h⟩ ⟨C.val, by omega⟩) := by
  obtain ⟨h0, h1, h2, h3, h4, h5, h6⟩ := win_idx t
  rw [← V_main_arg1 m c]
  blk_ext [iblk, h1]

/-- The keys of a block. -/
theorem read2 (R : Fin 512) (C : Fin 1024) (h : t.val * 512 + R.val < 32768) :
    (iblk m c 2 t : S512x1024.Idx → EReal) (ix2 R C) = m ((c : Thread nD τ).loc main_arg1) (ix2 ⟨t.val * 512 + R.val, h⟩ ⟨C.val, by omega⟩) := by
  obtain ⟨h0, h1, h2, h3, h4, h5, h6⟩ := win_idx t
  rw [← V_main_arg1 m c]
  blk_ext [iblk, h2]

/-- The values of the block before. -/
theorem read3 (R : Fin 512) (C : Fin 1024) (h : (t.val / 16 * 16 + (t.val % 16 - 1)) * 512 + R.val < 32768) :
    (iblk m c 3 t : S512x1024.Idx → EReal) (ix2 R C)
      = m ((c : Thread nD τ).loc main_arg1) (ix2 ⟨(t.val / 16 * 16 + (t.val % 16 - 1)) * 512 + R.val, h⟩ ⟨1024 + C.val, by omega⟩) := by
  obtain ⟨h0, h1, h2, h3, h4, h5, h6⟩ := win_idx t
  rw [← V_main_arg1 m c]
  blk_ext [iblk, h3]

/-- The values of a block. -/
theorem read4 (R : Fin 512) (C : Fin 1024) (h : t.val * 512 + R.val < 32768) :
    (iblk m c 4 t : S512x1024.Idx → EReal) (ix2 R C) = m ((c : Thread nD τ).loc main_arg1) (ix2 ⟨t.val * 512 + R.val, h⟩ ⟨1024 + C.val, by omega⟩) := by
  obtain ⟨h0, h1, h2, h3, h4, h5, h6⟩ := win_idx t
  rw [← V_main_arg1 m c]
  blk_ext [iblk, h4]

/-- The bias, whole at every point. -/
theorem read5 (h : Fin 16) (i : Fin 64) (j : Fin 640) :
    (iblk m c 5 t : S16x64x640.Idx → EReal) (ix3 h i j)
      = m ((c : Thread nD τ).loc main_arg2) (ix3 0 h ⟨min (639 + i.val - j.val) 319, by omega⟩) := by
  obtain ⟨h0, h1, h2, h3, h4, h5, h6⟩ := win_idx t
  rw [← biasOf_at (m ((c : Thread nD τ).loc main_arg2)) h i j, ← bias_eq (F := Ideal) m c]
  blk_ext [iblk, h5]

end Cert.KernelIdeal.Att

end
-- ==== Proof.RefStages.lean ====
module

public import proofs.«01_k».proof.Proof.Gen.ReferenceIdeal.Run

/-! The reference's result, cut into the stages its text has: the bias, the banded keys and values, the masked scores,
the exponentials, the mix. -/

@[expose] public section

set_option maxRecDepth 16384

noncomputable section

namespace Cert.ReferenceIdeal.Stages

open Idealize.ShloMosaic Idealize.ShloMosaic.TcCoe Idealize.SL.Sem
open Cert.ReferenceIdeal Cert.ReferenceIdeal.Gen Cert.ReferenceIdeal.Value Facts

variable {F : FTy → Type} [FloatOps F]

/-- The position in the padded sequence of band column `j` of chunk `n`: `64 n + j`. -/
def posI : IVec S128x576 32 :=
  addi (broadcastInDim S128x576 ![0, 1] bcast_S128x1_S128x576_0_1 (muli (broadcastInDim S128x1 ![0] bcast_S128_S128x1_0 (iotaInDim S128 32 0)) (broadcastInDim S128x1 ![] bcast_S_S128x1 (constantI S_ 32 64#32)))) (broadcastInDim S128x576 ![0, 1] bcast_S1x576_S128x576_0_1 (broadcastInDim S1x576 ![1] bcast_S576_S1x576_1 (iotaInDim S576 32 0)))

/-- The column of the table of a query row and a band column: their distance, clipped, shifted to start at 0. -/
def distI : IVec S64x576 32 :=
  addi (minsi (broadcastInDim S64x576 ![] bcast_S_S64x576 (id (constantI S_ 32 256#32))) (maxsi (broadcastInDim S64x576 ![] bcast_S_S64x576 (id (constantI S_ 32 4294967233#32))) (subi (broadcastInDim S64x576 ![0, 1] bcast_S64x1_S64x576_0_1 (addi (broadcastInDim S64x1 ![0] bcast_S64_S64x1_0 (iotaInDim S64 32 0)) (broadcastInDim S64x1 ![] bcast_S_S64x1 (constantI S_ 32 512#32)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 63#32))

/-- The relative-position bias of every head, query row and band column. -/
def biasR (B : FVec F S1x16x320 .f32) : FVec F S16x64x576 .f32 :=
  Host.gather gather_S16x320_S64x576x1_S16x64x576_0_1_n_n_1_2_161 (shapeCast _ B shapeCasts_S1x16x320_S16x320) (broadcastInDim S64x576x1 ![0, 1] bcast_S64x576_S64x576x1_0_1 (select (cmpi .slt distI (broadcastInDim S64x576 ![] bcast_S_S64x576 (constantI S_ 32 0#32))) (addi distI (broadcastInDim S64x576 ![] bcast_S_S64x576 (constantI S_ 32 320#32))) distI))

/-- The keys each chunk sees. -/
def bandK (KV : FVec F S32768x2048 .bf16) : FVec F S4x16x128x576x64 .f32 :=
  Host.gather gather_S4x16x8704x64_S128x576x1_S4x16x128x576x64_014_2_n_n_2_2_416164 (pad S4x16x8704x64 ![0, 0, 512, 0] ![0, 0, 0, 0] ![0, 0, 0, 0] (transpose S4x16x8192x64 [0, 2, 1, 3] (shapeCast _ (extractStridedSlice S32768x1024 ![0, 0] (extf .f32 KV bitsLt_bf16_f32) slices_S32768x2048_S32768x1024_0_0) shapeCasts_S32768x1024_S4x8192x16x64) transposes_S4x8192x16x64_S4x16x8192x64_0_2_1_3) (sitofp .f32 (constantI S_ 32 0#32)) pads_S4x16x8192x64_S4x16x8704x64_000_000_51200_000 h_S_) (broadcastInDim S128x576x1 ![0, 1] bcast_S128x576_S128x576x1_0_1 (select (cmpi .slt posI (broadcastInDim S128x576 ![] bcast_S_S128x576 (constantI S_ 32 0#32))) (addi posI (broadcastInDim S128x576 ![] bcast_S_S128x576 (constantI S_ 32 8704#32))) posI))

/-- The values each chunk sees. -/
def bandV (KV : FVec F S32768x2048 .bf16) : FVec F S4x16x128x576x64 .f32 :=
  Host.gather gather_S4x16x8704x64_S128x576x1_S4x16x128x576x64_014_2_n_n_2_2_416164 (pad S4x16x8704x64 ![0, 0, 512, 0] ![0, 0, 0, 0] ![0, 0, 0, 0] (transpose S4x16x8192x64 [0, 2, 1, 3] (shapeCast _ (extractStridedSlice S32768x1024 ![0, 1024] (extf .f32 KV bitsLt_bf16_f32) slices_S32768x2048_S32768x1024_0_1024) shapeCasts_S32768x1024_S4x8192x16x64) transposes_S4x8192x16x64_S4x16x8192x64_0_2_1_3) (sitofp .f32 (constantI S_ 32 0#32)) pads_S4x16x8192x64_S4x16x8704x64_000_000_51200_000 h_S_) (broadcastInDim S128x576x1 ![0, 1] bcast_S128x576_S128x576x1_0_1 (select (cmpi .slt posI (broadcastInDim S128x576 ![] bcast_S_S128x576 (constantI S_ 32 0#32))) (addi posI (broadcastInDim S128x576 ![] bcast_S_S128x576 (constantI S_ 32 8704#32))) posI))

/-- The scaled queries, chunk by chunk. -/
def scaledQ (Q : FVec F S32768x1024 .bf16) : FVec F S128x4x16x64x64 .f32 :=
  mulf (transpose S128x4x16x64x64 [1, 0, 3, 2, 4] (shapeCast _ (extf .f32 Q bitsLt_bf16_f32) shapeCasts_S32768x1024_S4x128x64x16x64) transposes_S4x128x64x16x64_S128x4x16x64x64_1_0_3_2_4) (broadcastInDim S128x4x16x64x64 ![] bcast_S_S128x4x16x64x64 (constant S_ .f32 0x3E000000#32))

/-- The masked scores. -/
def scoreR (Q : FVec F S32768x1024 .bf16) (KV : FVec F S32768x2048 .bf16) (B : FVec F S1x16x320 .f32) : FVec F S128x4x16x64x576 .f32 :=
  select (broadcastInDim S128x4x16x64x576 ![0, 1, 2, 3, 4] bcast_S128x1x1x1x576_S128x4x16x64x576_0_1_2_3_4 (broadcastInDim S128x1x1x1x576 ![0, 4] bcast_S128x576_S128x1x1x1x576_0_4 (cmpi .sge (subi posI (broadcastInDim S128x576 ![] bcast_S_S128x576 (constantI S_ 32 512#32))) (broadcastInDim S128x576 ![] bcast_S_S128x576 (constantI S_ 32 0#32))))) (addf (Host.dotGeneral dot_S128x4x16x64x64_S4x16x128x576x64_S128x4x16x64x576_4_4_3_3_012_201 none (scaledQ Q) (bandK KV)) (broadcastInDim S128x4x16x64x576 ![0, 1, 2, 3, 4] bcast_S1x1x16x64x576_S128x4x16x64x576_0_1_2_3_4 (broadcastInDim S1x1x16x64x576 ![2, 3, 4] bcast_S16x64x576_S1x1x16x64x576_2_3_4 (biasR B)))) (broadcastInDim S128x4x16x64x576 ![] bcast_S_S128x4x16x64x576 (id (constant S_ .f32 0xFF800000#32)))

/-- The exponentials of the scores less their row's maximum. -/
def expR (S : FVec F S128x4x16x64x576 .f32) : FVec F S128x4x16x64x576 .f32 :=
  Host.exp (subf S (broadcastInDim S128x4x16x64x576 ![0, 1, 2, 3, 4] bcast_S128x4x16x64x1_S128x4x16x64x576_0_1_2_3_4 (broadcastInDim S128x4x16x64x1 ![0, 1, 2, 3] bcast_S128x4x16x64_S128x4x16x64x1_0_1_2_3 (maximumf (broadcastInDim S128x4x16x64 ![] bcast_S_S128x4x16x64 (constant S_ .f32 0xFF800000#32)) (Host.reduce FloatOps.maximumf S (constant S_ .f32 0xFF800000#32) reducesTo_S128x4x16x64x576_S128x4x16x64_d4 h_S_)))))

/-- The softmax's weights against the values, the heads side by side again. -/
def mixR (E : FVec F S128x4x16x64x576 .f32) (V : FVec F S4x16x128x576x64 .f32) : FVec F S32768x1024 .bf16 :=
  truncf .bf16 (shapeCast _ (transpose S4x128x64x16x64 [1, 0, 3, 2, 4] (Host.dotGeneral dot_S128x4x16x64x576_S4x16x128x576x64_S128x4x16x64x64_4_3_3_4_012_201 none (Host.divf E (broadcastInDim S128x4x16x64x576 ![0, 1, 2, 3, 4] bcast_S128x4x16x64x1_S128x4x16x64x576_0_1_2_3_4 (broadcastInDim S128x4x16x64x1 ![0, 1, 2, 3] bcast_S128x4x16x64_S128x4x16x64x1_0_1_2_3 (Host.reduceAdd E (constant S_ .f32 0x00000000#32) reducesTo_S128x4x16x64x576_S128x4x16x64_d4 h_S_)))) V) transposes_S128x4x16x64x64_S4x128x64x16x64_1_0_3_2_4) shapeCasts_S4x128x64x16x64_S32768x1024) bitsLt_bf16_f32

/-- The reference's result is its stages, one after the other. -/
theorem res_eq (m : (ℓ : Loc nD τ sig) → Buf (Elt F) ℓ) (c : Dev nD) :
    res_main_v80 m c = mixR (expR (scoreR (m ((c.tc : Thread nD τ).loc main_arg0)) (m ((c.tc : Thread nD τ).loc main_arg1)) (m ((c.tc : Thread nD τ).loc main_arg2)))) (bandV (m ((c.tc : Thread nD τ).loc main_arg1))) := rfl

end Cert.ReferenceIdeal.Stages
-- ==== Proof.RefAt.lean ====
module

public import proofs.«01_k».proof.Proof.RefStages
public import proofs.«01_k».proof.Proof.Attention
public import Idealize.ShloMosaic.Lib.Pointwise

@[expose] public section

open Idealize.ShloMosaic Idealize.ShloMosaic.TcCoe Idealize.SL.Sem
open Cert.ReferenceIdeal Cert.ReferenceIdeal.Gen Cert.ReferenceIdeal.Stages
set_option maxRecDepth 16384

/-! The reference's result at an index is the formula of `Attention.lean`. -/
namespace Cert.ReferenceIdeal.At

/-- The table looked up at an index. -/
theorem gatherB {α : Type} (x : S16x320.Idx → α) (idx : IVec S64x576x1 32) (h : Fin 16) (q : Fin 64) (k : Fin 576) :
    Host.gather gather_S16x320_S64x576x1_S16x64x576_0_1_n_n_1_2_161 x idx (ix3 h q k)
      = x (ix2 h ⟨min (idx (ix3 q k 0)).toInt.toNat 319, by omega⟩) := by
  unfold Host.gather
  congr 1
  funext a
  refine Fin.ext ?_
  show GatherDims.start _ _ idx a + GatherDims.batchCoord _ _ a + GatherDims.offCoord _ _ a = _
  match a with
  | ⟨0, _⟩ => exact (Nat.zero_add _)
  | ⟨1, _⟩ =>
    unfold GatherDims.start
    refine (congrArg (· + _ + _) (dif_pos (show (1 : Fin 2) ∈ GatherDims.startIndexMap gather_S16x320_S64x576x1_S16x64x576_0_1_n_n_1_2_161 from List.mem_singleton.mpr rfl))).trans ?_
    refine congrArg (fun z => min (idx z).toInt.toNat 319) (?_ : _ = ix3 q k 0)
    funext b; refine Fin.ext ?_
    match b with
    | ⟨0, _⟩ => rfl
    | ⟨1, _⟩ => rfl
    | ⟨2, _⟩ => rfl

/-- The padded sequence looked up at an index. -/
theorem gatherK {α : Type} (x : S4x16x8704x64.Idx → α) (idx : IVec S128x576x1 32) (n : Fin 128) (b : Fin 4) (h : Fin 16) (d : Fin 64) (k : Fin 576) :
    Host.gather gather_S4x16x8704x64_S128x576x1_S4x16x128x576x64_014_2_n_n_2_2_416164 x idx (ix5 b h n k d)
      = x (ix4 b h ⟨min (idx (ix3 n k 0)).toInt.toNat 8703, by omega⟩ d) := by
  unfold Host.gather
  congr 1
  funext a
  refine Fin.ext ?_
  show GatherDims.start _ _ idx a + GatherDims.batchCoord _ _ a + GatherDims.offCoord _ _ a = _
  match a with
  | ⟨0, _⟩ => exact (Nat.zero_add _)
  | ⟨1, _⟩ => exact (Nat.zero_add _)
  | ⟨3, _⟩ => exact (Nat.zero_add _)
  | ⟨2, _⟩ =>
    unfold GatherDims.start
    refine (congrArg (· + _ + _) (dif_pos (show (2 : Fin 4) ∈ GatherDims.startIndexMap gather_S4x16x8704x64_S128x576x1_S4x16x128x576x64_014_2_n_n_2_2_416164 from List.mem_singleton.mpr rfl))).trans ?_
    refine congrArg (fun z => min (idx z).toInt.toNat 8703) (?_ : _ = ix3 n k 0)
    funext b; refine Fin.ext ?_
    match b with
    | ⟨0, _⟩ => rfl
    | ⟨1, _⟩ => rfl
    | ⟨2, _⟩ => rfl

/-- The row maximum, as a fold. -/
theorem rowMax_at (S : FVec Ideal S128x4x16x64x576 .f32) (n : Fin 128) (b : Fin 4) (h : Fin 16) (q : Fin 64) :
   (Host.reduce FloatOps.maximumf S (constant S_ .f32 0xFF800000#32) Gen.reducesTo_S128x4x16x64x576_S128x4x16x64_d4 Gen.h_S_) (ix4 n b h q)
    = (Finset.univ.fold max (⊥ : EReal) (fun x : Fin 576 => (S (ix5 n b h q x) : EReal)) : EReal) := by
  rw [Host.reduce_eq_fold_single _ _ _ _ (by decide : S128x4x16x64x576.Reduces [4] S128x4x16x64)]
  have e : Ideal.ofBits .f32 4286578688#32 = ⊥ := by
    simp [Ideal.ofBits, Ideal.ieee]
  have e2 : ∀ x : Fin 576, (by decide : S128x4x16x64x576.Reduces [4] S128x4x16x64).lift (ix4 n b h q) x = ix5 n b h q x := by
    intro x
    funext a
    match a with
    | ⟨0, _⟩ => rfl
    | ⟨1, _⟩ => rfl
    | ⟨2, _⟩ => rfl
    | ⟨3, _⟩ => rfl
    | ⟨4, _⟩ => rfl
  show Finset.fold max (Ideal.ofBits .f32 4286578688#32) _ _ = _
  rw [e]
  exact Finset.fold_congr fun x _ => congrArg S (e2 x)

theorem dist_word : ∀ x : Fin 639, IntOp.addi
      (IntOp.minsi 256#32 (IntOp.maxsi 4294967233#32 (BitVec.ofNat 32 x.val - 63#32))) 63#32 =
    BitVec.ofNat 32 (min x.val 319) := by decide +kernel

/-- The column of the table, clipped. -/
theorem distI_at (q : Fin 64) (k : Fin 576) : distI (ix2 q k) = BitVec.ofNat 32 (min (575 + q.val - k.val) 319) := by
  pointwise [distI]
  have e : IntOp.subi (IntOp.addi (BitVec.ofNat 32 ↑q) 512#32) (BitVec.ofNat 32 ↑k) = BitVec.ofNat 32 (575 + q.val - k.val) - 63#32 := by
    show BitVec.ofNat 32 ↑q + 512#32 - BitVec.ofNat 32 ↑k = _
    apply BitVec.eq_of_toNat_eq
    simp only [BitVec.toNat_sub, BitVec.toNat_add, BitVec.toNat_ofNat]
    omega
  rw [e]
  exact dist_word ⟨575 + q.val - k.val, by omega⟩

/-- The position of a band column in the padded sequence. -/
theorem posI_at (q : Fin 128) (k : Fin 576) : posI (ix2 q k) = BitVec.ofNat 32 (q.val * 64 + k.val) := by
  pointwise [posI]
  show BitVec.ofNat 32 q.val * 64#32 + BitVec.ofNat 32 k.val = _
  apply BitVec.eq_of_toNat_eq
  simp only [BitVec.toNat_mul, BitVec.toNat_add, BitVec.toNat_ofNat]
  omega

theorem col_word : ∀ x : Fin 320, (Scalar.select (IntOp.cmpi .slt (BitVec.ofNat 32 x.val) 0#32)
    (IntOp.addi (BitVec.ofNat 32 x.val) 320#32) (BitVec.ofNat 32 x.val)).toInt.toNat = x.val := by decide +kernel

theorem pos_word : ∀ x : Fin 8704, (Scalar.select (IntOp.cmpi .slt (BitVec.ofNat 32 x.val) 0#32)
    (IntOp.addi (BitVec.ofNat 32 x.val) 8704#32) (BitVec.ofNat 32 x.val)).toInt.toNat = x.val := by decide +kernel

theorem mask_word : ∀ x : Fin 8704, IntOp.cmpi .sge (IntOp.subi (BitVec.ofNat 32 x.val) 512#32) 0#32
    = if 512 ≤ x.val then 1#1 else 0#1 := by decide +kernel

theorem negInf : Ideal.ofBits .f32 4286578688#32 = ⊥ := by
  simp [Ideal.ofBits, Ideal.ieee]

/-- The table without its leading axis of one. -/
theorem table_at (B : FVec Ideal S1x16x320 .f32) (h : Fin 16) (x : Fin 320) :
    shapeCast S16x320 B shapeCasts_S1x16x320_S16x320 (ix2 h x) = B (ix3 0 h x) := by
  pointwise

/-- The reference's bias at an index. -/
theorem biasR_at (B : FVec Ideal S1x16x320 .f32) (h : Fin 16) (q : Fin 64) (k : Fin 576) :
    biasR B (ix3 h q k) = B (ix3 0 h ⟨min (575 + q.val - k.val) 319, by omega⟩) := by
  unfold biasR
  rw [gatherB]
  have e : ((broadcastInDim S64x576x1 ![0, 1] bcast_S64x576_S64x576x1_0_1 (select (cmpi .slt distI (broadcastInDim S64x576 ![] bcast_S_S64x576 (constantI S_ 32 0#32))) (addi distI (broadcastInDim S64x576 ![] bcast_S_S64x576 (constantI S_ 32 320#32))) distI)) (ix3 q k 0)).toInt.toNat = min (575 + q.val - k.val) 319 := by
    pointwise
    rw [distI_at]
    exact col_word ⟨min (575 + q.val - k.val) 319, by omega⟩
  have e' : min (min (575 + q.val - k.val) 319) 319 = min (575 + q.val - k.val) 319 := by omega
  simp only [e, e']
  exact table_at B h _

/-- The padded keys at an index. -/
theorem padK_at (KV : FVec Ideal S32768x2048 .bf16) (b : Fin 4) (h : Fin 16) (k : Fin 8704) (d : Fin 64) :
    (pad S4x16x8704x64 ![0, 0, 512, 0] ![0, 0, 0, 0] ![0, 0, 0, 0] (transpose S4x16x8192x64 [0, 2, 1, 3] (shapeCast _ (extractStridedSlice S32768x1024 ![0, 0] (extf .f32 KV bitsLt_bf16_f32) slices_S32768x2048_S32768x1024_0_0) shapeCasts_S32768x1024_S4x8192x16x64) transposes_S4x8192x16x64_S4x16x8192x64_0_2_1_3) (sitofp .f32 (constantI S_ 32 0#32)) pads_S4x16x8192x64_S4x16x8704x64_000_000_51200_000 h_S_) (ix4 b h k d)
      = if 512 ≤ k.val then KV (ix2 ⟨b.val * 8192 + (k.val - 512), by omega⟩ ⟨h.val * 64 + d.val, by omega⟩) else (0 : EReal) := by
  pointwise
  by_cases hk : 512 ≤ k.val
  · rw [dif_pos ⟨hk, by omega⟩, if_pos hk]
  · rw [dif_neg fun h => hk h.1, if_neg hk]
    show (((0#32 : BitVec 32).toInt : ℝ) : EReal) = 0
    simp

/-- The banded keys at an index. -/
theorem bandK_at (KV : FVec Ideal S32768x2048 .bf16) (n : Fin 128) (b : Fin 4) (h : Fin 16) (k : Fin 576) (d : Fin 64) :
    bandK KV (ix5 b h n k d)
      = if 512 ≤ n.val * 64 + k.val then KV (ix2 ⟨b.val * 8192 + (n.val * 64 + k.val - 512), by omega⟩ ⟨h.val * 64 + d.val, by omega⟩) else (0 : EReal) := by
  unfold bandK
  rw [gatherK]
  rw [padK_at]
  have e : ((broadcastInDim S128x576x1 ![0, 1] bcast_S128x576_S128x576x1_0_1 (select (cmpi .slt posI (broadcastInDim S128x576 ![] bcast_S_S128x576 (constantI S_ 32 0#32))) (addi posI (broadcastInDim S128x576 ![] bcast_S_S128x576 (constantI S_ 32 8704#32))) posI)) (ix3 n k 0)).toInt.toNat = n.val * 64 + k.val := by
    pointwise
    rw [posI_at]
    exact pos_word ⟨n.val * 64 + k.val, by omega⟩
  have e' : min (n.val * 64 + k.val) 8703 = n.val * 64 + k.val := by omega
  simp only [e, e']

/-- The padded values at an index. -/
theorem padV_at (KV : FVec Ideal S32768x2048 .bf16) (b : Fin 4) (h : Fin 16) (k : Fin 8704) (d : Fin 64) :
    (pad S4x16x8704x64 ![0, 0, 512, 0] ![0, 0, 0, 0] ![0, 0, 0, 0] (transpose S4x16x8192x64 [0, 2, 1, 3] (shapeCast _ (extractStridedSlice S32768x1024 ![0, 1024] (extf .f32 KV bitsLt_bf16_f32) slices_S32768x2048_S32768x1024_0_1024) shapeCasts_S32768x1024_S4x8192x16x64) transposes_S4x8192x16x64_S4x16x8192x64_0_2_1_3) (sitofp .f32 (constantI S_ 32 0#32)) pads_S4x16x8192x64_S4x16x8704x64_000_000_51200_000 h_S_) (ix4 b h k d)
      = if 512 ≤ k.val then KV (ix2 ⟨b.val * 8192 + (k.val - 512), by omega⟩ ⟨1024 + (h.val * 64 + d.val), by omega⟩) else (0 : EReal) := by
  pointwise
  by_cases hk : 512 ≤ k.val
  · rw [dif_pos ⟨hk, by omega⟩, if_pos hk]
  · rw [dif_neg fun h => hk h.1, if_neg hk]
    show (((0#32 : BitVec 32).toInt : ℝ) : EReal) = 0
    simp

/-- The banded values at an index. -/
theorem bandV_at (KV : FVec Ideal S32768x2048 .bf16) (n : Fin 128) (b : Fin 4) (h : Fin 16) (k : Fin 576) (d : Fin 64) :
    bandV KV (ix5 b h n k d)
      = if 512 ≤ n.val * 64 + k.val then KV (ix2 ⟨b.val * 8192 + (n.val * 64 + k.val - 512), by omega⟩ ⟨1024 + (h.val * 64 + d.val), by omega⟩) else (0 : EReal) := by
  unfold bandV
  rw [gatherK]
  rw [padV_at]
  have e : ((broadcastInDim S128x576x1 ![0, 1] bcast_S128x576_S128x576x1_0_1 (select (cmpi .slt posI (broadcastInDim S128x576 ![] bcast_S_S128x576 (constantI S_ 32 0#32))) (addi posI (broadcastInDim S128x576 ![] bcast_S_S128x576 (constantI S_ 32 8704#32))) posI)) (ix3 n k 0)).toInt.toNat = n.val * 64 + k.val := by
    pointwise
    rw [posI_at]
    exact pos_word ⟨n.val * 64 + k.val, by omega⟩
  have e' : min (n.val * 64 + k.val) 8703 = n.val * 64 + k.val := by omega
  simp only [e, e']

/-- The scaled queries at an index. -/
theorem scaledQ_at (Q : FVec Ideal S32768x1024 .bf16) (n : Fin 128) (b : Fin 4) (h : Fin 16) (q : Fin 64) (d : Fin 64) :
    scaledQ Q (ix5 n b h q d) = Q (ix2 ⟨b.val * 8192 + n.val * 64 + q.val, by omega⟩ ⟨h.val * 64 + d.val, by omega⟩) * Cert.Att.sc := by
  pointwise [scaledQ]
  rfl

/-- The reference's scores at an index. -/
theorem scoreR_at (Q : FVec Ideal S32768x1024 .bf16) (KV : FVec Ideal S32768x2048 .bf16) (B : FVec Ideal S1x16x320 .f32)
    (n : Fin 128) (b : Fin 4) (h : Fin 16) (q : Fin 64) (k : Fin 576) :
    scoreR Q KV B (ix5 n b h q k)
      = Cert.Att.score (fun i j => Q (ix2 i j)) (fun i j => KV (ix2 i j)) (fun i j => B (ix3 0 i j)) n b h q k := by
  pointwise [scoreR]
  rw [posI_at]
  have e := mask_word ⟨n.val * 64 + k.val, by omega⟩
  simp only at e
  rw [e]
  unfold Cert.Att.score
  by_cases hk : 512 ≤ n.val * 64 + k.val
  · rw [if_pos hk, if_pos hk]
    show (∑ x, _) + _ = _
    rw [biasR_at]
    congr 1
    refine Finset.sum_congr rfl fun d _ => ?_
    rw [scaledQ_at, bandK_at, if_pos hk]
  · rw [if_neg hk, if_neg hk]
    exact negInf

theorem expR_aux (S : FVec Ideal S128x4x16x64x576 .f32) (M : FVec Ideal S128x4x16x64 .f32) (n : Fin 128) (b : Fin 4) (h : Fin 16) (q : Fin 64) (k : Fin 576) :
   Host.exp (subf S (broadcastInDim S128x4x16x64x576 ![0, 1, 2, 3, 4] bcast_S128x4x16x64x1_S128x4x16x64x576_0_1_2_3_4 (broadcastInDim S128x4x16x64x1 ![0, 1, 2, 3] bcast_S128x4x16x64_S128x4x16x64x1_0_1_2_3 (maximumf (broadcastInDim S128x4x16x64 ![] bcast_S_S128x4x16x64 (constant S_ .f32 0xFF800000#32)) M)))) (ix5 n b h q k) = Ideal.exp (S (ix5 n b h q k) - max (Ideal.ofBits .f32 4286578688#32) (M (ix4 n b h q))) := by
  pointwise

/-- The exponentials at an index. -/
theorem expR_at (S : FVec Ideal S128x4x16x64x576 .f32) (n : Fin 128) (b : Fin 4) (h : Fin 16) (q : Fin 64) (k : Fin 576) :
    expR S (ix5 n b h q k) = Ideal.exp (S (ix5 n b h q k) - Cert.Att.top fun x : Fin 576 => S (ix5 n b h q x)) := by
  unfold expR
  rw [expR_aux, rowMax_at, negInf, max_eq_right bot_le]
  rfl

/-- The mix at an index. -/
theorem mixR_at (E : FVec Ideal S128x4x16x64x576 .f32) (V : FVec Ideal S4x16x128x576x64 .f32) (R : Fin 32768) (C : Fin 1024) :
    mixR E V (ix2 R C) = ∑ x : Fin 576,
      Ideal.div (E (ix5 ⟨R.val / 64 % 128, by omega⟩ ⟨R.val / 8192, by omega⟩ ⟨C.val / 64, by omega⟩ ⟨R.val % 64, by omega⟩ x))
        (∑ y : Fin 576, E (ix5 ⟨R.val / 64 % 128, by omega⟩ ⟨R.val / 8192, by omega⟩ ⟨C.val / 64, by omega⟩ ⟨R.val % 64, by omega⟩ y))
        * V (ix5 ⟨R.val / 8192, by omega⟩ ⟨C.val / 64, by omega⟩ ⟨R.val / 64 % 128, by omega⟩ x ⟨C.val % 64, by omega⟩) := by
  pointwise [mixR]

/-- The reference's result at an index is the softmax formula. -/
theorem ref_at (Q : FVec Ideal S32768x1024 .bf16) (KV : FVec Ideal S32768x2048 .bf16) (B : FVec Ideal S1x16x320 .f32)
    (R : Fin 32768) (C : Fin 1024) :
    mixR (expR (scoreR Q KV B)) (bandV KV) (ix2 R C)
      = Cert.Att.attR
          (Cert.Att.score (fun i j => Q (ix2 i j)) (fun i j => KV (ix2 i j)) (fun i j => B (ix3 0 i j))
            ⟨R.val / 64 % 128, by omega⟩ ⟨R.val / 8192, by omega⟩ ⟨C.val / 64, by omega⟩ ⟨R.val % 64, by omega⟩)
          (Cert.Att.val (fun i j => KV (ix2 i j)) ⟨R.val / 64 % 128, by omega⟩ ⟨R.val / 8192, by omega⟩ C) := by
  rw [mixR_at]
  unfold Cert.Att.attR
  refine Finset.sum_congr rfl fun x _ => ?_
  simp only [expR_at, scoreR_at]
  congr 1
  rw [bandV_at]
  unfold Cert.Att.val
  have e : 1024 + (C.val / 64 * 64 + C.val % 64) = 1024 + C.val := by omega
  simp only [e]

end Cert.ReferenceIdeal.At

end
-- ==== Proof.Finite.lean ====
module

public import proofs.«01_k».proof.Pre_finite
public import proofs.«01_k».proof.Proof.Attention
public import Idealize.ShloMosaic.Lib.ReduceAll

@[expose] public section

open Idealize.ShloMosaic Idealize.SL.Sem

/-! What the precondition says of the arguments, and that finite queries, keys and biases make finite scores. -/
namespace Cert.Att

/-- The word for infinity is the top of the extended reals. -/
theorem posInf : Ideal.ofBits .f32 0x7F800000#32 = (⊤ : EReal) := by
  unfold Ideal.ofBits
  rfl

/-- A number of absolute value below infinity is a real. -/
theorem real_of_abs (x : EReal) (h : Ideal.cmp .olt (max x (-x)) (Ideal.ofBits .f32 0x7F800000#32) = 1#1) : ∃ r : ℝ, x = (r : EReal) := by
  rw [posInf] at h
  have h' : max x (-x) < ⊤ := by
    by_contra hn
    unfold Ideal.cmp at h
    simp [hn] at h
  obtain ⟨h1, h2⟩ := max_lt_iff.1 h'
  induction x using EReal.rec with
  | bot => exact absurd h2 (by simp)
  | top => exact absurd h1 (by simp)
  | coe r => exact ⟨r, rfl⟩

/-- The precondition, read at the entries. -/
theorem finite_entries [Cert.Pre_finite.Facts] (Q : FVec Ideal Cert.Pre_finite.S32768x1024 .bf16) (KV : FVec Ideal Cert.Pre_finite.S32768x2048 .bf16)
    (B : FVec Ideal Cert.Pre_finite.S1x16x320 .f32) (h : Cert.Pre_finite.fn (F := Ideal) Q KV B = fun _ => 1#1) :
    (∀ i, ∃ r : ℝ, (Q i : EReal) = r) ∧ (∀ (R : Fin 32768) (C : Fin 1024), ∃ r : ℝ, (KV (ix2 R ⟨C.val, by omega⟩) : EReal) = r)
      ∧ ∀ i, ∃ r : ℝ, (B i : EReal) = r := by
  haveI : Subsingleton Cert.Pre_finite.S_.Idx := ⟨fun a b => funext fun d => d.elim0⟩
  have h0 := congrFun h (fun d => d.elim0)
  dsimp only [Cert.Pre_finite.fn] at h0
  obtain ⟨hqk, hb⟩ := IntOp.andi_eq_one.1 h0
  obtain ⟨hq, hk⟩ := IntOp.andi_eq_one.1 hqk
  refine ⟨fun i => ?_, fun R C => ?_, fun i => ?_⟩
  · exact real_of_abs _ (Host.reduce_andi_all _ _ _ _ _ hq i)
  · have := Host.reduce_andi_all _ _ _ _ _ hk (ix2 R C)
    obtain ⟨r, hr⟩ := real_of_abs _ this
    refine ⟨r, Eq.trans (congrArg KV ?_) hr⟩
    funext a
    refine Fin.ext ?_
    match a with
    | ⟨0, _⟩ => show R.val = _ + R.val; simp
    | ⟨1, _⟩ => show C.val = _ + C.val; simp
  · exact real_of_abs _ (Host.reduce_andi_all _ _ _ _ _ hb i)

/-- The scale is a real. -/
theorem sc_real : ∃ r : ℝ, sc = (r : EReal) := ⟨_, rfl⟩

/-- With finite queries, keys and biases a score is a real where it is not masked. -/
theorem score_real (q : Fin 32768 → Fin 1024 → EReal) (kv : Fin 32768 → Fin 2048 → EReal) (bias : Fin 16 → Fin 320 → EReal)
    (hq : ∀ i j, ∃ r : ℝ, q i j = r) (hk : ∀ (i : Fin 32768) (j : Fin 1024), ∃ r : ℝ, kv i ⟨j.val, by omega⟩ = r) (hb : ∀ i j, ∃ r : ℝ, bias i j = r)
    (n : Fin 128) (b : Fin 4) (h : Fin 16) (r : Fin 64) (j : Fin 576) (hv : 512 ≤ n.val * 64 + j.val) :
    ∃ x : ℝ, score q kv bias n b h r j = (x : EReal) := by
  unfold score
  rw [if_pos hv]
  choose fq hfq using hq
  choose fk hfk using hk
  choose fb hfb using hb
  obtain ⟨s, hs⟩ := sc_real
  refine ⟨(∑ d : Fin 64, fq ⟨b.val * 8192 + n.val * 64 + r.val, by omega⟩ ⟨h.val * 64 + d.val, by omega⟩ * s
        * fk ⟨b.val * 8192 + (n.val * 64 + j.val - 512), by omega⟩ ⟨h.val * 64 + d.val, by omega⟩)
      + fb h ⟨min (575 + r.val - j.val) 319, by omega⟩, ?_⟩
  rw [EReal.coe_add, coe_sum, hfb]
  refine congrArg (· + _) (Finset.sum_congr rfl fun d _ => ?_)
  rw [hfq, hs, EReal.coe_mul, EReal.coe_mul, ← hfk]

/-- With finite queries, keys and biases the two orders of operations give one result. -/
theorem att_score (q : Fin 32768 → Fin 1024 → EReal) (kv : Fin 32768 → Fin 2048 → EReal) (bias : Fin 16 → Fin 320 → EReal)
    (hq : ∀ i j, ∃ r : ℝ, q i j = r) (hk : ∀ (i : Fin 32768) (j : Fin 1024), ∃ r : ℝ, kv i ⟨j.val, by omega⟩ = r) (hb : ∀ i j, ∃ r : ℝ, bias i j = r)
    (n : Fin 128) (b : Fin 4) (h : Fin 16) (r : Fin 64) (v : Fin 576 → EReal) :
    att (score q kv bias n b h r) v = attR (score q kv bias n b h r) v := by
  refine att_eq_attR _ _ (fun j => ?_) ⟨⟨512, by omega⟩, ?_⟩
  · by_cases hv : 512 ≤ n.val * 64 + j.val
    · obtain ⟨x, hx⟩ := score_real q kv bias hq hk hb n b h r j hv
      rw [hx]; exact EReal.coe_ne_top x
    · unfold score; rw [if_neg hv]; exact bot_ne_top
  · obtain ⟨x, hx⟩ := score_real q kv bias hq hk hb n b h r ⟨512, by omega⟩ (by simp only; omega)
    rw [hx]; exact EReal.coe_ne_bot x

end Cert.Att

end
-- ==== Proof.Final.lean ====
module

public import proofs.«01_k».proof.Proof.Reads
public import proofs.«01_k».proof.Proof.RefAt
public import proofs.«01_k».proof.Proof.Finite

@[expose] public section

open Idealize.ShloMosaic Idealize.ShloMosaic.TcCoe Idealize.SL.Sem
set_option maxRecDepth 16384

/-! The kernel's result is the reference's, at every index, for finite queries, keys and biases. -/
namespace Cert.KernelIdeal.Att
open Cert.KernelIdeal Cert.KernelIdeal.Gen

variable (m : (ℓ : Loc nD τ sig) → Buf (Elt Ideal) ℓ) (c : Dev nD) (t : Fin cfg0.N)

/-- The strip of keys holds the batch's keys from 576 rows before the block on. -/
theorem strip_keys (ht : t.val < 64) (X : Fin 1088) (C : Fin 1024) (h : 64 ≤ X.val) (h' : 576 ≤ t.val % 16 * 512 + X.val) :
    strip (iblk m c 1 t) (iblk m c 2 t) X C
      = m ((c : Thread nD τ).loc main_arg1) (ix2 ⟨t.val / 16 * 8192 + (t.val % 16 * 512 + X.val - 576), by omega⟩ ⟨C.val, by omega⟩) := by
  unfold strip
  rw [if_neg (by omega)]
  by_cases hx : X.val < 576
  · rw [if_pos hx, read1 m c t _ _ (by simp only; omega)]
    refine congrArg (fun r => (m ((c : Thread nD τ).loc main_arg1) (ix2 r ⟨C.val, by omega⟩) : EReal)) (Fin.ext ?_)
    simp only; omega
  · rw [if_neg hx, read2 m c t _ _ (by simp only; omega)]
    refine congrArg (fun r => (m ((c : Thread nD τ).loc main_arg1) (ix2 r ⟨C.val, by omega⟩) : EReal)) (Fin.ext ?_)
    simp only; omega

/-- The strip of values likewise. -/
theorem strip_vals (ht : t.val < 64) (X : Fin 1088) (C : Fin 1024) (h : 64 ≤ X.val) (h' : 576 ≤ t.val % 16 * 512 + X.val) :
    strip (iblk m c 3 t) (iblk m c 4 t) X C
      = m ((c : Thread nD τ).loc main_arg1) (ix2 ⟨t.val / 16 * 8192 + (t.val % 16 * 512 + X.val - 576), by omega⟩ ⟨1024 + C.val, by omega⟩) := by
  unfold strip
  rw [if_neg (by omega)]
  by_cases hx : X.val < 576
  · rw [if_pos hx, read3 m c t _ _ (by simp only; omega)]
    refine congrArg (fun r => (m ((c : Thread nD τ).loc main_arg1) (ix2 r ⟨1024 + C.val, by omega⟩) : EReal)) (Fin.ext ?_)
    simp only; omega
  · rw [if_neg hx, read4 m c t _ _ (by simp only; omega)]
    refine congrArg (fun r => (m ((c : Thread nD τ).loc main_arg1) (ix2 r ⟨1024 + C.val, by omega⟩) : EReal)) (Fin.ext ?_)
    simp only; omega

/-- The queries, the keys and values, and the bias table of the arguments. -/
noncomputable abbrev argQ : Fin 32768 → Fin 1024 → EReal := fun i j => m ((c : Thread nD τ).loc main_arg0) (ix2 i j)
@[inherit_doc argQ] noncomputable abbrev argKV : Fin 32768 → Fin 2048 → EReal := fun i j => m ((c : Thread nD τ).loc main_arg1) (ix2 i j)
@[inherit_doc argQ] noncomputable abbrev argB : Fin 16 → Fin 320 → EReal := fun i j => m ((c : Thread nD τ).loc main_arg2) (ix3 0 i j)

/-- An entry of a grid point's output block, of the arguments. -/
theorem entry_at (ht : t.val < 64) (R : Fin 512) (C : Fin 1024) (G : Fin 32768) (hG : G.val = t.val * 512 + R.val) :
    entry (t.val % 16) (iblk m c 0 t) (iblk m c 1 t) (iblk m c 2 t) (iblk m c 3 t) (iblk m c 4 t) (iblk m c 5 t) R C
      = Cert.Att.att
          (Cert.Att.score (argQ m c) (argKV m c) (argB m c)
            ⟨G.val / 64 % 128, by omega⟩ ⟨G.val / 8192, by omega⟩ ⟨C.val / 64, by omega⟩ ⟨G.val % 64, by omega⟩)
          (Cert.Att.val (argKV m c) ⟨G.val / 64 % 128, by omega⟩ ⟨G.val / 8192, by omega⟩ C) := by
  unfold entry
  refine Cert.Att.att_shift _ _ _ _ (fun j hj => if_neg fun h => by omega) (fun j => ?_) (fun j => ?_)
  · unfold Cert.Att.score
    simp only
    refine if_ctx_congr ⟨fun h => by omega, fun h => by omega⟩ (fun hv => ?_) fun _ => rfl
    refine congrArg₂ (· + ·) (Finset.sum_congr rfl fun d _ => congrArg₂ (· * ·) (congrArg (· * Cert.Att.sc) ?_) ?_) ?_
    · rw [read0 m c t _ _ (by omega)]
      refine congrArg (fun r => (m ((c : Thread nD τ).loc main_arg0) (ix2 r _) : EReal)) (Fin.ext ?_)
      simp only; omega
    · rw [strip_keys m c t ht _ _ (by simp only; omega) (by simp only; omega)]
      refine congrArg (fun r => (m ((c : Thread nD τ).loc main_arg1) (ix2 r _) : EReal)) (Fin.ext ?_)
      simp only; omega
    · rw [read5]
      refine congrArg (fun r => (m ((c : Thread nD τ).loc main_arg2) (ix3 0 _ r) : EReal)) (Fin.ext ?_)
      simp only; omega
  · by_cases hv : 512 ≤ G.val / 64 % 128 * 64 + j.val
    · right
      unfold Cert.Att.val
      simp only
      rw [if_pos hv, strip_vals m c t ht _ _ (by simp only; omega) (by simp only; omega)]
      refine congrArg (fun r => (m ((c : Thread nD τ).loc main_arg1) (ix2 r _) : EReal)) (Fin.ext ?_)
      simp only; omega
    · left
      unfold Cert.Att.score
      exact if_neg hv

/-- The result of the kernel is the result of the reference. -/
theorem final (hq : ∀ i j, ∃ r : ℝ, argQ m c i j = r) (hk : ∀ (i : Fin 32768) (j : Fin 1024), ∃ r : ℝ, argKV m c i ⟨j.val, by omega⟩ = r)
    (hb : ∀ i j, ∃ r : ℝ, argB m c i j = r) :
    (dats m 0 c).arrAt 6 cfg0.N
      = Cert.ReferenceIdeal.Stages.mixR (Cert.ReferenceIdeal.Stages.expR (Cert.ReferenceIdeal.Stages.scoreR (F := Ideal)
          (m ((c : Thread nD τ).loc main_arg0)) (m ((c : Thread nD τ).loc main_arg1)) (m ((c : Thread nD τ).loc main_arg2))))
          (Cert.ReferenceIdeal.Stages.bandV (m ((c : Thread nD τ).loc main_arg1))) := by
  refine (dats m 0 c).arrAt_eq_of_covers 6 _ (by decide +kernel) fun t hf y => ?_
  have ht : t.val < 64 := points ▸ t.isLt
  obtain ⟨h0, h1, h2, h3, h4, h5, h6⟩ := win_idx t
  have emb : ((cfg0.win 6).blk t).view.emb y = ix2 (⟨t.val * 512 + (y 0).val, by have := (y 0).isLt; change _ < 512 at this; omega⟩ : Fin 32768) (⟨(y 1).val, (y 1).isLt⟩ : Fin 1024) := by
    blk_ext [h6]
  rw [emb, Cert.ReferenceIdeal.At.ref_at]
  have key : (dats m 0 c).after 6 t y = blockOut (t.val % 16) (iblk m c 0 t) (iblk m c 1 t) (iblk m c 2 t) (iblk m c 3 t) (iblk m c 4 t) (iblk m c 5 t) y := by
    rw [after0_6]; unfold outsAt0
    exact out_at c (grid0.coords t) _ _ _ _ _ _ _ _ _ _ _ _ _ _ _ _ _ _ _ _ _ _ _ _ ⟨t.val % 16, by omega⟩ (point_col t) y
  refine Eq.trans ?_ (key.trans ?_)
  · rfl
  · refine (entry_at m c t ht (y 0) (y 1) ⟨t.val * 512 + (y 0).val, by have := (y 0).isLt; change _ < 512 at this; omega⟩ rfl).trans ?_
    exact Cert.Att.att_score _ _ _ hq hk hb _ _ _ _ _

end Cert.KernelIdeal.Att

end
-- ==== Proof.ExpertRun.lean ====
module

public import proofs.«01_k».proof.Proof.Gen.Kernel2Ideal.Skeleton
public import proofs.«01_k».proof.Proof.Gen.Kernel2Ideal.Launch
public import Idealize.ShloMosaic.Lib.Pipeline.Quiescent
public import Idealize.ShloMosaic.Lib.Pipeline.Kit
public import Idealize.ShloMosaic.Lib.Pipeline.FrameBody
public import Idealize.ShloMosaic.Lib.Pipeline.TableIdle
public import Idealize.ShloMosaic.Lib.Claim
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384

noncomputable section

/-! The call of the routed experts runs, over any float values and for every plan of blocks whose windows lie inside their arrays. -/
namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-- The resources of the call over the float values. -/
abbrev Res (F : FTy → Type) [FloatOps F] := MT nD τ sig Unit (Elt F) ℕ (UR sig nD τ) ℕ

/-! ### One block of rows -/

/-- The table of the blocks' experts and the table of the number of blocks, as the body is handed them. -/
abbrev beM : Memref sig .tc .smem S1280 .i32 := Memref.whole main_v28
@[inherit_doc beM] abbrev nvM : Memref sig .tc .smem S1 .i32 := Memref.whole main_v29

/-- The half of a table that the body holds. -/
abbrev half (c : Dev nD) {S : Shape} (M : Memref sig .tc .smem S .i32) (f : Buf (Elt F) (M.view.loc (c : Thread nD τ))) : sProp (Res F) :=
  M.view.loc (c : Thread nD τ) ↦{fullShare.right} f

/-- The number of blocks, as the body reads it. -/
abbrev count (T : S1.Idx → Elt F .i32) : BitVec 32 :=
  View.readAt (Elt F) nvM.view (Rect.unit (s := S1) ![0] S1.size inb_S1_S1_0).toLoadRect T (Shape.Idx.first (numel1_S1.symm ▸ Nat.one_pos))

/-- A block behind the number of blocks is the second branch, and no other is. -/
theorem cond_iff (i : grid0.Coords) (v : BitVec 32) : k0_cond2 i v = 1#1 ↔ ¬ k0_cond1 i v = 1#1 := by
  unfold k0_cond1 k0_cond2
  generalize BitVec.ofNat 32 (i 0).val = a
  simp only [Scalar.cmpi, IntOp.cmpi, Scalar.extui, BitVec.slt, BitVec.sle]
  by_cases h : v.toInt ≤ a.toInt
  · have h' : ¬ a.toInt < v.toInt := by omega
    simp [h, h']
  · have h' : a.toInt < v.toInt := by omega
    simp [h, h']

/-- What the body leaves in the block of rows: the experts' product, or zeros behind the number of blocks. -/
def blockOut (i : grid0.Coords) (v : BitVec 32) (x0 : Vec F S256x1024 .f32) (x1 : Vec F S1x1x1024x512 .f32) (x2 : Vec F S1x1x256x1024 .f32) :
    Vec F S256x1024 .f32 :=
  if k0_cond1 i v = 1#1 then k0_pay1 x0 x1 x2 else k0_pay2

set_option maxHeartbeats 8000000 in
/-- The body on a block of rows. -/
theorem body_run (c : Dev nD) (i : grid0.Coords) (arg3 : Memref sig .tc .vmem S256x1024 .f32) (harg3 : arg3.IsWhole)
    (arg4 : Memref sig .tc .vmem S1x1x1024x512 .f32) (harg4 : arg4.IsWhole) (arg5 : Memref sig .tc .vmem S1x1x256x1024 .f32) (harg5 : arg5.IsWhole)
    (arg6 : Memref sig .tc .vmem S256x1024 .f32) (harg6 : arg6.IsWhole)
    (x0 : Vec F S256x1024 .f32) (x1 : Vec F S1x1x1024x512 .f32) (x2 : Vec F S1x1x256x1024 .f32) (T0 : S1280.Idx → Elt F .i32) (T1 : S1.Idx → Elt F .i32)
    (K : PUnit → sProp (Res F)) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ half c beM T0 ∗ half c nvM T1
        ∗ (iprop(owns (c : Thread nD τ) arg3 fullShare x0 ∗ owns (c : Thread nD τ) arg4 fullShare x1 ∗ owns (c : Thread nD τ) arg5 fullShare x2
            ∗ owns (c : Thread nD τ) arg6 fullShare (blockOut i (count T1) x0 x1 x2) ∗ half c beM T0 ∗ half c nvM T1) -∗ K ⟨⟩))
      ⊢ wp frame (wpE (defs₀ (F := F)) Variants.none c none) Set.univ
          (cc0_routed_experts i beM (Memref.isWhole_whole _) nvM (Memref.isWhole_whole _) arg3 harg3 arg4 harg4 arg5 harg5 arg6 harg6) K := by
  have hT0 : beM.IsWhole := Memref.isWhole_whole _
  have hT1 : nvM.IsWhole := Memref.isWhole_whole _
  rw [cc0_routed_experts_eq_skeleton]; unfold cc0_routed_experts_skel
  unfold owns
  iintro ⟨⟨%f0, %hf0, H0⟩, ⟨%f1, %hf1, H1⟩, ⟨%f2, %hf2, H2⟩, ⟨%d3, %f3, -, H3⟩, HT0, HT1, Hk⟩
  obtain rfl := harg3.eq_unread hf0; obtain rfl := harg4.eq_unread hf1; obtain rfl := harg5.eq_unread hf2
  by_cases h1 : k0_cond1 i (count T1) = 1#1
  · have h2 : ¬ k0_cond2 i (count T1) = 1#1 := fun h => (cond_iff i _).1 h h1
    sl_exec! (disch := first | (guard_target = k0_cond1 _ _ = _; exact h1) | (guard_target = ¬(k0_cond2 _ _ = _); exact h2))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr
      swap; · iexact H3
      ipureintro
      rw [blockOut, if_pos h1]
      unfold body_run.sl.H3_1
      refine (View.read_writes_full _ _ _ _ _).trans ?_
      rw [View.readAt_full, View.readAt_full, View.readAt_full, hf0, hf1, hf2]
    isplitl [HT0]; · iexact HT0
    iexact HT1
  · have h2 : k0_cond2 i (count T1) = 1#1 := (cond_iff i _).2 h1
    sl_exec! (disch := first | (guard_target = ¬(k0_cond1 _ _ = _); exact h1) | (guard_target = k0_cond2 _ _ = _; exact h2))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr
      swap; · iexact H3
      ipureintro
      rw [blockOut, if_neg h1]
      unfold body_run.sl.H3_1_1
      exact View.read_writes_full _ _ _ _ _
    isplitl [HT0]; · iexact HT0
    iexact HT1

/-! ### The host code before the call -/

variable (m : (ℓ : Loc nD τ sig) → Buf (Elt F) ℓ) (ρ : Dev nD → PrngReg)

/-- What the buffers hold when the call is reached. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

set_option maxHeartbeats 1600000 in
/-- The program is the host code and then the call. -/
theorem host_then_call : Pipeline.HMainP (Ix := Unit) (Name := ℕ) (U := UR sig nD τ) (Lvl := ℕ) pcfgs 0 defs₀ Variants.none m (main (F := F)) (V m) :=
  Pipeline.hmainP_prefixes pcfgs 0 defs₀ Variants.none m main [hostOps0, hostOps0_1, hostOps0_2, hostOps0_3, hostOps0_4, hostOps0_5, hostOps0_6]
    ⟨hostOps0_sub, hostOps0_1_sub, hostOps0_2_sub, hostOps0_3_sub, hostOps0_4_sub, hostOps0_5_sub, hostOps0_6_sub⟩
    (by simp only [List.Forall]; repeat' constructor) main_chain

/-- A buffer that no host operation writes is as it was launched. -/
theorem kept (c : Dev nD) {b : Ref sig .tc}
    (h : (List.flatten [hostOps0 (F := F), hostOps0_1, hostOps0_2, hostOps0_3, hostOps0_4, hostOps0_5, hostOps0_6]).Forall fun op => Proc.devRef (τ := τ) .tc b ∉ op.writes) :
    V m c b = m ((c : Thread nD τ).loc b) :=
  StableHlo.after_of_forall_not_mem (b := Proc.devRef .tc b) _ _ (List.forall_iff_forall_mem.mp h)

/-- The rows reach the call as launched. -/
theorem kept_rows (c : Dev nD) : V m c main_arg0 = m ((c : Thread nD τ).loc main_arg0) := kept m c (by
  simp only [List.flatten_cons, List.flatten_nil, List.append_nil, List.cons_append, List.nil_append, List.Forall]
  repeat' apply And.intro
  all_goals exact fun h => StableHlo.devRef_ne_of_ne (by decide) (Finset.mem_singleton.1 h))
/-- The counts are left as launched. -/
theorem kept_counts (c : Dev nD) : V m c main_arg1 = m ((c : Thread nD τ).loc main_arg1) := kept m c (by
  simp only [List.flatten_cons, List.flatten_nil, List.append_nil, List.cons_append, List.nil_append, List.Forall]
  repeat' apply And.intro
  all_goals exact fun h => StableHlo.devRef_ne_of_ne (by decide) (Finset.mem_singleton.1 h))
/-- The first weights reach the call as launched. -/
theorem kept_up (c : Dev nD) : V m c main_arg2 = m ((c : Thread nD τ).loc main_arg2) := kept m c (by
  simp only [List.flatten_cons, List.flatten_nil, List.append_nil, List.cons_append, List.nil_append, List.Forall]
  repeat' apply And.intro
  all_goals exact fun h => StableHlo.devRef_ne_of_ne (by decide) (Finset.mem_singleton.1 h))
/-- The second weights reach the call as launched. -/
theorem kept_down (c : Dev nD) : V m c main_arg3 = m ((c : Thread nD τ).loc main_arg3) := kept m c (by
  simp only [List.flatten_cons, List.flatten_nil, List.append_nil, List.cons_append, List.nil_append, List.Forall]
  repeat' apply And.intro
  all_goals exact fun h => StableHlo.devRef_ne_of_ne (by decide) (Finset.mem_singleton.1 h))

/-- The two tables as the call finds them. -/
def tabs : pre0.Contents (Elt F) := fun j => V m (0 : Dev nD) (pre0.ref j)

/-- Every device finds these tables, there being one. -/
theorem tabs_eq (c : Dev nD) (j : Fin 2) : V m c (pre0.ref j) = tabs m j := by
  obtain rfl : c = 0 := Subsingleton.elim _ _; rfl

/-- Every block that the tables name lies inside its array. -/
abbrev Fits : Prop := ok0 (F := F) (tabs m)
/-- The tables with that fact, -/
abbrev planOf (hO : Fits m) : (pcfg0 (F := F)).Adm := ⟨tabs m, hO⟩
/-- and the call's pipeline at them. -/
abbrev pipe (hO : Fits m) : Pipeline.Cfg sig Λ₀ := cfg0 (planOf m hO)

/-- The halves of the tables that the body is lent. -/
theorem tabs_lent (c : Dev nD) : (Pipeline.ΦT pre0 (tabs m) c : sProp (Res F)) = iprop(half c beM (tabs m 0) ∗ half c nvM (tabs m 1)) := by
  unfold Pipeline.ΦT Pipeline.prefHeld
  rw [show (Finset.univ : Finset (Fin 2)) = insert (0 : Fin 2) {(1 : Fin 2)} from by decide, bigSep_insert (by decide), bigSep_singleton]
  rfl

/-! ### The blocks and the launch -/

/-- The block of an array at a point of the grid. -/
def block (hO : Fits m) (c : Dev nD) (w : Fin (pipe m hO).W) (t : Fin (pipe m hO).N) :
    (((pipe m hO).win w).xblock ((pipe m hO).grid.coords t)).Idx → Elt F ((pipe m hO).win w).elt :=
  (((pipe m hO).win w).blk t).view.read (Elt F) (V m c (Pipeline.arrRef spec0 w))

/-- What the body leaves in the output's block at a point. -/
def left (hO : Fits m) (c : Dev nD) (t : Fin (pipe m hO).N) : Vec F S256x1024 .f32 :=
  blockOut (grid0.coords t) (count (tabs m 1)) (block m hO c 0 t) (block m hO c 1 t) (block m hO c 2 t)

/-- The call's data: the inputs' blocks stay, the output's is `left`, nothing is owed and the tables are lent. -/
def plan (hO : Fits m) (_ : Fin 1) (c : Dev nD) : Dat τ (Elt F) Unit ℕ (UR sig nD τ) ℕ (pipe m hO) c where
  A w := V m c (Pipeline.arrRef spec0 w)
  after w t := match w with
    | ⟨0, _⟩ => block m hO c 0 t
    | ⟨1, _⟩ => block m hO c 1 t
    | ⟨2, _⟩ => block m hO c 2 t
    | ⟨3, _⟩ => left m hO c t
  Φ _ := iprop(Pipeline.ΦA spec0 c ∗ Pipeline.ΦT pre0 (tabs m) c)
  q _ := fullShare
  owed _ := 0

/-- The arrays are those the call finds. -/
theorem plan_arrays (hO : Fits m) (c : Dev nD) (w : Fin (pipe m hO).W) : (plan m hO 0 c).A w = V m c (Pipeline.arrRef spec0 w) := by
  dsimp only [plan]

/-- The rows' block stays. -/
theorem after_rows (hO : Fits m) (c : Dev nD) (t : Fin (pipe m hO).N) : (plan m hO 0 c).after 0 t = block m hO c 0 t := by dsimp only [plan]; try rfl
/-- The first weights' block stays. -/
theorem after_up (hO : Fits m) (c : Dev nD) (t : Fin (pipe m hO).N) : (plan m hO 0 c).after 1 t = block m hO c 1 t := by dsimp only [plan]; try rfl
/-- The second weights' block stays. -/
theorem after_down (hO : Fits m) (c : Dev nD) (t : Fin (pipe m hO).N) : (plan m hO 0 c).after 2 t = block m hO c 2 t := by dsimp only [plan]; try rfl
/-- The output's block is `left`. -/
theorem after_out (hO : Fits m) (c : Dev nD) (t : Fin (pipe m hO).N) : (plan m hO 0 c).after 3 t = left m hO c t := by dsimp only [plan]; try rfl

/-- The body finds the rows' block. -/
theorem before_rows (hO : Fits m) (c : Dev nD) (t : Fin (pipe m hO).N) (d) : (plan m hO 0 c).before 0 t d = block m hO c 0 t :=
  ((plan m hO 0 c).before_in_eq_fetched 0 rfl (fun _ => rfl) (fun _ _ _ => rfl)
    (fun t => by rw [after_rows]; unfold Dat.blockOf block; rw [plan_arrays]; try rfl) t d).trans
    (by unfold Dat.fetched Dat.blockOf block; rw [plan_arrays]; try rfl)
/-- The body finds the first weights' block. -/
theorem before_up (hO : Fits m) (c : Dev nD) (t : Fin (pipe m hO).N) (d) : (plan m hO 0 c).before 1 t d = block m hO c 1 t :=
  ((plan m hO 0 c).before_in_eq_fetched 1 rfl (fun _ => rfl) (fun _ _ _ => rfl)
    (fun t => by rw [after_up]; unfold Dat.blockOf block; rw [plan_arrays]; try rfl) t d).trans
    (by unfold Dat.fetched Dat.blockOf block; rw [plan_arrays]; try rfl)
/-- The body finds the second weights' block. -/
theorem before_down (hO : Fits m) (c : Dev nD) (t : Fin (pipe m hO).N) (d) : (plan m hO 0 c).before 2 t d = block m hO c 2 t :=
  ((plan m hO 0 c).before_in_eq_fetched 2 rfl (fun _ => rfl) (fun _ _ _ => rfl)
    (fun t => by rw [after_down]; unfold Dat.blockOf block; rw [plan_arrays]; try rfl) t d).trans
    (by unfold Dat.fetched Dat.blockOf block; rw [plan_arrays]; try rfl)

/-- One of the two branches is taken at every point, so the output's block is always written, -/
theorem idle_false (pf : pre0.Contents (Elt F)) (i : grid0.Coords) : idle0 pf 3 i = false := by
  show (!(k0_cond1 i (pf.atD 1 ![0]) == 1#1) && !(k0_cond2 i (pf.atD 1 ![0]) == 1#1)) = false
  generalize pf.atD 1 ![0] = v
  by_cases h : k0_cond1 i v = 1#1
  · rw [h]; rfl
  · rw [(cond_iff _ _).2 h]; exact Bool.and_false _

/-- whatever the tables. -/
theorem never_idle (a : (pcfg0 (F := F)).Adm) (i : grid0.Coords) : (cfg0 a).idle 3 i = false := idle_false a.1 i

/-- The body's buffers at a point. -/
abbrev buf0 (hO : Fits m) (t : Fin (pipe m hO).N) : Memref sig .tc .vmem S256x1024 .f32 := spec0_0.stage ((pipe m hO).slots t 0)
@[inherit_doc buf0] abbrev buf1 (hO : Fits m) (t : Fin (pipe m hO).N) : Memref sig .tc .vmem S1x1x1024x512 .f32 := spec0_1.stage ((pipe m hO).slots t 1)
@[inherit_doc buf0] abbrev buf2 (hO : Fits m) (t : Fin (pipe m hO).N) : Memref sig .tc .vmem S1x1x256x1024 .f32 := spec0_2.stage ((pipe m hO).slots t 2)
@[inherit_doc buf0] abbrev buf3 (hO : Fits m) (t : Fin (pipe m hO).N) : Memref sig .tc .vmem S256x1024 .f32 := spec0_3.stage ((pipe m hO).slots t 3)

/-- The body at a point. -/
abbrev bodyOf (hO : Fits m) (t : Fin (pipe m hO).N) : Prog (TpuEff nD τ sig (Elt F) Λ₀ .tc) PUnit :=
  cc0_routed_experts (grid0.coords t) beM (Memref.isWhole_whole _) nvM (Memref.isWhole_whole _)
    (buf0 m hO t) (hstage0_0 (((pipe m hO).slots t 0).cast nbuf0_0)) (buf1 m hO t) (hstage0_1 (((pipe m hO).slots t 1).cast nbuf0_1))
    (buf2 m hO t) (hstage0_2 (((pipe m hO).slots t 2).cast nbuf0_2)) (buf3 m hO t) (hstage0_3 (((pipe m hO).slots t 3).cast nbuf0_3))

/-- The pipeline calls that body. -/
theorem calls_body (hO : Fits m) (t : Fin (pipe m hO).N) :
    defs₀ (F := F) .tc (pipe m hO).body ((pipe m hO).bodyArgs t ((pipe m hO).slots t)) = bodyOf m hO t := by
  unfold defs₀; rw [Defs.onTc_tc]

/-- The body at a point turns what it finds into what the data say. -/
theorem body_sound (hO : Fits m) (c : Dev nD) (t : Fin (pipe m hO).N) :
    iprop((plan m hO 0 c).Φ t.castSucc ∗ (plan m hO 0 c).owesAt () t.castSucc
        ∗ (∃ d, owns (c : Thread nD τ) (buf0 m hO t) fullShare ((plan m hO 0 c).before 0 t d))
        ∗ (∃ d, owns (c : Thread nD τ) (buf1 m hO t) fullShare ((plan m hO 0 c).before 1 t d))
        ∗ (∃ d, owns (c : Thread nD τ) (buf2 m hO t) fullShare ((plan m hO 0 c).before 2 t d))
        ∗ (∃ d, owns (c : Thread nD τ) (buf3 m hO t) fullShare ((plan m hO 0 c).before 3 t d)))
      ⊢ wp frame (wpE (defs₀ (F := F)) Variants.none c none) Set.univ (bodyOf m hO t) fun _ =>
          iprop((plan m hO 0 c).Φ t.succ ∗ (plan m hO 0 c).owesAt () t.succ
            ∗ owns (c : Thread nD τ) (buf0 m hO t) fullShare ((plan m hO 0 c).after 0 t)
            ∗ owns (c : Thread nD τ) (buf1 m hO t) fullShare ((plan m hO 0 c).after 1 t)
            ∗ owns (c : Thread nD τ) (buf2 m hO t) fullShare ((plan m hO 0 c).after 2 t)
            ∗ owns (c : Thread nD τ) (buf3 m hO t) fullShare ((plan m hO 0 c).after 3 t)) := by
  simp only [before_rows, before_up, before_down, after_rows, after_up, after_down, after_out]
  rw [show (plan m hO 0 c).owesAt () t.succ = (plan m hO 0 c).owesAt () t.castSucc from rfl,
    show (plan m hO 0 c).Φ t.succ = iprop(Pipeline.ΦA spec0 c ∗ Pipeline.ΦT pre0 (tabs m) c) from rfl,
    show (plan m hO 0 c).Φ t.castSucc = iprop(Pipeline.ΦA spec0 c ∗ Pipeline.ΦT pre0 (tabs m) c) from rfl, tabs_lent]
  unfold left
  iintro ⟨⟨HΦ, HT0, HT1⟩, Ho, ⟨%d0, H0⟩, ⟨%d1, H1⟩, ⟨%d2, H2⟩, ⟨%d3, H3⟩⟩
  iapply (body_run c (grid0.coords t) _ _ _ _ _ _ _ _ (block m hO c 0 t) (block m hO c 1 t) (block m hO c 2 t) (tabs m 0) (tabs m 1) _)
  isplitl [H0]; · iexact H0
  isplitl [H1]; · iexact H1
  isplitl [H2]; · iexact H2
  isplitl [H3]; · iexists _; iexact H3
  isplitl [HT0]; · iexact HT0
  isplitl [HT1]; · iexact HT1
  iintro ⟨H0, H1, H2, H3, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  iexact H3

/-- The body is as the pipeline needs it. -/
theorem body_ok (hO : Fits m) (c : Dev nD) : BodyObligation (plan (F := F) m hO 0 c) (defs₀ (F := F)) Variants.none () Set.univ := fun t => by
  rw [bigSep_W0, bigSep_W0, calls_body m hO, never_idle (planOf m hO)]
  exact triple_restated (body_sound m hO c t) rfl .rfl fun _ => .rfl

set_option backward.isDefEq.respectTransparency.types false in
/-- The call runs to the data's end, with every counter at zero. -/
theorem run (hO : Fits m) : θ_run defs (onTc (τ := τ) (main (F := F))) (s₀ m ρ)
    (fun r => (Pipeline.FramePost (Pipeline.pin pcfgs fun _ => planOf m hO) (plan m hO) 0 (V m)) r ∧ r.2.sem = fun _ => 0) :=
  Pipeline.θ_run_frameP (Q' := _) pcfgs (fun _ => planOf m hO) (plan m hO) (0 : Fin 1) launch0 defs₀ Variants.none m ρ main
    (hbody := fun c => (body_ok m hO c).loose) (hshare := fun c => (plan m hO 0 c).share_full fun _ => rfl)
    (howed := fun _ _ => rfl) (V := V m) (hmain := host_then_call m) (hA := plan_arrays m hO) (hpf := tabs_eq m)
    (hΦ := fun _ _ => rfl)

/-- The program ends with its arguments as they were launched, and with every counter at zero. -/
theorem args_kept (hO : Fits m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(h.1 c).1 0 |>.trans (((plan m hO 0 c).arrAt_in 0 rfl _).trans ((plan_arrays m hO c 0).trans (kept_rows m c))),
      ((h.1 c).2 main_arg1 (by decide : main_arg1 ∈ Pipeline.restRefs sig spec0)).trans (kept_counts m c),
      (h.1 c).1 1 |>.trans (((plan m hO 0 c).arrAt_in 1 rfl _).trans ((plan_arrays m hO c 1).trans (kept_up m c))),
      (h.1 c).1 2 |>.trans (((plan m hO 0 c).arrAt_in 2 rfl _).trans ((plan_arrays m hO c 2).trans (kept_down m c)))⟩, h.2⟩) (run m ρ hO)

end Cert.Kernel2Ideal.Experts

end
-- ==== Proof.ExpertPlan.lean ====
module

public import proofs.«01_k».proof.Proof.ExpertRun
public import proofs.«01_k».proof.Defs
public import proofs.«01_k».proof.Pre_has_run
public import Idealize.ShloMosaic.Lib.StableHlo.Predicate
public import Idealize.ShloMosaic.Lib.StableHlo.Run
public import Idealize.ShloMosaic.Lib.WordArith

@[expose] public section

set_option maxRecDepth 16384

/-! The plan of the blocks: where the experts' runs end, the expert of a block, the number of blocks, and why the windows that
they name fit. -/
namespace Cert.Runs

open Cert.Kernel2Ideal Cert.Kernel2Ideal.Gen
open Idealize.ShloMosaic Idealize.ShloMosaic.StableHlo.Predicate

/-- A count rounded up to whole blocks, in blocks, as the host divides. -/
def blocksOf (x : IVec S256 32) : IVec S256 32 :=
  let k := broadcastInDim S256 ![] bcast_S_S256 (id (constantI S_ 32 256#32))
  select (andi (cmpi .ne (signi x) (broadcastInDim S256 ![] bcast_S_S256 (signi (id (constantI S_ 32 256#32)))))
      (cmpi .ne (Host.remsi x k) (broadcastInDim S256 ![] bcast_S_S256 (constantI S_ 32 0#32))))
    (subi (Host.divsi x k) (broadcastInDim S256 ![] bcast_S_S256 (constantI S_ 32 1#32))) (Host.divsi x k)

/-- Where each expert's padded run ends. -/
def ends (counts : IVec S256 32) : IVec S256 32 :=
  Host.reduceWindow IntOp.addi ![256] ![1] ![255] ![0]
    (muli (blocksOf (subi (addi counts (broadcastInDim S256 ![] bcast_S_S256 (constantI S_ 32 256#32)))
        (broadcastInDim S256 ![] bcast_S_S256 (constantI S_ 32 1#32))))
      (broadcastInDim S256 ![] bcast_S_S256 (constantI S_ 32 256#32)))
    (broadcastInDim S_ ![] bcast_S_S_ (constantI S_ 32 0#32)) reduceWindows_S256_S256_w256s1p255_0 h_S_

/-- Where the last run ends, as a scalar array, -/
def lastEnd (p : IVec S256 32) : IVec S_ 32 := shapeCast S_ (extractStridedSlice S1 ![255] p slices_S256_S1_255) shapeCasts_S1_S_

/-- which is the last of the ends. -/
theorem lastEnd_at (p : IVec S256 32) (i : S_.Idx) : lastEnd p i = p (Shape.Idx.ofFin 255) := by
  unfold lastEnd shapeCast extractStridedSlice
  refine congrArg p (funext fun a => Fin.ext ?_)
  obtain rfl : a = 0 := Subsingleton.elim _ _
  have h : ∀ k : S1.Idx, (k 0).val = 0 := fun k => Nat.lt_one_iff.1 (k 0).isLt
  simp [h, Shape.Idx.ofFin]

/-- The table of the blocks' experts. -/
def expertTable (p : IVec S256 32) : IVec S1280 32 :=
  minsi (Host.reduce IntOp.addi (extui 32 (cmpi .sle
      (broadcastInDim S1280x256 ![0, 1] bcast_S1x256_S1280x256_0_1 (broadcastInDim S1x256 ![1] bcast_S256_S1x256_1 p))
      (broadcastInDim S1280x256 ![0, 1] bcast_S1280x1_S1280x256_0_1 (broadcastInDim S1280x1 ![0] bcast_S1280_S1280x1_0
        (minsi (muli (iotaInDim S1280 32 0) (broadcastInDim S1280 ![] bcast_S_S1280 (constantI S_ 32 256#32)))
          (broadcastInDim S1280 ![] bcast_S_S1280 (subi (lastEnd p) (constantI S_ 32 1#32))))))) natLt_1_32)
      (constantI S_ 32 0#32) reducesTo_S1280x256_S1280_d1 h_S_)
    (broadcastInDim S1280 ![] bcast_S_S1280 (constantI S_ 32 255#32))

/-- The table of the number of blocks. -/
def countTable (p : IVec S256 32) : IVec S1 32 :=
  let k : IVec S_ 32 := id (constantI S_ 32 256#32)
  shapeCast S1 (select (andi (cmpi .ne (signi (lastEnd p)) (signi k)) (cmpi .ne (Host.remsi (lastEnd p) k) (constantI S_ 32 0#32)))
    (subi (Host.divsi (lastEnd p) k) (constantI S_ 32 1#32)) (Host.divsi (lastEnd p) k)) shapeCasts_S_S1

/-! ### The ends are whole blocks -/

/-- Sums of multiples of 256 are multiples of 256, also where they wrap. -/
theorem sum_aligned {α : Type} (g : α → BitVec 32) (hg : ∀ a, (g a).toNat % 256 = 0) :
    ∀ (l : List α) (v : BitVec 32), v.toNat % 256 = 0 → (l.foldl (fun r n => IntOp.addi r (g n)) v).toNat % 256 = 0
  | [], _, hv => hv
  | a :: l, v, hv => by
    refine sum_aligned g hg l _ ?_
    have := hg a
    unfold IntOp.addi
    rw [BitVec.toNat_add]; omega

/-- Every end is a multiple of 256. -/
theorem ends_aligned (counts : IVec S256 32) (j : S256.Idx) : (ends counts j).toNat % 256 = 0 := by
  unfold ends Host.reduceWindow
  refine sum_aligned _ (fun n => ?_) _ _ rfl
  split
  · unfold muli IntOp.muli
    rw [BitVec.toNat_mul]
    show _ * 256 % _ % 256 = 0
    omega
  · rfl

/-! ### The words of the plan -/

/-- Counting the words of a list that are at most a word, for each word of another list, and 255 at most. -/
theorem count_word_le {n m : ℕ} (hm : m < 2 ^ 31) (p : IVec ⟨1, ![m]⟩ 32) (b : IVec ⟨1, ![n]⟩ 32)
    (h₁ : (⟨1, ![m]⟩ : Shape).BroadcastsInDim ⟨2, ![1, m]⟩ ![1]) (h₂ : (⟨2, ![1, m]⟩ : Shape).BroadcastsInDim ⟨2, ![n, m]⟩ ![0, 1])
    (h₃ : (⟨1, ![n]⟩ : Shape).BroadcastsInDim ⟨2, ![n, 1]⟩ ![0]) (h₄ : (⟨2, ![n, 1]⟩ : Shape).BroadcastsInDim ⟨2, ![n, m]⟩ ![0, 1])
    (hw : 1 < 32) (h : (⟨2, ![n, m]⟩ : Shape).ReducesTo [1] ⟨1, ![n]⟩) {u : Shape} (hu : 0 < u.numel) (t : Fin n) :
    (IntOp.minsi (Host.reduce IntOp.addi (extui 32 (cmpi .sle (broadcastInDim ⟨2, ![n, m]⟩ ![0, 1] h₂ (broadcastInDim ⟨2, ![1, m]⟩ ![1] h₁ p))
      (broadcastInDim ⟨2, ![n, m]⟩ ![0, 1] h₄ (broadcastInDim ⟨2, ![n, 1]⟩ ![0] h₃ b))) hw) (constantI u 32 0#32) h hu (Shape.Idx.ofFin t)) 255#32).toNat
      = min (Finset.univ.filter fun q : Fin m => IntOp.cmpi .sle (p (Shape.Idx.ofFin q)) (b (Shape.Idx.ofFin t)) = 1#1).card 255 := by
  have hc := toNat_reduce_count_cols (n := n) (m := m) (by omega) (cmpi .sle (broadcastInDim ⟨2, ![n, m]⟩ ![0, 1] h₂ (broadcastInDim ⟨2, ![1, m]⟩ ![1] h₁ p))
      (broadcastInDim ⟨2, ![n, m]⟩ ![0, 1] h₄ (broadcastInDim ⟨2, ![n, 1]⟩ ![0] h₃ b))) hw h hu (Shape.Idx.ofFin t)
  rw [WordArith.toNat_minsi_of_lt _ 255#32 (by rw [hc]; exact lt_of_le_of_lt (Finset.card_le_univ _) (by rw [Fintype.card_fin]; exact hm)) (by decide), hc]
  refine congrArg (fun k => min k 255) (congrArg Finset.card (Finset.filter_congr fun q _ => ?_))
  show IntOp.cmpi .sle (broadcastInDim ⟨2, ![n, m]⟩ ![0, 1] h₂ (broadcastInDim ⟨2, ![1, m]⟩ ![1] h₁ p) (ij t q))
    (broadcastInDim ⟨2, ![n, m]⟩ ![0, 1] h₄ (broadcastInDim ⟨2, ![n, 1]⟩ ![0] h₃ b) (ij t q)) = 1#1 ↔ _
  rw [bcast_cols, bcast_rows]

/-- The expert of a block: how many runs end at or before its start, and the last expert at most. -/
theorem expert_word (p : IVec S256 32) (t : Fin 1280) : (expertTable p (Shape.Idx.ofFin t)).toNat
    = min (Finset.univ.filter fun q : Fin 256 => IntOp.cmpi .sle (p (Shape.Idx.ofFin q))
        (IntOp.minsi (BitVec.ofNat 32 t.val * 256#32) (p (Shape.Idx.ofFin 255) - 1#32)) = 1#1).card 255 := by
  have hc := count_word_le (n := 1280) (m := 256) (by norm_num) p
    (minsi (muli (iotaInDim S1280 32 0) (broadcastInDim S1280 ![] bcast_S_S1280 (constantI S_ 32 256#32)))
      (broadcastInDim S1280 ![] bcast_S_S1280 (subi (lastEnd p) (constantI S_ 32 1#32))))
    bcast_S256_S1x256_1 bcast_S1x256_S1280x256_0_1 bcast_S1280_S1280x1_0 bcast_S1280x1_S1280x256_0_1 natLt_1_32 reducesTo_S1280x256_S1280_d1 h_S_ t
  refine Eq.trans ?_ (hc.trans ?_)
  · rfl
  refine congrArg (fun k => min k 255) (congrArg Finset.card (Finset.filter_congr fun q _ => ?_))
  show IntOp.cmpi .sle _ (IntOp.minsi (BitVec.ofNat 32 t.val * 256#32) (lastEnd p _ - 1#32)) = 1#1 ↔ _
  rw [lastEnd_at]

/-- An expert of the table is one of the experts. -/
theorem expert_lt (p : IVec S256 32) (t : S1280.Idx) : (expertTable p t).toNat < 256 := by
  obtain ⟨t, rfl⟩ : ∃ u : Fin 1280, t = Shape.Idx.ofFin u := ⟨t 0, by funext a; obtain rfl : a = 0 := Subsingleton.elim _ _; rfl⟩
  rw [expert_word]; omega

/-- The number of blocks: the last end over 256. -/
theorem count_word (p : IVec S256 32) (h0 : 0 ≤ (p (Shape.Idx.ofFin 255)).toInt) (h1 : (p (Shape.Idx.ofFin 255)).toNat % 256 = 0) (i : S1.Idx) :
    (countTable p i).toNat = (p (Shape.Idx.ofFin 255)).toNat / 256 := by
  have hw : ∀ w : BitVec 32, 0 ≤ w.toInt → w.toNat % 256 = 0 →
      (IntOp.divsi .host w 256#32).toNat = w.toNat / 256 ∧ IntOp.remsi .host w 256#32 = 0#32 := by
    intro w h0 h1
    have hm : w.msb = false := by
      rw [BitVec.msb_eq_false_iff_two_mul_lt]
      have := BitVec.toInt_eq_toNat_cond w
      split at this <;> omega
    have hc : ¬ IntOp.SDivCorner w 256#32 := by rintro (h | ⟨-, h⟩) <;> exact absurd h (by decide)
    constructor
    · simp only [IntOp.divsi, if_neg hc, BitVec.sdiv_eq, hm, show (256#32 : BitVec 32).msb = false from by decide, BitVec.udiv_eq, BitVec.toNat_udiv]
      rfl
    · simp only [IntOp.remsi, if_neg hc, BitVec.srem_eq, hm, show (256#32 : BitVec 32).msb = false from by decide, BitVec.umod_eq]
      apply BitVec.eq_of_toNat_eq
      rw [BitVec.toNat_umod]; exact h1
  obtain ⟨hd, hr⟩ := hw _ h0 h1
  have key : ∀ j : S_.Idx, (select (andi (cmpi .ne (signi (lastEnd p)) (signi (id (constantI S_ 32 256#32))))
        (cmpi .ne (Host.remsi (lastEnd p) (id (constantI S_ 32 256#32))) (constantI S_ 32 0#32)))
      (subi (Host.divsi (lastEnd p) (id (constantI S_ 32 256#32))) (constantI S_ 32 1#32)) (Host.divsi (lastEnd p) (id (constantI S_ 32 256#32))) j)
      = IntOp.divsi .host (p (Shape.Idx.ofFin 255)) 256#32 := by
    intro j
    unfold select andi cmpi Host.remsi Host.divsi
    rw [lastEnd_at]
    simp only [id, constantI]
    rw [hr]
    simp [IntOp.andi, IntOp.cmpi, Scalar.select]
  unfold countTable
  exact (congrArg BitVec.toNat (key _)).trans hd

end Cert.Runs

/-! ### The tables that the call finds -/

namespace Cert.Kernel2Ideal.Experts

open Cert.Kernel2Ideal Cert.Kernel2Ideal.Gen Cert.Runs
open Idealize.ShloMosaic Idealize.ShloMosaic.TcCoe Idealize.ShloMosaic.Tactic Idealize.ShloMosaic.StableHlo

variable {F : FTy → Type} [FloatOps F] (m : (ℓ : Loc nD τ sig) → Buf (Elt F) ℓ)

/-- The counts as launched. -/
abbrev countsOf (c : Dev nD) : IVec S256 32 := m ((c : Thread nD τ).loc main_arg1)

set_option maxHeartbeats 4000000 in
/-- The first table holds the blocks' experts. -/
theorem experts_found (c : Dev nD) : V m c main_v28 = expertTable (ends (countsOf m c)) := by
  unfold V
  simp only [hostOps0, hostOps0_1, hostOps0_2, hostOps0_3, hostOps0_4, hostOps0_5, hostOps0_6, List.flatten_cons, List.flatten_nil, List.append_nil,
    List.cons_append, List.nil_append, TRef.binary, TRef.nullary, TRef.ternary, TRef.unary, TRef.toBuf, TRef.ofBuf, cast_eq]
  after_results_simp
  rfl

set_option maxHeartbeats 4000000 in
/-- The second table holds the number of blocks. -/
theorem count_found (c : Dev nD) : V m c main_v29 = countTable (ends (countsOf m c)) := by
  unfold V
  simp only [hostOps0, hostOps0_1, hostOps0_2, hostOps0_3, hostOps0_4, hostOps0_5, hostOps0_6, List.flatten_cons, List.flatten_nil, List.append_nil,
    List.cons_append, List.nil_append, TRef.binary, TRef.nullary, TRef.ternary, TRef.unary, TRef.toBuf, TRef.ofBuf, cast_eq]
  after_results_simp
  rfl

end Cert.Kernel2Ideal.Experts
-- ==== Proof.ExpertFits.lean ====
module

public import proofs.«01_k».proof.Proof.ExpertPlan

@[expose] public section

set_option maxRecDepth 16384

/-! Under the precondition the windows of the routed experts' call lie inside their arrays. -/
namespace Cert.Kernel2Ideal.Experts

open Cert.Kernel2Ideal Cert.Kernel2Ideal.Gen Cert.Runs
open Idealize.ShloMosaic Idealize.ShloMosaic.TcCoe Idealize.ShloMosaic.StableHlo.Predicate

variable {F : FTy → Type} [FloatOps F]

/-- The precondition in words: the last run ends after one block at least. -/
theorem pre_words [Cert.Pre_has_run.Facts] (a0 : FVec F S327680x1024 .f32) (counts : IVec S256 32) (a2 : FVec F S2x256x1024x512 .f32)
    (a3 : FVec F S2x256x256x1024 .f32) (h : Cert.Pre_has_run.fn a0 counts a2 a3 = fun _ => 1#1) :
    256 ≤ (ends counts (Shape.Idx.ofFin 255)).toInt := by
  have h' : IntOp.cmpi .sge (lastEnd (ends counts) (Shape.Idx.first h_S_)) 256#32 = 1#1 := congrFun h (Shape.Idx.first h_S_)
  rw [lastEnd_at] at h'
  simp only [IntOp.cmpi, BitVec.sle, ofBool_eq_one_iff, decide_eq_true_eq] at h'
  exact h'

/-- The number of blocks in the tables, -/
abbrev nvW (pf : pre0.Contents (Elt F)) : BitVec 32 := pf 1 (Shape.Idx.ofFin (n := 1) 0)
/-- and a block's expert. -/
abbrev exW (pf : pre0.Contents (Elt F)) (t : Fin 1280) : BitVec 32 := pf 0 (Shape.Idx.ofFin t)

/-- Places of a table are equal when their coordinates are. -/
theorem place_ext (a b : S1280.Idx) (h : (a (0 : Fin 1)).val = (b (0 : Fin 1)).val) : a = b :=
  funext fun (c : Fin 1) => by obtain rfl : c = 0 := Subsingleton.elim _ _; exact Fin.ext h

/-- A table of one word has one place. -/
theorem place_one (a b : S1.Idx) : a = b :=
  funext fun (c : Fin 1) => by
    obtain rfl : c = 0 := Subsingleton.elim _ _
    exact Subsingleton.elim (α := Fin 1) _ _

/-- The block of rows that the call reads at a point. -/
theorem rows_index (pf : pre0.Contents (Elt F)) (i : grid0.Coords) : cc0_transform_0 inb_S1_S1_0 numel1_S1 pf i
    = ![(IntOp.minsi (BitVec.ofNat 32 (i 0).val) (nvW pf - 1#32)).toNat, 0] := by
  unfold cc0_transform_0
  have h : pf.at 1 (Rect.unit (s := S1) ![0] S1.size inb_S1_S1_0) numel1_S1 = nvW pf :=
    congrArg (α := S1.Idx) (pf 1) (place_one _ _)
  rw [h]; rfl

/-- The expert's first weights that the call reads at a point, -/
theorem up_index (pf : pre0.Contents (Elt F)) (i : grid0.Coords) : cc0_transform_1 k0_off1_inb numel1_S1 pf i
    = ![0, (exW pf (i 0)).toNat, 0, 0] := by
  unfold cc0_transform_1
  have h : pf.at 0 (Rect.unit (s := S1280) ![(Scalar.indexCast (BitVec.ofNat 32 (i 0).val)).toNat] S1.size (k0_off1_inb i)) numel1_S1
      = exW pf (i 0) :=
    congrArg (α := S1280.Idx) (pf 0) (place_ext _ _ (by
      have hi : (i 0).val < 1280 := (i 0).isLt
      show (BitVec.ofNat 32 (i 0).val).toNat + 1 * 0 = (i 0).val
      rw [BitVec.toNat_ofNat]; omega))
  simp only [h]; rfl

/-- and its second weights. -/
theorem down_index (pf : pre0.Contents (Elt F)) (i : grid0.Coords) : cc0_transform_2 k0_off1_inb numel1_S1 pf i
    = ![0, (exW pf (i 0)).toNat, 0, 0] := up_index pf i

/-- Tables with one block at least and experts among the experts fit. -/
theorem fits_of (pf : pre0.Contents (Elt F)) (h1 : 1 ≤ (nvW pf).toNat)
    (h2 : (nvW pf).toNat < 2 ^ 31) (h0 : ∀ t, (exW pf t).toNat < 256) : ok0 pf := by
  refine ⟨fun i => ⟨fun a => ?_, Or.inl rfl⟩, fun i => ⟨fun a => ?_, Or.inl rfl⟩, fun i => ⟨fun a => ?_, Or.inl rfl⟩⟩
  · rw [rows_index]
    have hi : (i 0).val < 1280 := (i 0).isLt
    have hs : (nvW pf - 1#32).toNat = (nvW pf).toNat - 1 := by
      rw [BitVec.toNat_sub]
      show (2 ^ 32 - 1 + _) % 2 ^ 32 = _
      omega
    have hm := WordArith.toNat_minsi_of_lt (BitVec.ofNat 32 (i 0).val) (nvW pf - 1#32)
      (by rw [BitVec.toNat_ofNat]; omega) (by rw [hs]; omega)
    match a with
    | ⟨0, _⟩ =>
      show ((IntOp.minsi (BitVec.ofNat 32 (i 0).val) (nvW pf - 1#32)).toNat + 1) * 256 ≤ 327680
      have ht : (BitVec.ofNat 32 (i 0).val).toNat = (i 0).val := by rw [BitVec.toNat_ofNat]; omega
      rw [hm, hs, ht]; omega
    | ⟨1, _⟩ => show (0 + 1) * 1024 ≤ 1024; omega
  · rw [up_index]
    have := h0 (i 0)
    match a with
    | ⟨0, _⟩ => show (0 + 1) * 1 ≤ 2; omega
    | ⟨1, _⟩ => show ((exW pf (i 0)).toNat + 1) * 1 ≤ 256; omega
    | ⟨2, _⟩ => show (0 + 1) * 1024 ≤ 1024; omega
    | ⟨3, _⟩ => show (0 + 1) * 512 ≤ 512; omega
  · rw [down_index]
    have := h0 (i 0)
    match a with
    | ⟨0, _⟩ => show (0 + 1) * 1 ≤ 2; omega
    | ⟨1, _⟩ => show ((exW pf (i 0)).toNat + 1) * 1 ≤ 256; omega
    | ⟨2, _⟩ => show (0 + 1) * 256 ≤ 256; omega
    | ⟨3, _⟩ => show (0 + 1) * 1024 ≤ 1024; omega

variable (m : (ℓ : Loc nD τ sig) → Buf (Elt F) ℓ)

/-- The last end is as the precondition says. -/
abbrev Bounded : Prop := 256 ≤ (ends (countsOf m 0) (Shape.Idx.ofFin 255)).toInt

/-- The last end as a natural number. -/
theorem Bounded.nat (h : Bounded m) : ((ends (countsOf m 0) (Shape.Idx.ofFin 255)).toInt = (ends (countsOf m 0) (Shape.Idx.ofFin 255)).toNat)
    ∧ 256 ≤ (ends (countsOf m 0) (Shape.Idx.ofFin 255)).toNat ∧ (ends (countsOf m 0) (Shape.Idx.ofFin 255)).toNat < 2 ^ 31 := by
  have h1 : 256 ≤ (ends (countsOf m 0) (Shape.Idx.ofFin 255)).toInt := h
  have := BitVec.toInt_eq_toNat_cond (ends (countsOf m 0) (Shape.Idx.ofFin 255))
  have := (ends (countsOf m 0) (Shape.Idx.ofFin 255)).isLt
  split at * <;> omega

/-- The number of blocks that the call finds. -/
theorem count_is (h : Bounded m) : (nvW (tabs m)).toNat = (ends (countsOf m 0) (Shape.Idx.ofFin 255)).toNat / 256 := by
  have e : tabs m 1 = countTable (ends (countsOf m 0)) := count_found m 0
  have e' : nvW (tabs m) = countTable (ends (countsOf m 0)) (Shape.Idx.ofFin (n := 1) 0) := congrFun e _
  rw [e']
  exact count_word _ (by have h1 : 256 ≤ (ends (countsOf m 0) (Shape.Idx.ofFin 255)).toInt := h; omega) (ends_aligned _ _) _

/-- The expert of a block that the call finds. -/
theorem expert_is (t : Fin 1280) : exW (tabs m) t = expertTable (ends (countsOf m 0)) (Shape.Idx.ofFin t) :=
  congrFun (experts_found m 0) _

/-- The windows fit. -/
theorem fits (h : Bounded m) : Fits m := by
  obtain ⟨-, h1, h2⟩ := h.nat
  have hc := count_is m h
  refine fits_of _ (by rw [hc]; omega) (by rw [hc]; omega) fun t => ?_
  rw [expert_is]
  exact expert_lt _ _

end Cert.Kernel2Ideal.Experts
-- ==== Proof.ExpertRef.lean ====
module

public import proofs.«01_k».proof.Proof.Gen.Reference2Ideal.Run
public import proofs.«01_k».proof.Proof.ExpertPlan
public import Idealize.ShloMosaic.Lib.Pointwise

@[expose] public section

set_option maxRecDepth 16384

noncomputable section

/-! What the routed experts compute for one row, and why the reference computes it. -/
namespace Cert.Expert

open Idealize.ShloMosaic

/-- A row against an expert's first weights: gate and value side by side. -/
def hidden (x : Fin 1024 → EReal) (U : Fin 1024 → Fin 512 → EReal) (f : Fin 512) : EReal := ∑ d : Fin 1024, x d * U d f

/-- The gate through its sigmoid, times the value. -/
def gated (x : Fin 1024 → EReal) (U : Fin 1024 → Fin 512 → EReal) (f : Fin 256) : EReal :=
  hidden x U ⟨f.val, by omega⟩ * Ideal.div 1 (1 + Ideal.exp (-hidden x U ⟨f.val, by omega⟩)) * hidden x U ⟨256 + f.val, by omega⟩

/-- An expert's output for a row. -/
def mixed (x : Fin 1024 → EReal) (U : Fin 1024 → Fin 512 → EReal) (D : Fin 256 → Fin 1024 → EReal) (j : Fin 1024) : EReal :=
  ∑ f : Fin 256, gated x U f * D f j

end Cert.Expert

namespace Cert.Reference2Ideal.Rows

open Idealize.ShloMosaic Idealize.ShloMosaic.TcCoe Idealize.SL.Sem Idealize.ShloMosaic.Pointwise
open Cert.Reference2Ideal Cert.Reference2Ideal.Gen Cert.Reference2Ideal.Value Cert.Runs Cert.Expert

section Stages
variable {F : FTy → Type} [FloatOps F]

/-- Each row's expert: how many runs end at or before the row, and the last expert at most. -/
def rowExpert (p : IVec S256 32) : IVec S327680 32 :=
  minsi (Host.reduce IntOp.addi (extui 32 (cmpi .sle (broadcastInDim S327680x256 ![0, 1] bcast_S1x256_S327680x256_0_1 (broadcastInDim S1x256 ![1] bcast_S256_S1x256_1 p)) (broadcastInDim S327680x256 ![0, 1] bcast_S327680x1_S327680x256_0_1 (broadcastInDim S327680x1 ![0] bcast_S327680_S327680x1_0 (iotaInDim S327680 32 0)))) natLt_1_32) (constantI S_ 32 0#32) reducesTo_S327680x256_S327680_d1 h_S_) (broadcastInDim S327680 ![] bcast_S_S327680 (constantI S_ 32 255#32))

/-- The column of indices that the weights are looked up with. -/
def lookup (r : IVec S327680 32) : IVec S327680x1 32 :=
  broadcastInDim S327680x1 ![0] bcast_S327680_S327680x1_0 (select (cmpi .slt r (broadcastInDim S327680 ![] bcast_S_S327680 (constantI S_ 32 0#32))) (addi r (broadcastInDim S327680 ![] bcast_S_S327680 (constantI S_ 32 256#32))) r)

/-- Every row's first weights, -/
def ups (W : FVec F S2x256x1024x512 .f32) (i : IVec S327680x1 32) : FVec F S327680x1024x512 .f32 :=
  Host.gather gather_S256x1024x512_S327680x1_S327680x1024x512_12_0_n_n_0_1_11024512 (shapeCast _ (extractStridedSlice S1x256x1024x512 ![0, 0, 0, 0] W slices_S2x256x1024x512_S1x256x1024x512_0_0_0_0) shapeCasts_S1x256x1024x512_S256x1024x512) i

/-- and second weights. -/
def downs (W : FVec F S2x256x256x1024 .f32) (i : IVec S327680x1 32) : FVec F S327680x256x1024 .f32 :=
  Host.gather gather_S256x256x1024_S327680x1_S327680x256x1024_12_0_n_n_0_1_12561024 (shapeCast _ (extractStridedSlice S1x256x256x1024 ![0, 0, 0, 0] W slices_S2x256x256x1024_S1x256x256x1024_0_0_0_0) shapeCasts_S1x256x256x1024_S256x256x1024) i

/-- Every row against its first weights. -/
def hiddens (X : FVec F S327680x1024 .f32) (U : FVec F S327680x1024x512 .f32) : FVec F S327680x512 .f32 :=
  Host.dotGeneral dot_S327680x1024_S327680x1024x512_S327680x512_1_1_n_2_0_0 none X U

/-- The gates through their sigmoids, times the values. -/
def gates (h : FVec F S327680x512 .f32) : FVec F S327680x256 .f32 :=
  mulf (mulf (extractStridedSlice S327680x256 ![0, 0] h slices_S327680x512_S327680x256_0_0) (Host.divf (broadcastInDim S327680x256 ![] bcast_S_S327680x256 (constant S_ .f32 0x3F800000#32)) (addf (broadcastInDim S327680x256 ![] bcast_S_S327680x256 (constant S_ .f32 0x3F800000#32)) (Host.exp (Host.negf (extractStridedSlice S327680x256 ![0, 0] h slices_S327680x512_S327680x256_0_0)))))) (extractStridedSlice S327680x256 ![0, 256] h slices_S327680x512_S327680x256_0_256)

/-- Every row's output. -/
def outs (a : FVec F S327680x256 .f32) (D : FVec F S327680x256x1024 .f32) : FVec F S327680x1024 .f32 :=
  Host.dotGeneral dot_S327680x256_S327680x256x1024_S327680x1024_1_1_n_2_0_0 none a D

/-- The outputs of the rows in a run, zero in the rest. -/
def kept (p : IVec S256 32) (y : FVec F S327680x1024 .f32) : FVec F S327680x1024 .f32 :=
  select (broadcastInDim S327680x1024 ![0, 1] bcast_S327680x1_S327680x1024_0_1 (broadcastInDim S327680x1 ![0] bcast_S327680_S327680x1_0 (cmpi .slt (iotaInDim S327680 32 0) (broadcastInDim S327680 ![] bcast_S_S327680 (lastEnd p))))) y (broadcastInDim S327680x1024 ![] bcast_S_S327680x1024 (id (constant S_ .f32 0x00000000#32)))

/-- The reference's result is its stages, one after the other. -/
theorem res_eq (m : (ℓ : Loc nD τ sig) → Buf (Elt F) ℓ) (c : Dev nD) :
    res_main_v47 m c = kept (ends (m ((c.tc : Thread nD τ).loc main_arg1))) (outs
      (gates (hiddens (m ((c.tc : Thread nD τ).loc main_arg0)) (ups (m ((c.tc : Thread nD τ).loc main_arg2)) (lookup (rowExpert (ends (m ((c.tc : Thread nD τ).loc main_arg1))))))))
      (downs (m ((c.tc : Thread nD τ).loc main_arg3)) (lookup (rowExpert (ends (m ((c.tc : Thread nD τ).loc main_arg1))))))) := rfl

end Stages

/-- The weights looked up at an index, the first -/
theorem gatherU {α : Type} (x : S256x1024x512.Idx → α) (idx : IVec S327680x1 32) (r : Fin 327680) (d : Fin 1024) (f : Fin 512) :
    Host.gather gather_S256x1024x512_S327680x1_S327680x1024x512_12_0_n_n_0_1_11024512 x idx (ix3 r d f)
      = x (ix3 ⟨min (idx (ix2 r 0)).toInt.toNat 255, by omega⟩ d f) := by
  unfold Host.gather
  congr 1
  funext a
  refine Fin.ext ?_
  show GatherDims.start _ _ idx a + GatherDims.batchCoord _ _ a + GatherDims.offCoord _ _ a = _
  match a with
  | ⟨1, _⟩ => exact (Nat.zero_add _)
  | ⟨2, _⟩ => exact (Nat.zero_add _)
  | ⟨0, _⟩ =>
    unfold GatherDims.start
    refine (congrArg (· + _ + _) (dif_pos (show (0 : Fin 3) ∈ GatherDims.startIndexMap gather_S256x1024x512_S327680x1_S327680x1024x512_12_0_n_n_0_1_11024512 from List.mem_singleton.mpr rfl))).trans ?_
    refine congrArg (fun z => min (idx z).toInt.toNat 255) (?_ : _ = ix2 r 0)
    funext b; refine Fin.ext ?_
    match b with
    | ⟨0, _⟩ => rfl
    | ⟨1, _⟩ => rfl

/-- and the second. -/
theorem gatherD {α : Type} (x : S256x256x1024.Idx → α) (idx : IVec S327680x1 32) (r : Fin 327680) (d : Fin 256) (f : Fin 1024) :
    Host.gather gather_S256x256x1024_S327680x1_S327680x256x1024_12_0_n_n_0_1_12561024 x idx (ix3 r d f)
      = x (ix3 ⟨min (idx (ix2 r 0)).toInt.toNat 255, by omega⟩ d f) := by
  unfold Host.gather
  congr 1
  funext a
  refine Fin.ext ?_
  show GatherDims.start _ _ idx a + GatherDims.batchCoord _ _ a + GatherDims.offCoord _ _ a = _
  match a with
  | ⟨1, _⟩ => exact (Nat.zero_add _)
  | ⟨2, _⟩ => exact (Nat.zero_add _)
  | ⟨0, _⟩ =>
    unfold GatherDims.start
    refine (congrArg (· + _ + _) (dif_pos (show (0 : Fin 3) ∈ GatherDims.startIndexMap gather_S256x256x1024_S327680x1_S327680x256x1024_12_0_n_n_0_1_12561024 from List.mem_singleton.mpr rfl))).trans ?_
    refine congrArg (fun z => min (idx z).toInt.toNat 255) (?_ : _ = ix2 r 0)
    funext b; refine Fin.ext ?_
    match b with
    | ⟨0, _⟩ => rfl
    | ⟨1, _⟩ => rfl

/-- A row's expert in words. -/
theorem rowExpert_word (p : IVec S256 32) (r : Fin 327680) : (rowExpert p (Shape.Idx.ofFin r)).toNat
    = min (Finset.univ.filter fun q : Fin 256 => IntOp.cmpi .sle (p (Shape.Idx.ofFin q)) (BitVec.ofNat 32 r.val) = 1#1).card 255 := by
  have hc := count_word_le (n := 327680) (m := 256) (by norm_num) p (iotaInDim S327680 32 0)
    bcast_S256_S1x256_1 bcast_S1x256_S327680x256_0_1 bcast_S327680_S327680x1_0 bcast_S327680x1_S327680x256_0_1 natLt_1_32 reducesTo_S327680x256_S327680_d1 h_S_ r
  exact hc

/-- Rows are equal when their coordinates are. -/
theorem rows_ext (a b : S327680.Idx) (h : (a (0 : Fin 1)).val = (b (0 : Fin 1)).val) : a = b :=
  funext fun (c : Fin 1) => by obtain rfl : c = 0 := Subsingleton.elim _ _; exact Fin.ext h

/-- The index a row looks up is its expert. -/
theorem lookup_word (w : IVec S327680 32) (r : Fin 327680) (h : (w (Shape.Idx.ofFin r)).toNat < 256) :
    (lookup w (ix2 r 0)).toInt.toNat = (w (Shape.Idx.ofFin r)).toNat := by
  have hw : ∀ v : BitVec 32, v.toNat < 256 → (Scalar.select (IntOp.cmpi .slt v 0#32) (IntOp.addi v 256#32) v).toInt.toNat = v.toNat := by
    intro v hv
    have hi : v.toInt = v.toNat := by rw [BitVec.toInt_eq_toNat_of_lt]; omega
    have hs : IntOp.cmpi .slt v 0#32 = 0#1 := by
      show BitVec.ofBool (v.slt 0#32) = 0#1
      have : v.slt 0#32 = false := by
        simp only [BitVec.slt, hi]
        simp
      rw [this]; rfl
    rw [hs]
    show v.toInt.toNat = _
    rw [hi]; rfl
  have e : lookup w (ix2 r 0) = Scalar.select (IntOp.cmpi .slt (w (ix1 r)) 0#32) (IntOp.addi (w (ix1 r)) 256#32) (w (ix1 r)) := by
    pointwise [lookup]
  have e1 : (ix1 r : S327680.Idx) = Shape.Idx.ofFin r := rows_ext _ _ rfl
  rw [e, e1]; exact hw _ h

/-- A row's first weights are its expert's. -/
theorem ups_at (W : FVec Ideal S2x256x1024x512 .f32) (w : IVec S327680 32) (r : Fin 327680) (e : Fin 256) (h : (w (Shape.Idx.ofFin r)).toNat = e.val)
    (d : Fin 1024) (f : Fin 512) : ups W (lookup w) (ix3 r d f) = W (ix4 0 e d f) := by
  unfold ups
  rw [gatherU]
  have e1 : (⟨min (lookup w (ix2 r 0)).toInt.toNat 255, by omega⟩ : Fin 256) = e := Fin.ext (by
    show min _ 255 = e.val
    rw [lookup_word w r (by omega), h]; omega)
  rw [e1]
  pointwise

/-- A row's second weights are its expert's. -/
theorem downs_at (W : FVec Ideal S2x256x256x1024 .f32) (w : IVec S327680 32) (r : Fin 327680) (e : Fin 256) (h : (w (Shape.Idx.ofFin r)).toNat = e.val)
    (d : Fin 256) (f : Fin 1024) : downs W (lookup w) (ix3 r d f) = W (ix4 0 e d f) := by
  unfold downs
  rw [gatherD]
  have e1 : (⟨min (lookup w (ix2 r 0)).toInt.toNat 255, by omega⟩ : Fin 256) = e := Fin.ext (by
    show min _ 255 = e.val
    rw [lookup_word w r (by omega), h]; omega)
  rw [e1]
  pointwise

/-- A row's hidden values at an index. -/
theorem hiddens_at (X : FVec Ideal S327680x1024 .f32) (U : FVec Ideal S327680x1024x512 .f32) (r : Fin 327680) (f : Fin 512) :
    hiddens X U (ix2 r f) = hidden (fun d => X (ix2 r d)) (fun d f => U (ix3 r d f)) f := by
  pointwise [hiddens]
  rfl

/-- The gated values at an index. -/
theorem gates_at (h : FVec Ideal S327680x512 .f32) (r : Fin 327680) (f : Fin 256) :
    gates h (ix2 r f) = (h (ix2 r ⟨f.val, by omega⟩) * Ideal.div 1 (1 + Ideal.exp (-h (ix2 r ⟨f.val, by omega⟩))) * h (ix2 r ⟨256 + f.val, by omega⟩) : EReal) := by
  pointwise [gates]

/-- A row's output at an index. -/
theorem outs_at (a : FVec Ideal S327680x256 .f32) (D : FVec Ideal S327680x256x1024 .f32) (r : Fin 327680) (j : Fin 1024) :
    outs a D (ix2 r j) = (∑ f : Fin 256, a (ix2 r f) * D (ix3 r f j) : EReal) := by
  pointwise [outs]

/-- The kept outputs at an index. -/
theorem kept_at (p : IVec S256 32) (y : FVec Ideal S327680x1024 .f32) (r : Fin 327680) (j : Fin 1024) :
    kept p y (ix2 r j) = if IntOp.cmpi .slt (BitVec.ofNat 32 r.val) (p (Shape.Idx.ofFin 255)) = 1#1 then y (ix2 r j) else (0 : EReal) := by
  pointwise [kept]
  rw [lastEnd_at]
  have e : (id (constant (F := Ideal) S_ .f32 0x00000000#32) ix0 : EReal) = 0 := by
    show Ideal.ofBits .f32 0#32 = 0
    simp [Ideal.ofBits, Ideal.ieee]
  exact congrArg (fun z : EReal => Scalar.select _ (y (ix2 r j) : EReal) z) e

/-- The reference's result at an index. -/
theorem res_at (p : IVec S256 32) (X : FVec Ideal S327680x1024 .f32) (U : FVec Ideal S2x256x1024x512 .f32) (D : FVec Ideal S2x256x256x1024 .f32)
    (r : Fin 327680) (j : Fin 1024) (e : Fin 256) (h : (rowExpert p (Shape.Idx.ofFin r)).toNat = e.val) :
    kept p (outs (gates (hiddens X (ups U (lookup (rowExpert p))))) (downs D (lookup (rowExpert p)))) (ix2 r j)
      = if IntOp.cmpi .slt (BitVec.ofNat 32 r.val) (p (Shape.Idx.ofFin 255)) = 1#1
        then mixed (fun d => X (ix2 r d)) (fun d f => U (ix4 0 e d f)) (fun d f => D (ix4 0 e d f)) j else (0 : EReal) := by
  rw [kept_at, outs_at]
  simp only [gates_at, hiddens_at, ups_at _ _ r e h, downs_at _ _ r e h]
  rfl

end Cert.Reference2Ideal.Rows

end
-- ==== Proof.ExpertBlock.lean ====
module

public import proofs.«01_k».proof.Proof.ExpertFits
public import proofs.«01_k».proof.Proof.ExpertRef
public import Idealize.ShloMosaic.Lib.Pointwise
public import Idealize.ShloMosaic.Lib.Pipeline.ValueKit
public import Idealize.ShloMosaic.Lib.Pipeline.Covers

@[expose] public section

set_option maxRecDepth 16384

noncomputable section

/-! What a block of the routed experts' call computes, and where its windows lie. -/
namespace Cert.Kernel2Ideal.Experts

open Cert.Kernel2Ideal Cert.Kernel2Ideal.Gen Cert.Runs Cert.Expert
open Idealize.ShloMosaic Idealize.ShloMosaic.TcCoe Idealize.ShloMosaic.Pointwise

/-- A block of rows through one expert, at an index. -/
theorem mixed_at (x : FVec Ideal S256x1024 .f32) (u : FVec Ideal S1x1x1024x512 .f32) (d : FVec Ideal S1x1x256x1024 .f32) (R : Fin 256) (C : Fin 1024) :
    k0_pay1 (F := Ideal) x u d (ix2 R C) = mixed (fun k => x (ix2 R k)) (fun k f => u (ix4 0 0 k f)) (fun f j => d (ix4 0 0 f j)) C := by
  pointwise [k0_pay1]
  simp only [zero_sub]
  rfl

/-- A block past the last run is zero. -/
theorem zero_at (y : S256x1024.Idx) : (k0_pay2 (F := Ideal) y : EReal) = 0 := by
  show Ideal.ofBits .f32 0#32 = 0
  simp [Ideal.ofBits, Ideal.ieee]

/-- The first branch is taken by the blocks before the count. -/
theorem cond_at (i : grid0.Coords) (v : BitVec 32) (hv : v.toNat < 2 ^ 31) : k0_cond1 i v = 1#1 ↔ (i 0).val < v.toNat := by
  have hi : (i 0).val < 1280 := (i 0).isLt
  have ht : (BitVec.ofNat 32 (i 0).val).toNat = (i 0).val := by rw [BitVec.toNat_ofNat]; omega
  have hs : IntOp.cmpi .slt (BitVec.ofNat 32 (i 0).val) v = 1#1 ↔ (i 0).val < v.toNat := by
    rw [StableHlo.Predicate.slt_iff_toNat (by omega) hv, ht]
  rw [← hs]
  show IntOp.cmpi .ne ((IntOp.cmpi .slt (BitVec.ofNat 32 (i 0).val) v).setWidth 32) 0#32 = 1#1 ↔ _
  generalize IntOp.cmpi .slt (BitVec.ofNat 32 (i 0).val) v = z
  revert z; decide

/-- A point of the grid is its coordinate. -/
theorem coord_at (t : Fin grid0.N) : (grid0.coords t 0).val = t.val := by
  have h : t.val < 1280 := t.isLt
  have e : grid0.stride 0 = 1 := by decide
  show t.val / grid0.stride 0 % 1280 = t.val
  rw [e]; omega

variable {F : FTy → Type} [FloatOps F] (a : (pcfg0 (F := F)).Adm)

/-- The rows' block, at an index. -/
theorem read_rows (X : S327680x1024.Idx → Elt F .f32) (t : Fin (cfg0 a).N) (k : ℕ) (h : ((cfg0 a).win 0).index t = ![k, 0])
    (R : Fin 256) (C : Fin 1024) (hk : k * 256 + R.val < 327680) :
    ((((cfg0 a).win 0).blk t).view.read (Elt F) X : S256x1024.Idx → Elt F .f32) (ix2 R C) = X (ix2 ⟨k * 256 + R.val, hk⟩ C) := by
  blk_ext [h]

/-- The first weights' block, at an index. -/
theorem read_up (X : S2x256x1024x512.Idx → Elt F .f32) (t : Fin (cfg0 a).N) (e : Fin 256) (h : ((cfg0 a).win 1).index t = ![0, e.val, 0, 0])
    (k : Fin 1024) (f : Fin 512) :
    ((((cfg0 a).win 1).blk t).view.read (Elt F) X : S1x1x1024x512.Idx → Elt F .f32) (ix4 0 0 k f) = X (ix4 0 e k f) := by
  blk_ext [h]

/-- The second weights' block, at an index. -/
theorem read_down (X : S2x256x256x1024.Idx → Elt F .f32) (t : Fin (cfg0 a).N) (e : Fin 256) (h : ((cfg0 a).win 2).index t = ![0, e.val, 0, 0])
    (k : Fin 256) (f : Fin 1024) :
    ((((cfg0 a).win 2).blk t).view.read (Elt F) X : S1x1x256x1024.Idx → Elt F .f32) (ix4 0 0 k f) = X (ix4 0 e k f) := by
  blk_ext [h]

/-- Where an output's block lies. -/
theorem out_index (t : Fin (cfg0 a).N) : ((cfg0 a).win 3).index t = ![t.val, 0] := by
  show ![(BitVec.ofNat 32 (grid0.coords t 0).val).toNat, 0] = _
  have h : t.val < 1280 := t.isLt
  rw [coord_at, BitVec.toNat_ofNat, Nat.mod_eq_of_lt (by omega)]

/-- The place of an output block's entry. -/
theorem out_emb (t : Fin (cfg0 a).N) (R : Fin 256) (C : Fin 1024) (hk : t.val * 256 + R.val < 327680) :
    (((cfg0 a).win 3).blk t).view.emb (ix2 R C) = (ix2 (⟨t.val * 256 + R.val, hk⟩ : Fin 327680) C : S327680x1024.Idx) := by
  have h := out_index a t
  blk_ext [h]

/-- The output's blocks cover its array. -/
theorem out_covers : ((cfg0 a).win 3).Covers := by
  refine Pipeline.Window.covers_of_indexMap_surj _ rfl (fun a => ?_) fun β => ?_
  · match a with
    | ⟨0, _⟩ => show 0 < 256; omega
    | ⟨1, _⟩ => show 0 < 1024; omega
  · have e0 : ((cfg0 a).win 3).nblk (0 : Fin 2) = 1280 := by show (327680 + 256 - 1) / 256 = 1280; norm_num
    have e1 : ((cfg0 a).win 3).nblk (1 : Fin 2) = 1 := by show (1024 + 1024 - 1) / 1024 = 1; norm_num
    have h0 : (β (0 : Fin 2)).val < 1280 := lt_of_lt_of_eq (β (0 : Fin 2)).isLt e0
    have h1 : (β (1 : Fin 2)).val < 1 := lt_of_lt_of_eq (β (1 : Fin 2)).isLt e1
    refine ⟨fun b => ⟨(β (0 : Fin 2)).val, by obtain rfl : b = (0 : Fin 1) := Subsingleton.elim (α := Fin 1) _ _; exact h0⟩, fun a => ?_⟩
    match a with
    | ⟨0, _⟩ =>
      show (BitVec.ofNat 32 (β (0 : Fin 2)).val).toNat = (β (0 : Fin 2)).val
      rw [BitVec.toNat_ofNat]; omega
    | ⟨1, _⟩ => show 0 = (β (1 : Fin 2)).val; omega

end Cert.Kernel2Ideal.Experts

end
-- ==== Proof.ExpertFinal.lean ====
module

public import proofs.«01_k».proof.Proof.ExpertBlock

@[expose] public section

set_option maxRecDepth 16384

noncomputable section

/-! The routed experts' call leaves the reference's result. -/
namespace Cert.Kernel2Ideal.Experts

open Cert.Kernel2Ideal Cert.Kernel2Ideal.Gen Cert.Runs Cert.Expert
open Idealize.ShloMosaic Idealize.ShloMosaic.TcCoe Idealize.ShloMosaic.Pointwise Idealize.ShloMosaic.StableHlo.Predicate

/-- The ends being whole blocks, a run ends before a row of a block exactly when it ends before the block. -/
theorem before_row (w : BitVec 32) (hw : w.toNat % 256 = 0) (t R : ℕ) (ht : t < 1280) (hR : R < 256) :
    IntOp.cmpi .sle w (BitVec.ofNat 32 (t * 256 + R)) = 1#1 ↔ IntOp.cmpi .sle w (BitVec.ofNat 32 (t * 256)) = 1#1 := by
  have hi : ∀ n : ℕ, n < 2 ^ 31 → (BitVec.ofNat 32 n).toInt = n := fun n hn => by
    rw [BitVec.toInt_eq_toNat_of_lt] <;> rw [BitVec.toNat_ofNat] <;> omega
  simp only [IntOp.cmpi, BitVec.sle, ofBool_eq_one_iff, decide_eq_true_eq, hi (t * 256 + R) (by omega), hi (t * 256) (by omega),
    BitVec.toInt_eq_toNat_cond]
  have := w.isLt
  split <;> omega

/-- A row of a block before the last end has the block's expert. -/
theorem same_expert (p : IVec S256 32) (hp : ∀ j, (p j).toNat % 256 = 0) (t : Fin 1280) (R : Fin 256) (r : Fin 327680)
    (hr : r.val = t.val * 256 + R.val) (hl : t.val * 256 < (p (Shape.Idx.ofFin 255)).toNat) (hl' : (p (Shape.Idx.ofFin 255)).toNat < 2 ^ 31) :
    (Cert.Reference2Ideal.Rows.rowExpert p (Shape.Idx.ofFin r)).toNat = (expertTable p (Shape.Idx.ofFin t)).toNat := by
  have hs : IntOp.minsi (BitVec.ofNat 32 t.val * 256#32) (p (Shape.Idx.ofFin 255) - 1#32) = BitVec.ofNat 32 (t.val * 256) := by
    have ht := t.isLt
    have e1 : (BitVec.ofNat 32 t.val * 256#32).toNat = t.val * 256 := by
      rw [BitVec.toNat_mul, BitVec.toNat_ofNat]
      show t.val % 2 ^ 32 * 256 % 2 ^ 32 = _
      omega
    have e2 : (p (Shape.Idx.ofFin 255) - 1#32).toNat = (p (Shape.Idx.ofFin 255)).toNat - 1 := by
      rw [BitVec.toNat_sub]
      show (2 ^ 32 - 1 + _) % 2 ^ 32 = _
      omega
    apply BitVec.eq_of_toNat_eq
    rw [WordArith.toNat_minsi_of_lt _ _ (by omega) (by omega), e1, e2, BitVec.toNat_ofNat]
    omega
  rw [Cert.Reference2Ideal.Rows.rowExpert_word, expert_word, hs, hr]
  exact congrArg (fun k => min k 255) (congrArg Finset.card (Finset.filter_congr fun q _ => before_row _ (hp _) _ _ t.isLt R.isLt))

/-- A row lies in a run exactly when it comes before the last end. -/
theorem in_run (w : BitVec 32) (hw : w.toNat < 2 ^ 31) (r : ℕ) (hr : r < 327680) : IntOp.cmpi .slt (BitVec.ofNat 32 r) w = 1#1 ↔ r < w.toNat := by
  have h : (BitVec.ofNat 32 r).toNat = r := by rw [BitVec.toNat_ofNat]; omega
  rw [slt_iff_toNat (by omega) (by omega), h]

/-- A block before the count holds its rows through one expert, -/
theorem blockOut_in (i : grid0.Coords) (v : BitVec 32) (x : FVec Ideal S256x1024 .f32) (u : FVec Ideal S1x1x1024x512 .f32) (d : FVec Ideal S1x1x256x1024 .f32)
    (hc : k0_cond1 i v = 1#1) (R : Fin 256) (C : Fin 1024) (X : Fin 1024 → EReal) (U : Fin 1024 → Fin 512 → EReal) (D : Fin 256 → Fin 1024 → EReal)
    (hx : ∀ k, x (ix2 R k) = X k) (hu : ∀ k f, u (ix4 0 0 k f) = U k f) (hd : ∀ f j, d (ix4 0 0 f j) = D f j) :
    (blockOut (F := Ideal) i v x u d (ix2 R C) : EReal) = mixed X U D C := by
  unfold blockOut
  rw [if_pos hc, mixed_at]
  simp only [hx, hu, hd]

/-- and any other is zero. -/
theorem blockOut_out (i : grid0.Coords) (v : BitVec 32) (x : FVec Ideal S256x1024 .f32) (u : FVec Ideal S1x1x1024x512 .f32) (d : FVec Ideal S1x1x256x1024 .f32)
    (hc : ¬ k0_cond1 i v = 1#1) (y : S256x1024.Idx) : (blockOut (F := Ideal) i v x u d y : EReal) = 0 := by
  unfold blockOut
  rw [if_neg hc, zero_at]

/-- A number below 256 as one of the experts. -/
theorem as_fin {n : ℕ} (h : n < 256) : ∃ e : Fin 256, n = e.val := ⟨⟨n, h⟩, rfl⟩

/-- A row's expert is one of the experts. -/
theorem row_lt (p : IVec S256 32) (r : Fin 327680) : (Cert.Reference2Ideal.Rows.rowExpert p (Shape.Idx.ofFin r)).toNat < 256 := by
  rw [Cert.Reference2Ideal.Rows.rowExpert_word]; omega

/-- The count that the body reads is the table's word. -/
theorem count_read {F : FTy → Type} [FloatOps F] (T : S1.Idx → Elt F .i32) : count T = T (Shape.Idx.ofFin 0) :=
  congrArg T (place_one _ _)

/-- Where a block before the count reads its rows, -/
theorem rows_place {F : FTy → Type} [FloatOps F] (pf : pre0.Contents (Elt F)) (t : Fin grid0.N) (h : t.val < (nvW pf).toNat) (h' : (nvW pf).toNat < 2 ^ 31) :
    cc0_transform_0 inb_S1_S1_0 numel1_S1 pf (grid0.coords t) = ![t.val, 0] := by
  have ht : (BitVec.ofNat 32 (grid0.coords t 0).val).toNat = t.val := by rw [coord_at, BitVec.toNat_ofNat]; omega
  have hs : (nvW pf - 1#32).toNat = (nvW pf).toNat - 1 := by
    rw [BitVec.toNat_sub]
    show (2 ^ 32 - 1 + _) % 2 ^ 32 = _
    omega
  rw [rows_index, WordArith.toNat_minsi_of_lt _ _ (by rw [ht]; omega) (by omega), ht, hs, Nat.min_eq_left (by omega)]

/-- and where it reads its expert's weights. -/
theorem up_place {F : FTy → Type} [FloatOps F] (pf : pre0.Contents (Elt F)) (t : Fin grid0.N) (e : Fin 256) (he : (exW pf ⟨t.val, t.isLt⟩).toNat = e.val) :
    cc0_transform_1 k0_off1_inb numel1_S1 pf (grid0.coords t) = ![0, e.val, 0, 0] := by
  have h : grid0.coords t 0 = (⟨t.val, t.isLt⟩ : Fin 1280) := Fin.ext (coord_at t)
  rw [up_index, ← he]
  exact congrArg (fun k : Fin 1280 => ![0, (exW pf k).toNat, 0, 0]) h

@[inherit_doc up_place] theorem down_place {F : FTy → Type} [FloatOps F] (pf : pre0.Contents (Elt F)) (t : Fin grid0.N) (e : Fin 256) (he : (exW pf ⟨t.val, t.isLt⟩).toNat = e.val) :
    cc0_transform_2 k0_off1_inb numel1_S1 pf (grid0.coords t) = ![0, e.val, 0, 0] := by
  have h : grid0.coords t 0 = (⟨t.val, t.isLt⟩ : Fin 1280) := Fin.ext (coord_at t)
  rw [down_index, ← he]
  exact congrArg (fun k : Fin 1280 => ![0, (exW pf k).toNat, 0, 0]) h

/-- The same of the call's windows. -/
theorem rows_window {F : FTy → Type} [FloatOps F] (a : (pcfg0 (F := F)).Adm) (t : Fin (cfg0 a).N) (h : t.val < (nvW a.1).toNat) (h' : (nvW a.1).toNat < 2 ^ 31) :
    ((cfg0 a).win 0).index t = ![t.val, 0] := rows_place a.1 t h h'
@[inherit_doc rows_window] theorem up_window {F : FTy → Type} [FloatOps F] (a : (pcfg0 (F := F)).Adm) (t : Fin (cfg0 a).N) (e : Fin 256)
    (ht : t.val < 1280) (he : (exW a.1 ⟨t.val, ht⟩).toNat = e.val) : ((cfg0 a).win 1).index t = ![0, e.val, 0, 0] := up_place a.1 t e he
@[inherit_doc rows_window] theorem down_window {F : FTy → Type} [FloatOps F] (a : (pcfg0 (F := F)).Adm) (t : Fin (cfg0 a).N) (e : Fin 256)
    (ht : t.val < 1280) (he : (exW a.1 ⟨t.val, ht⟩).toNat = e.val) : ((cfg0 a).win 2).index t = ![0, e.val, 0, 0] := down_place a.1 t e he

/-- The reference's result at an index, of the last end as a number. -/
theorem reference_at (p : IVec S256 32) (X : FVec Ideal S327680x1024 .f32) (U : FVec Ideal S2x256x1024x512 .f32) (D : FVec Ideal S2x256x256x1024 .f32)
    (hl : (p (Shape.Idx.ofFin 255)).toNat < 2 ^ 31) (r : Fin 327680) (j : Fin 1024) (e : Fin 256)
    (he : (Cert.Reference2Ideal.Rows.rowExpert p (Shape.Idx.ofFin r)).toNat = e.val) :
    Cert.Reference2Ideal.Rows.kept p (Cert.Reference2Ideal.Rows.outs
        (Cert.Reference2Ideal.Rows.gates (Cert.Reference2Ideal.Rows.hiddens X (Cert.Reference2Ideal.Rows.ups U (Cert.Reference2Ideal.Rows.lookup (Cert.Reference2Ideal.Rows.rowExpert p)))))
        (Cert.Reference2Ideal.Rows.downs D (Cert.Reference2Ideal.Rows.lookup (Cert.Reference2Ideal.Rows.rowExpert p)))) (ix2 r j)
      = if r.val < (p (Shape.Idx.ofFin 255)).toNat
        then mixed (fun d => X (ix2 r d)) (fun d f => U (ix4 0 e d f)) (fun d f => D (ix4 0 e d f)) j else (0 : EReal) := by
  rw [Cert.Reference2Ideal.Rows.res_at p X U D r j e he]
  exact if_congr (in_run _ hl _ r.isLt) rfl rfl

variable (m : (ℓ : Loc nD τ sig) → Buf (Elt Ideal) ℓ) (c : Dev nD)

/-- The rows, and the experts' weights of the layer, of the arguments. -/
abbrev argX : Fin 327680 → Fin 1024 → EReal := fun i j => m ((c : Thread nD τ).loc main_arg0) (ix2 i j)
@[inherit_doc argX] abbrev argU (e : Fin 256) : Fin 1024 → Fin 512 → EReal := fun i j => m ((c : Thread nD τ).loc main_arg2) (ix4 0 e i j)
@[inherit_doc argX] abbrev argD (e : Fin 256) : Fin 256 → Fin 1024 → EReal := fun i j => m ((c : Thread nD τ).loc main_arg3) (ix4 0 e i j)

/-- What the body leaves at a point, at an index, of the arguments. -/
theorem left_at (h : Bounded m) (hO : Fits m) (t : Fin (pipe m hO).N) (R : Fin 256) (C : Fin 1024) (r : Fin 327680) (hr : r.val = t.val * 256 + R.val)
    (e : Fin 256) (ht : t.val < 1280) (he : (exW (tabs m) ⟨t.val, ht⟩).toNat = e.val) :
    (left m hO c t (ix2 R C) : EReal) = if t.val * 256 < (ends (countsOf m 0) (Shape.Idx.ofFin 255)).toNat
      then mixed (argX m c r) (argU m c e) (argD m c e) C else (0 : EReal) := by
  obtain ⟨-, h1, h2⟩ := h.nat
  have hm := ends_aligned (countsOf m 0) (Shape.Idx.ofFin 255)
  have hc := count_is m h
  have hcond := cond_at (grid0.coords t) (nvW (tabs m)) (by rw [hc]; omega)
  rw [coord_at, hc] at hcond
  have hl : left m hO c t = blockOut (grid0.coords t) (nvW (tabs m)) (block m hO c 0 t) (block m hO c 1 t) (block m hO c 2 t) :=
    congrArg (fun v => blockOut (grid0.coords t) v (block m hO c 0 t) (block m hO c 1 t) (block m hO c 2 t)) (count_read (tabs m 1))
  refine (congrFun hl (ix2 R C)).trans ?_
  by_cases hv : t.val * 256 < (ends (countsOf m 0) (Shape.Idx.ofFin 255)).toNat
  · rw [if_pos hv]
    have i0 := rows_window (planOf m hO) t (lt_of_lt_of_eq (by omega) hc.symm) (lt_of_eq_of_lt hc (by omega))
    have hp : (planOf m hO).1 = tabs m := rfl
    have he' : (exW (planOf m hO).1 ⟨t.val, ht⟩).toNat = e.val := by rw [hp]; exact he
    have i1 := up_window (planOf m hO) t e ht he'
    have i2 := down_window (planOf m hO) t e ht he'
    have hx : ∀ k, block m hO c 0 t (ix2 R k) = argX m c r k := fun k => by
      refine (read_rows (planOf m hO) _ t t.val i0 R k (by omega)).trans ?_
      refine (congrFun (kept_rows m c) _).trans ?_
      exact congrArg (fun z => argX m c z k) (Fin.ext hr.symm)
    have hu : ∀ k f, block m hO c 1 t (ix4 0 0 k f) = argU m c e k f := fun k f =>
      (read_up (planOf m hO) _ t e i1 k f).trans (congrFun (kept_up m c) _)
    have hd : ∀ k f, block m hO c 2 t (ix4 0 0 k f) = argD m c e k f := fun k f =>
      (read_down (planOf m hO) _ t e i2 k f).trans (congrFun (kept_down m c) _)
    exact blockOut_in _ _ _ _ _ (hcond.2 (by omega)) R C _ _ _ hx hu hd
  · rw [if_neg hv]
    exact blockOut_out _ _ _ _ _ (fun z => hv (by have := hcond.1 z; omega)) _

/-- The call's result is the reference's. -/
theorem final (h : Bounded m) (hO : Fits m) :
    (plan m hO 0 c).arrAt 3 (pipe m hO).N
      = Cert.Reference2Ideal.Rows.kept (F := Ideal) (ends (countsOf m 0)) (Cert.Reference2Ideal.Rows.outs
        (Cert.Reference2Ideal.Rows.gates (Cert.Reference2Ideal.Rows.hiddens (m ((c : Thread nD τ).loc main_arg0))
          (Cert.Reference2Ideal.Rows.ups (m ((c : Thread nD τ).loc main_arg2)) (Cert.Reference2Ideal.Rows.lookup (Cert.Reference2Ideal.Rows.rowExpert (ends (countsOf m 0)))))))
        (Cert.Reference2Ideal.Rows.downs (m ((c : Thread nD τ).loc main_arg3)) (Cert.Reference2Ideal.Rows.lookup (Cert.Reference2Ideal.Rows.rowExpert (ends (countsOf m 0)))))) := by
  refine (plan m hO 0 c).arrAt_eq_of_covers 3 _ (out_covers (planOf m hO)) fun t hf y => ?_
  obtain ⟨-, h1, h2⟩ := h.nat
  have ht : t.val < 1280 := t.isLt
  obtain ⟨R, C, rfl⟩ : ∃ (R : Fin 256) (C : Fin 1024), y = ix2 R C := ⟨y (0 : Fin 2), y (1 : Fin 2), eq_ix2 _⟩
  have hr : t.val * 256 + R.val < 327680 := by omega
  have hm := ends_aligned (countsOf m 0) (Shape.Idx.ofFin 255)
  obtain ⟨e, he⟩ := as_fin (row_lt (ends (countsOf m 0)) ⟨t.val * 256 + R.val, hr⟩)
  rw [out_emb (planOf m hO) t R C hr, reference_at _ _ _ _ h2 _ _ e he]
  refine Eq.trans ?_ ((congrFun (after_out m hO c t) (ix2 R C)).trans ?_)
  · rfl
  by_cases hv : t.val * 256 < (ends (countsOf m 0) (Shape.Idx.ofFin 255)).toNat
  · have he' : (exW (tabs m) ⟨t.val, ht⟩).toNat = e.val :=
      (congrArg BitVec.toNat (expert_is m ⟨t.val, ht⟩)).trans
        ((same_expert _ (ends_aligned _) ⟨t.val, ht⟩ R ⟨t.val * 256 + R.val, hr⟩ rfl hv h2).symm.trans he)
    refine (left_at m c h hO t R C ⟨t.val * 256 + R.val, hr⟩ rfl e ht he').trans ?_
    rw [if_pos hv, if_pos (show t.val * 256 + R.val < _ by omega)]
  · obtain ⟨e', he'⟩ := as_fin (expert_lt (ends (countsOf m 0)) (Shape.Idx.ofFin ⟨t.val, ht⟩))
    refine (left_at m c h hO t R C ⟨t.val * 256 + R.val, hr⟩ rfl e' ht ((congrArg BitVec.toNat (expert_is m ⟨t.val, ht⟩)).trans he')).trans ?_
    rw [if_neg hv, if_neg fun z => hv (by change t.val * 256 + R.val < _ at z; omega)]

end Cert.Kernel2Ideal.Experts

end
-- ==== Proof.ExpertBits.lean ====
module

public import proofs.«01_k».proof.Proof.ExpertRunBits
public import proofs.«01_k».proof.Proof.ExpertFits
public import proofs.«01_k».proof.Defs

@[expose] public section

set_option maxRecDepth 16384

/-! The routed experts' call over machine floats: its tables, its windows and its frame. -/
namespace Cert.Kernel2.Experts

open Cert.Kernel2 Cert.Kernel2.Gen Cert.Runs
open Cert.Kernel2Ideal.Experts (pre_words)
open Idealize.ShloMosaic Idealize.ShloMosaic.TcCoe Idealize.ShloMosaic.Tactic Idealize.ShloMosaic.StableHlo

variable {F : FTy → Type} [FloatOps F] (m : (ℓ : Loc nD τ sig) → Buf (Elt F) ℓ)

/-- The counts as launched. -/
abbrev countsOf (c : Dev nD) : IVec S256 32 := m ((c : Thread nD τ).loc main_arg1)

set_option maxHeartbeats 4000000 in
/-- The first table holds the blocks' experts. -/
theorem experts_found (c : Dev nD) : V m c main_v28 = expertTable (ends (countsOf m c)) := by
  unfold V
  simp only [hostOps0, hostOps0_1, hostOps0_2, hostOps0_3, hostOps0_4, hostOps0_5, hostOps0_6, List.flatten_cons, List.flatten_nil, List.append_nil,
    List.cons_append, List.nil_append, TRef.binary, TRef.nullary, TRef.ternary, TRef.unary, TRef.toBuf, TRef.ofBuf, cast_eq]
  after_results_simp
  rfl

set_option maxHeartbeats 4000000 in
/-- The second table holds the number of blocks. -/
theorem count_found (c : Dev nD) : V m c main_v29 = countTable (ends (countsOf m c)) := by
  unfold V
  simp only [hostOps0, hostOps0_1, hostOps0_2, hostOps0_3, hostOps0_4, hostOps0_5, hostOps0_6, List.flatten_cons, List.flatten_nil, List.append_nil,
    List.cons_append, List.nil_append, TRef.binary, TRef.nullary, TRef.ternary, TRef.unary, TRef.toBuf, TRef.ofBuf, cast_eq]
  after_results_simp
  rfl

/-- The number of blocks in the tables, -/
abbrev nvW (pf : pre0.Contents (Elt F)) : BitVec 32 := pf 1 (Shape.Idx.ofFin (n := 1) 0)
/-- and a block's expert. -/
abbrev exW (pf : pre0.Contents (Elt F)) (t : Fin 1280) : BitVec 32 := pf 0 (Shape.Idx.ofFin t)

/-- Places of a table are equal when their coordinates are. -/
theorem place_ext (a b : S1280.Idx) (h : (a (0 : Fin 1)).val = (b (0 : Fin 1)).val) : a = b :=
  funext fun (c : Fin 1) => by obtain rfl : c = 0 := Subsingleton.elim _ _; exact Fin.ext h

/-- A table of one word has one place. -/
theorem place_one (a b : S1.Idx) : a = b :=
  funext fun (c : Fin 1) => by
    obtain rfl : c = 0 := Subsingleton.elim _ _
    exact Subsingleton.elim (α := Fin 1) _ _

/-- The block of rows that the call reads at a point. -/
theorem rows_index (pf : pre0.Contents (Elt F)) (i : grid0.Coords) : cc0_transform_0 inb_S1_S1_0 numel1_S1 pf i
    = ![(IntOp.minsi (BitVec.ofNat 32 (i 0).val) (nvW pf - 1#32)).toNat, 0] := by
  unfold cc0_transform_0
  have h : pf.at 1 (Rect.unit (s := S1) ![0] S1.size inb_S1_S1_0) numel1_S1 = nvW pf :=
    congrArg (α := S1.Idx) (pf 1) (place_one _ _)
  rw [h]; rfl

/-- The expert's first weights that the call reads at a point, -/
theorem up_index (pf : pre0.Contents (Elt F)) (i : grid0.Coords) : cc0_transform_1 k0_off1_inb numel1_S1 pf i
    = ![0, (exW pf (i 0)).toNat, 0, 0] := by
  unfold cc0_transform_1
  have h : pf.at 0 (Rect.unit (s := S1280) ![(Scalar.indexCast (BitVec.ofNat 32 (i 0).val)).toNat] S1.size (k0_off1_inb i)) numel1_S1
      = exW pf (i 0) :=
    congrArg (α := S1280.Idx) (pf 0) (place_ext _ _ (by
      have hi : (i 0).val < 1280 := (i 0).isLt
      show (BitVec.ofNat 32 (i 0).val).toNat + 1 * 0 = (i 0).val
      rw [BitVec.toNat_ofNat]; omega))
  simp only [h]; rfl

/-- and its second weights. -/
theorem down_index (pf : pre0.Contents (Elt F)) (i : grid0.Coords) : cc0_transform_2 k0_off1_inb numel1_S1 pf i
    = ![0, (exW pf (i 0)).toNat, 0, 0] := up_index pf i

/-- Tables with one block at least and experts among the experts fit. -/
theorem fits_of (pf : pre0.Contents (Elt F)) (h1 : 1 ≤ (nvW pf).toNat)
    (h2 : (nvW pf).toNat < 2 ^ 31) (h0 : ∀ t, (exW pf t).toNat < 256) : ok0 pf := by
  refine ⟨fun i => ⟨fun a => ?_, Or.inl rfl⟩, fun i => ⟨fun a => ?_, Or.inl rfl⟩, fun i => ⟨fun a => ?_, Or.inl rfl⟩⟩
  · rw [rows_index]
    have hi : (i 0).val < 1280 := (i 0).isLt
    have hs : (nvW pf - 1#32).toNat = (nvW pf).toNat - 1 := by
      rw [BitVec.toNat_sub]
      show (2 ^ 32 - 1 + _) % 2 ^ 32 = _
      omega
    have hm := WordArith.toNat_minsi_of_lt (BitVec.ofNat 32 (i 0).val) (nvW pf - 1#32)
      (by rw [BitVec.toNat_ofNat]; omega) (by rw [hs]; omega)
    match a with
    | ⟨0, _⟩ =>
      show ((IntOp.minsi (BitVec.ofNat 32 (i 0).val) (nvW pf - 1#32)).toNat + 1) * 256 ≤ 327680
      have ht : (BitVec.ofNat 32 (i 0).val).toNat = (i 0).val := by rw [BitVec.toNat_ofNat]; omega
      rw [hm, hs, ht]; omega
    | ⟨1, _⟩ => show (0 + 1) * 1024 ≤ 1024; omega
  · rw [up_index]
    have := h0 (i 0)
    match a with
    | ⟨0, _⟩ => show (0 + 1) * 1 ≤ 2; omega
    | ⟨1, _⟩ => show ((exW pf (i 0)).toNat + 1) * 1 ≤ 256; omega
    | ⟨2, _⟩ => show (0 + 1) * 1024 ≤ 1024; omega
    | ⟨3, _⟩ => show (0 + 1) * 512 ≤ 512; omega
  · rw [down_index]
    have := h0 (i 0)
    match a with
    | ⟨0, _⟩ => show (0 + 1) * 1 ≤ 2; omega
    | ⟨1, _⟩ => show ((exW pf (i 0)).toNat + 1) * 1 ≤ 256; omega
    | ⟨2, _⟩ => show (0 + 1) * 256 ≤ 256; omega
    | ⟨3, _⟩ => show (0 + 1) * 1024 ≤ 1024; omega

variable (m : (ℓ : Loc nD τ sig) → Buf (Elt F) ℓ)

/-- The last end is as the precondition says. -/
abbrev Bounded : Prop := 256 ≤ (ends (countsOf m 0) (Shape.Idx.ofFin 255)).toInt

/-- The last end as a natural number. -/
theorem Bounded.nat (h : Bounded m) : ((ends (countsOf m 0) (Shape.Idx.ofFin 255)).toInt = (ends (countsOf m 0) (Shape.Idx.ofFin 255)).toNat)
    ∧ 256 ≤ (ends (countsOf m 0) (Shape.Idx.ofFin 255)).toNat ∧ (ends (countsOf m 0) (Shape.Idx.ofFin 255)).toNat < 2 ^ 31 := by
  have h1 : 256 ≤ (ends (countsOf m 0) (Shape.Idx.ofFin 255)).toInt := h
  have := BitVec.toInt_eq_toNat_cond (ends (countsOf m 0) (Shape.Idx.ofFin 255))
  have := (ends (countsOf m 0) (Shape.Idx.ofFin 255)).isLt
  split at * <;> omega

/-- The number of blocks that the call finds. -/
theorem count_is (h : Bounded m) : (nvW (tabs m)).toNat = (ends (countsOf m 0) (Shape.Idx.ofFin 255)).toNat / 256 := by
  have e : tabs m 1 = countTable (ends (countsOf m 0)) := count_found m 0
  have e' : nvW (tabs m) = countTable (ends (countsOf m 0)) (Shape.Idx.ofFin (n := 1) 0) := congrFun e _
  rw [e']
  exact count_word _ (by have h1 : 256 ≤ (ends (countsOf m 0) (Shape.Idx.ofFin 255)).toInt := h; omega) (ends_aligned _ _) _

/-- The expert of a block that the call finds. -/
theorem expert_is (t : Fin 1280) : exW (tabs m) t = expertTable (ends (countsOf m 0)) (Shape.Idx.ofFin t) :=
  congrFun (experts_found m 0) _

/-- The windows fit. -/
theorem fits (h : Bounded m) : Fits m := by
  obtain ⟨-, h1, h2⟩ := h.nat
  have hc := count_is m h
  refine fits_of _ (by rw [hc]; omega) (by rw [hc]; omega) fun t => ?_
  rw [expert_is]
  exact expert_lt _ _

/-- Over machine floats the call runs, leaves its arguments and ends with every counter at zero. -/
theorem frame_bits [Cert.Pre_has_run.Facts] : Cert.quiescent_Kernel2 := fun m ρ h =>
  args_kept (F := Bits) m ρ (fits m (pre_words _ _ _ _ (h 0)))

end Cert.Kernel2.Experts
-- ==== Proof.Project3.lean ====
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

set_option maxRecDepth 16384

noncomputable section

/-! The input projection of the delta rule mixer computes the reference's product. -/
namespace Cert.Kernel3Ideal.Product

open Cert.Kernel3Ideal Cert.Kernel3Ideal.Gen
open Idealize.ShloMosaic Idealize.ShloMosaic.TcCoe Idealize.SL.Sem Idealize.ShloMosaic.Pointwise Idealize.ShloMosaic.StableHlo

/-- The reference's result, of the arguments. -/
def product (x : FVec Ideal Cert.Reference3Ideal.S4x8192x1024 .f32) (w : FVec Ideal Cert.Reference3Ideal.S1x1024x4112 .f32) : FVec Ideal Cert.Reference3Ideal.S32768x4096 .f32 :=
  shapeCast _ (extractStridedSlice Cert.Reference3Ideal.S4x8192x4096 ![0, 0, 0] (Host.dotGeneral Cert.Reference3Ideal.dot_S4x8192x1024_S1024x4112_S4x8192x4112_2_0_01_1_n_n none x
    (shapeCast _ w Cert.Reference3Ideal.Gen.facts.shapeCasts_S1x1024x4112_S1024x4112)) Cert.Reference3Ideal.Gen.facts.slices_S4x8192x4112_S4x8192x4096_0_0_0) Cert.Reference3Ideal.Gen.facts.shapeCasts_S4x8192x4096_S32768x4096

/-- Where the windows of a grid point lie. -/
theorem win_idx : ∀ t : Fin cfg0.N, win0_0.index t = ![t.val / 4, 0] ∧ win0_1.index t = ![0, t.val % 4] ∧ win0_2.index t = ![t.val / 4, t.val % 4] := by
  decide +kernel

/-- The grid has 64 rows of 4. -/
theorem points : cfg0.N = 256 := by decide +kernel

/-- What a grid point leaves, at an index. -/
theorem out_at (x : FVec Ideal S512x1024 .bf16) (w : FVec Ideal S1024x1024 .bf16) (R : Fin 512) (C : Fin 1024) :
    (out0_2 (F := Ideal) x w (ix2 R C) : EReal) = ∑ k : Fin 1024, x (ix2 R k) * w (ix2 k C) := by
  unfold out0_2
  rw [View.canon_cons_unit_lit _ _ _ (by decide), View.ld_unit_lit _ _ (by decide), View.ld_unit_lit _ _ (by decide)]
  pointwise [k0_pay1]

/-- The rows of all batches one after the other, -/
theorem rows_cast (x : FVec Ideal S4x8192x1024 .f32) (r : Fin 32768) (k : Fin 1024) :
    (truncf (F := Ideal) .bf16 (shapeCast S32768x1024 x shapeCasts_S4x8192x1024_S32768x1024) bitsLt_bf16_f32) (ix2 r k)
      = x (ix3 (⟨r.val / 8192, by omega⟩ : Fin 4) (⟨r.val % 8192, by omega⟩ : Fin 8192) k) := by
  pointwise

/-- and the columns of the weights. -/
theorem weights_cast (w : FVec Ideal S1x1024x4112 .f32) (k : Fin 1024) (j : Fin 4096) :
    (truncf (F := Ideal) .bf16 (extractStridedSlice S1024x4096 ![0, 0] (shapeCast S1024x4112 w shapeCasts_S1x1024x4112_S1024x4112)
      slices_S1024x4112_S1024x4096_0_0) bitsLt_bf16_f32) (ix2 k j) = w (ix3 (0 : Fin 1) k (⟨j.val, by omega⟩ : Fin 4112)) := by
  pointwise

variable (m : (ℓ : Loc nD τ sig) → Buf (Elt Ideal) ℓ) (c : Dev nD)

/-- The call finds the rows of the argument, -/
theorem rows_found (r : Fin 32768) (k : Fin 1024) : (V m c main_v1 : S32768x1024.Idx → EReal) (ix2 r k)
    = m ((c : Thread nD τ).loc main_arg0) (ix3 (⟨r.val / 8192, by omega⟩ : Fin 4) (⟨r.val % 8192, by omega⟩ : Fin 8192) k) := by
  have e : V m c main_v1 = truncf (F := Ideal) .bf16 (shapeCast S32768x1024 (m ((c : Thread nD τ).loc main_arg0)) shapeCasts_S4x8192x1024_S32768x1024) bitsLt_bf16_f32 := by
    unfold V
    after_results_simp
    rfl
  exact (congrFun e _).trans (rows_cast _ r k)

/-- and the columns of the weights before the gates. -/
theorem weights_found (k : Fin 1024) (j : Fin 4096) : (V m c main_v4 : S1024x4096.Idx → EReal) (ix2 k j)
    = m ((c : Thread nD τ).loc main_arg1) (ix3 (0 : Fin 1) k (⟨j.val, by omega⟩ : Fin 4112)) := by
  have e : V m c main_v4 = truncf (F := Ideal) .bf16 (extractStridedSlice S1024x4096 ![0, 0] (shapeCast S1024x4112 (m ((c : Thread nD τ).loc main_arg1)) shapeCasts_S1x1024x4112_S1024x4112)
      slices_S1024x4112_S1024x4096_0_0) bitsLt_bf16_f32 := by
    unfold V
    after_results_simp
    rfl
  exact (congrFun e _).trans (weights_cast _ k j)

/-- The reference's result at an index. -/
theorem product_at (x : FVec Ideal Cert.Reference3Ideal.S4x8192x1024 .f32) (w : FVec Ideal Cert.Reference3Ideal.S1x1024x4112 .f32) (r : Fin 32768) (j : Fin 4096) :
    (product x w (ix2 r j) : EReal) = ∑ k : Fin 1024, x (ix3 (⟨r.val / 8192, by omega⟩ : Fin 4) (⟨r.val % 8192, by omega⟩ : Fin 8192) k) * w (ix3 (0 : Fin 1) k (⟨j.val, by omega⟩ : Fin 4112)) := by
  pointwise [product]

/-- The call's result is the reference's. -/
theorem final : (dats m 0 c).arrAt 2 cfg0.N = product (m ((c : Thread nD τ).loc main_arg0)) (m ((c : Thread nD τ).loc main_arg1)) := by
  refine (dats m 0 c).arrAt_eq_of_covers 2 _ (by decide +kernel) fun t hf y => ?_
  have ht : t.val < 256 := points ▸ t.isLt
  obtain ⟨h0, h1, h2⟩ := win_idx t
  obtain ⟨R, C, rfl⟩ : ∃ (R : Fin 512) (C : Fin 1024), y = ix2 R C := ⟨y (0 : Fin 2), y (1 : Fin 2), eq_ix2 _⟩
  have emb : ((cfg0.win 2).blk t).view.emb (ix2 R C) = ix2 (⟨t.val / 4 * 512 + R.val, by omega⟩ : Fin 32768) (⟨t.val % 4 * 1024 + C.val, by omega⟩ : Fin 4096) := by
    blk_ext [h2]
  rw [emb, product_at]
  refine Eq.trans ?_ ((congrFun (after0_2 m c t) (ix2 R C)).trans ((out_at _ _ R C).trans (Finset.sum_congr rfl fun k _ => congrArg₂ (· * ·) ?_ ?_)))
  · rfl
  · refine Eq.trans (b := (V m c main_v1 : S32768x1024.Idx → EReal) (ix2 (⟨t.val / 4 * 512 + R.val, by omega⟩ : Fin 32768) k)) ?_ (rows_found m c _ k)
    blk_ext [iblk, h0]
  · refine Eq.trans (b := (V m c main_v4 : S1024x4096.Idx → EReal) (ix2 k (⟨t.val % 4 * 1024 + C.val, by omega⟩ : Fin 4096))) ?_ (weights_found m c k _)
    blk_ext [iblk, h1]

end Cert.Kernel3Ideal.Product

end
-- ==== Proof.Project4.lean ====
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

noncomputable section

/-! The projection to the shared keys and values computes the reference's product. -/
namespace Cert.Kernel4Ideal.Product

open Cert.Kernel4Ideal Cert.Kernel4Ideal.Gen
open Idealize.ShloMosaic Idealize.ShloMosaic.TcCoe Idealize.SL.Sem Idealize.ShloMosaic.Pointwise Idealize.ShloMosaic.StableHlo

/-- The reference's result, of the arguments. -/
def product (x : FVec Ideal Cert.Reference4Ideal.S32768x1024 .bf16) (w : FVec Ideal Cert.Reference4Ideal.S1024x2048 .f32) : FVec Ideal Cert.Reference4Ideal.S32768x2048 .bf16 :=
  truncf .bf16 (Host.dotGeneral Cert.Reference4Ideal.dot_S32768x1024_S1024x2048_S32768x2048_1_0_0_1_n_n none (extf .f32 x Cert.Reference4Ideal.Gen.facts.bitsLt_bf16_f32) w) Cert.Reference4Ideal.Gen.facts.bitsLt_bf16_f32

/-- Where the windows of a grid point lie. -/
theorem win_idx : ∀ t : Fin cfg0.N, win0_0.index t = ![t.val / 2, 0] ∧ win0_1.index t = ![0, t.val % 2] ∧ win0_2.index t = ![t.val / 2, t.val % 2] := by
  decide +kernel

/-- The grid has 64 rows of 2. -/
theorem points : cfg0.N = 128 := by decide +kernel

/-- What a grid point leaves, at an index. -/
theorem out_at (x : FVec Ideal S512x1024 .bf16) (w : FVec Ideal S1024x1024 .bf16) (R : Fin 512) (C : Fin 1024) :
    (out0_2 (F := Ideal) x w (ix2 R C) : EReal) = ∑ k : Fin 1024, x (ix2 R k) * w (ix2 k C) := by
  unfold out0_2
  rw [View.canon_cons_unit_lit _ _ _ (by decide), View.ld_unit_lit _ _ (by decide), View.ld_unit_lit _ _ (by decide)]
  pointwise [k0_pay1]

/-- The weights as they are. -/
theorem weights_cast (w : FVec Ideal S1024x2048 .f32) (k : Fin 1024) (j : Fin 2048) :
    (truncf (F := Ideal) .bf16 w bitsLt_bf16_f32) (ix2 k j) = w (ix2 k j) := (rfl)

variable (m : (ℓ : Loc nD τ sig) → Buf (Elt Ideal) ℓ) (c : Dev nD)

/-- The call finds the rows of the argument, -/
theorem rows_found (r : Fin 32768) (k : Fin 1024) : (V m c main_arg0 : S32768x1024.Idx → EReal) (ix2 r k)
    = m ((c : Thread nD τ).loc main_arg0) (ix2 r k) := congrFun (V_main_arg0 m c) _

/-- and its weights. -/
theorem weights_found (k : Fin 1024) (j : Fin 2048) : (V m c main_v0 : S1024x2048.Idx → EReal) (ix2 k j)
    = m ((c : Thread nD τ).loc main_arg1) (ix2 k j) := by
  have e : V m c main_v0 = truncf (F := Ideal) .bf16 (m ((c : Thread nD τ).loc main_arg1)) bitsLt_bf16_f32 := (rfl)
  exact (congrFun e _).trans (weights_cast _ k j)

/-- The reference's result at an index. -/
theorem product_at (x : FVec Ideal Cert.Reference4Ideal.S32768x1024 .bf16) (w : FVec Ideal Cert.Reference4Ideal.S1024x2048 .f32) (r : Fin 32768) (j : Fin 2048) :
    (product x w (ix2 r j) : EReal) = ∑ k : Fin 1024, x (ix2 r k) * w (ix2 k j) := by
  pointwise [product]

/-- The call's result is the reference's. -/
theorem final : (dats m 0 c).arrAt 2 cfg0.N = product (m ((c : Thread nD τ).loc main_arg0)) (m ((c : Thread nD τ).loc main_arg1)) := by
  refine (dats m 0 c).arrAt_eq_of_covers 2 _ (by decide +kernel) fun t hf y => ?_
  have ht : t.val < 128 := points ▸ t.isLt
  obtain ⟨h0, h1, h2⟩ := win_idx t
  obtain ⟨R, C, rfl⟩ : ∃ (R : Fin 512) (C : Fin 1024), y = ix2 R C := ⟨y (0 : Fin 2), y (1 : Fin 2), eq_ix2 _⟩
  have emb : ((cfg0.win 2).blk t).view.emb (ix2 R C) = ix2 (⟨t.val / 2 * 512 + R.val, by omega⟩ : Fin 32768) (⟨t.val % 2 * 1024 + C.val, by omega⟩ : Fin 2048) := by
    blk_ext [h2]
  rw [emb, product_at]
  refine Eq.trans ?_ ((congrFun (after0_2 m c t) (ix2 R C)).trans ((out_at _ _ R C).trans (Finset.sum_congr rfl fun k _ => congrArg₂ (· * ·) ?_ ?_)))
  · rfl
  · refine Eq.trans (b := (V m c main_arg0 : S32768x1024.Idx → EReal) (ix2 (⟨t.val / 2 * 512 + R.val, by omega⟩ : Fin 32768) k)) ?_ (rows_found m c _ k)
    blk_ext [iblk, h0]
  · refine Eq.trans (b := (V m c main_v0 : S1024x2048.Idx → EReal) (ix2 k (⟨t.val % 2 * 1024 + C.val, by omega⟩ : Fin 2048))) ?_ (weights_found m c k _)
    blk_ext [iblk, h1]

end Cert.Kernel4Ideal.Product

end
-- ==== Proof.Project5.lean ====
module

public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

set_option maxRecDepth 16384

noncomputable section

/-! The projection to the queries computes the reference's product. -/
namespace Cert.Kernel5Ideal.Product

open Cert.Kernel5Ideal Cert.Kernel5Ideal.Gen
open Idealize.ShloMosaic Idealize.ShloMosaic.TcCoe Idealize.SL.Sem Idealize.ShloMosaic.Pointwise Idealize.ShloMosaic.StableHlo

/-- The reference's result, of the arguments. -/
def product (x : FVec Ideal Cert.Reference5Ideal.S32768x1024 .bf16) (w : FVec Ideal Cert.Reference5Ideal.S1x1024x1024 .f32) : FVec Ideal Cert.Reference5Ideal.S32768x1024 .bf16 :=
  truncf .bf16 (Host.dotGeneral Cert.Reference5Ideal.dot_S32768x1024_S1024x1024_S32768x1024_1_0_0_1_n_n none (extf .f32 x Cert.Reference5Ideal.Gen.facts.bitsLt_bf16_f32) (shapeCast _ w Cert.Reference5Ideal.Gen.facts.shapeCasts_S1x1024x1024_S1024x1024)) Cert.Reference5Ideal.Gen.facts.bitsLt_bf16_f32

/-- Where the windows of a grid point lie. -/
theorem win_idx : ∀ t : Fin cfg0.N, win0_0.index t = ![t.val / 1, 0] ∧ win0_1.index t = ![0, t.val % 1] ∧ win0_2.index t = ![t.val / 1, t.val % 1] := by
  decide +kernel

/-- The grid has 64 rows of 1. -/
theorem points : cfg0.N = 64 := by decide +kernel

/-- What a grid point leaves, at an index. -/
theorem out_at (x : FVec Ideal S512x1024 .bf16) (w : FVec Ideal S1024x1024 .bf16) (R : Fin 512) (C : Fin 1024) :
    (out0_2 (F := Ideal) x w (ix2 R C) : EReal) = ∑ k : Fin 1024, x (ix2 R k) * w (ix2 k C) := by
  unfold out0_2
  rw [View.canon_cons_unit_lit _ _ _ (by decide), View.ld_unit_lit _ _ (by decide), View.ld_unit_lit _ _ (by decide)]
  pointwise [k0_pay1]

/-- The weights without their leading axis of one. -/
theorem weights_cast (w : FVec Ideal S1x1024x1024 .f32) (k : Fin 1024) (j : Fin 1024) :
    (truncf (F := Ideal) .bf16 (shapeCast S1024x1024 w shapeCasts_S1x1024x1024_S1024x1024) bitsLt_bf16_f32) (ix2 k j) = w (ix3 (0 : Fin 1) k j) := by
  pointwise

variable (m : (ℓ : Loc nD τ sig) → Buf (Elt Ideal) ℓ) (c : Dev nD)

/-- The call finds the rows of the argument, -/
theorem rows_found (r : Fin 32768) (k : Fin 1024) : (V m c main_arg0 : S32768x1024.Idx → EReal) (ix2 r k)
    = m ((c : Thread nD τ).loc main_arg0) (ix2 r k) := congrFun (V_main_arg0 m c) _

/-- and its weights. -/
theorem weights_found (k : Fin 1024) (j : Fin 1024) : (V m c main_v1 : S1024x1024.Idx → EReal) (ix2 k j)
    = m ((c : Thread nD τ).loc main_arg1) (ix3 (0 : Fin 1) k j) := by
  have e : V m c main_v1 = truncf (F := Ideal) .bf16 (shapeCast S1024x1024 (m ((c : Thread nD τ).loc main_arg1)) shapeCasts_S1x1024x1024_S1024x1024) bitsLt_bf16_f32 := by
    unfold V
    after_results_simp
    rfl
  exact (congrFun e _).trans (weights_cast _ k j)

/-- The reference's result at an index. -/
theorem product_at (x : FVec Ideal Cert.Reference5Ideal.S32768x1024 .bf16) (w : FVec Ideal Cert.Reference5Ideal.S1x1024x1024 .f32) (r : Fin 32768) (j : Fin 1024) :
    (product x w (ix2 r j) : EReal) = ∑ k : Fin 1024, x (ix2 r k) * w (ix3 (0 : Fin 1) k j) := by
  pointwise [product]

/-- The call's result is the reference's. -/
theorem final : (dats m 0 c).arrAt 2 cfg0.N = product (m ((c : Thread nD τ).loc main_arg0)) (m ((c : Thread nD τ).loc main_arg1)) := by
  refine (dats m 0 c).arrAt_eq_of_covers 2 _ (by decide +kernel) fun t hf y => ?_
  have ht : t.val < 64 := points ▸ t.isLt
  obtain ⟨h0, h1, h2⟩ := win_idx t
  obtain ⟨R, C, rfl⟩ : ∃ (R : Fin 512) (C : Fin 1024), y = ix2 R C := ⟨y (0 : Fin 2), y (1 : Fin 2), eq_ix2 _⟩
  have emb : ((cfg0.win 2).blk t).view.emb (ix2 R C) = ix2 (⟨t.val / 1 * 512 + R.val, by omega⟩ : Fin 32768) (⟨t.val % 1 * 1024 + C.val, by omega⟩ : Fin 1024) := by
    blk_ext [h2]
  rw [emb, product_at]
  refine Eq.trans ?_ ((congrFun (after0_2 m c t) (ix2 R C)).trans ((out_at _ _ R C).trans (Finset.sum_congr rfl fun k _ => congrArg₂ (· * ·) ?_ ?_)))
  · rfl
  · refine Eq.trans (b := (V m c main_arg0 : S32768x1024.Idx → EReal) (ix2 (⟨t.val / 1 * 512 + R.val, by omega⟩ : Fin 32768) k)) ?_ (rows_found m c _ k)
    blk_ext [iblk, h0]
  · refine Eq.trans (b := (V m c main_v1 : S1024x1024.Idx → EReal) (ix2 k (⟨t.val % 1 * 1024 + C.val, by omega⟩ : Fin 1024))) ?_ (weights_found m c k _)
    blk_ext [iblk, h1]

end Cert.Kernel5Ideal.Product

end
-- ==== Proof.Norm.lean ====
module

public import Idealize.ShloMosaic.Lib.Pointwise

@[expose] public section

noncomputable section

/-! A projection with its residual and its norm, for one row. -/
namespace Cert.Norm

open Idealize.ShloMosaic

/-- A row against the projection's weights, with the scaled residual. -/
def summed (x a : Fin 1024 → EReal) (w : Fin 1024 → Fin 1024 → EReal) (j : Fin 1024) : EReal :=
  Ideal.ofBits .f32 0x3FB504F3#32 * x j + ∑ k : Fin 1024, a k * w k j

/-- The mean of a row. -/
def mean (y : Fin 1024 → EReal) : EReal := Ideal.div (∑ k : Fin 1024, y k) (Ideal.ofBits .f32 0x44800000#32)

/-- An entry's distance from the mean. -/
def dev (y : Fin 1024 → EReal) (j : Fin 1024) : EReal := y j - mean y

/-- A row normed, with its gain and its bias. -/
def normed (y g b : Fin 1024 → EReal) (j : Fin 1024) : EReal :=
  dev y j * Ideal.rsqrt (mean (fun k => dev y k * dev y k) + Ideal.ofBits .f32 0x3727C5AC#32) * g j + b j

end Cert.Norm

end
-- ==== Proof.Norm6Ref.lean ====
module

public import proofs.«01_k».proof.Proof.Gen.Reference6Ideal.Run
public import proofs.«01_k».proof.Proof.Norm

@[expose] public section

set_option maxRecDepth 16384

noncomputable section

/-! The reference's projection, residual and norm, at an index. -/
namespace Cert.Reference6Ideal.Stages

open Idealize.ShloMosaic Idealize.ShloMosaic.TcCoe Idealize.SL.Sem Idealize.ShloMosaic.Pointwise
open Cert.Reference6Ideal Cert.Reference6Ideal.Gen Cert.Reference6Ideal.Value Cert.Norm

section
variable {F : FTy → Type} [FloatOps F]

/-- The projection with the residual. -/
def sums (a : FVec F S32768x1024 .bf16) (w : FVec F S1x1024x1024 .f32) (x : FVec F S32768x1024 .f32) : FVec F S32768x1024 .f32 :=
  addf (mulf (broadcastInDim S32768x1024 ![] bcast_S_S32768x1024 (constant S_ .f32 0x3FB504F3#32)) x)
    (Host.dotGeneral dot_S32768x1024_S1024x1024_S32768x1024_1_0_0_1_n_n none (extf .f32 a bitsLt_bf16_f32) (shapeCast _ w shapeCasts_S1x1024x1024_S1024x1024))

/-- Every row's mean. -/
def means (y : FVec F S32768x1024 .f32) : FVec F S32768x1 .f32 :=
  Host.divf (broadcastInDim S32768x1 ![0] bcast_S32768_S32768x1_0 (Host.reduceAdd y (constant S_ .f32 0x00000000#32) reducesTo_S32768x1024_S32768_d1 h_S_))
    (broadcastInDim S32768x1 ![] bcast_S_S32768x1 (constant S_ .f32 0x44800000#32))

/-- Every entry's distance from its row's mean. -/
def devs (y : FVec F S32768x1024 .f32) : FVec F S32768x1024 .f32 :=
  subf y (broadcastInDim S32768x1024 ![0, 1] bcast_S32768x1_S32768x1024_0_1 (means y))

/-- The gain or the bias of the layer, in every row. -/
def params (g : FVec F S2x1024 .f32) : FVec F S32768x1024 .f32 :=
  broadcastInDim S32768x1024 ![0, 1] bcast_S1x1024_S32768x1024_0_1 (broadcastInDim S1x1024 ![1] bcast_S1024_S1x1024_1
    (shapeCast _ (extractStridedSlice S1x1024 ![0, 0] g slices_S2x1024_S1x1024_0_0) shapeCasts_S1x1024_S1024))

/-- The normed rows. -/
def norms (y : FVec F S32768x1024 .f32) (g b : FVec F S2x1024 .f32) : FVec F S32768x1024 .f32 :=
  addf (mulf (mulf (devs y) (broadcastInDim S32768x1024 ![0, 1] bcast_S32768x1_S32768x1024_0_1 (Host.rsqrt (addf (means (mulf (devs y) (devs y)))
    (broadcastInDim S32768x1 ![] bcast_S_S32768x1 (constant S_ .f32 0x3727C5AC#32)))))) (params g)) (params b)

/-- The reference's result is its stages, one after the other. -/
theorem res_eq (m : (ℓ : Loc nD τ sig) → Buf (Elt F) ℓ) (c : Dev nD) :
    res_main_v33 m c = norms (sums (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4)) := (rfl)

end

/-- The projection with the residual, at an index. -/
theorem sums_at (a : FVec Ideal S32768x1024 .bf16) (w : FVec Ideal S1x1024x1024 .f32) (x : FVec Ideal S32768x1024 .f32) (r : Fin 32768) (j : Fin 1024) :
    sums a w x (ix2 r j) = summed (fun k => x (ix2 r k)) (fun k => a (ix2 r k)) (fun k j => w (ix3 0 k j)) j := by
  pointwise [sums]
  rfl

/-- A row's mean, -/
theorem means_at (y : FVec Ideal S32768x1024 .f32) (r : Fin 32768) : means y (ix2 r 0) = mean (fun k => y (ix2 r k)) := by
  pointwise [means]
  rfl

/-- an entry's distance from it, -/
theorem devs_at (y : FVec Ideal S32768x1024 .f32) (r : Fin 32768) (j : Fin 1024) : devs y (ix2 r j) = dev (fun k => y (ix2 r k)) j := by
  pointwise [devs]
  rw [means_at]
  rfl

/-- and the normed entry. -/
theorem norms_at (y : FVec Ideal S32768x1024 .f32) (g b : FVec Ideal S2x1024 .f32) (r : Fin 32768) (j : Fin 1024) :
    norms y g b (ix2 r j) = normed (fun k => y (ix2 r k)) (fun k => g (ix2 0 k)) (fun k => b (ix2 0 k)) j := by
  pointwise [norms, params]
  rw [means_at, devs_at]
  unfold normed
  refine congrArg (fun z => dev _ j * Ideal.rsqrt (mean z + _) * _ + _) (funext fun k => ?_)
  pointwise
  rw [devs_at]

/-- The reference's result at an index. -/
theorem result_at (a : FVec Ideal S32768x1024 .bf16) (w : FVec Ideal S1x1024x1024 .f32) (x : FVec Ideal S32768x1024 .f32) (g b : FVec Ideal S2x1024 .f32) (r : Fin 32768)
    (j : Fin 1024) : norms (sums a w x) g b (ix2 r j)
      = normed (summed (fun k => x (ix2 r k)) (fun k => a (ix2 r k)) (fun k j => w (ix3 0 k j))) (fun k => g (ix2 0 k)) (fun k => b (ix2 0 k)) j :=
  (norms_at _ g b r j).trans (congrArg (fun y => normed y _ _ j) (funext fun k => sums_at a w x r k))

end Cert.Reference6Ideal.Stages

end
-- ==== Proof.Norm6.lean ====
module

public import proofs.«01_k».proof.Proof.Gen.Kernel6Ideal.Value
public import proofs.«01_k».proof.Proof.Norm6Ref
public import Idealize.ShloMosaic.Lib.Pipeline.ValueKit

@[expose] public section

set_option maxRecDepth 16384

noncomputable section

/-! The output projection of the delta rule mixer, its residual and its norm are computed as the reference computes them. -/
namespace Cert.Kernel6Ideal.Normed

open Cert.Kernel6Ideal Cert.Kernel6Ideal.Gen Cert.Norm
open Idealize.ShloMosaic Idealize.ShloMosaic.TcCoe Idealize.SL.Sem Idealize.ShloMosaic.Pointwise Idealize.ShloMosaic.StableHlo

section
variable {F : FTy → Type} [FloatOps F]

/-- The block's projection with the residual. -/
def sums (x : FVec F S512x1024 .f32) (a : FVec F S512x1024 .bf16) (w : FVec F S1024x1024 .bf16) : FVec F S512x1024 .f32 :=
  addf (mulf (broadcast S512x1024 (Scalar.ofBits .f32 0x3FB504F3#32)) x)
    (matmul dot_S512x1024_S1024x1024_S512x1024_1_0_0_1_n_n none a (shapeCast S1024x1024 w shapeCasts_S1024x1024_S1024x1024) (constant S512x1024 .f32 0x00000000#32))

/-- Every row's mean. -/
def means (y : FVec F S512x1024 .f32) : FVec F S512x1 .f32 :=
  divf (shapeCast S512x1 (multiReduction .add [1] S512 y 0x00000000#32 reduces_S512x1024_S512 (.inl rfl) rfl) shapeCasts_S512_S512x1)
    (broadcast S512x1 (Scalar.ofBits .f32 0x44800000#32))

/-- Every entry's distance from its row's mean. -/
def devs (y : FVec F S512x1024 .f32) : FVec F S512x1024 .f32 := subf y (broadcastTo S512x1024 (means y) broadcasts_S512x1_S512x1024)

/-- The normed rows. -/
def norms (y : FVec F S512x1024 .f32) (g b : FVec F S1x1024 .f32) : FVec F S512x1024 .f32 :=
  addf (mulf (mulf (devs y) (broadcastTo S512x1024 (rsqrt (addf (means (mulf (devs y) (devs y))) (broadcast S512x1 (Scalar.ofBits .f32 0x3727C5AC#32)))) broadcasts_S512x1_S512x1024))
    (broadcastTo S512x1024 (shapeCast S1x1024 g shapeCasts_S1x1024_S1x1024) broadcasts_S1x1024_S512x1024))
    (broadcastTo S512x1024 (shapeCast S1x1024 b shapeCasts_S1x1024_S1x1024) broadcasts_S1x1024_S512x1024)

/-- The body's result is its stages, one after the other. -/
theorem pay_eq (x : FVec F S512x1024 .f32) (a : FVec F S512x1024 .bf16) (w : FVec F S1024x1024 .bf16) (g b : FVec F S1x1024 .f32) :
    k0_pay1 x a w g b = norms (sums x a w) g b := (rfl)

end

/-- The projection with the residual, at an index. -/
theorem sums_at (x : FVec Ideal S512x1024 .f32) (a : FVec Ideal S512x1024 .bf16) (w : FVec Ideal S1024x1024 .bf16) (R : Fin 512) (C : Fin 1024) :
    sums x a w (ix2 R C) = summed (fun k => x (ix2 R k)) (fun k => a (ix2 R k)) (fun k j => w (ix2 k j)) C := by
  pointwise [sums]
  rfl

/-- A row's mean, -/
theorem means_at (y : FVec Ideal S512x1024 .f32) (R : Fin 512) : means y (ix2 R 0) = mean (fun k => y (ix2 R k)) := by
  pointwise [means]
  rfl

/-- an entry's distance from it, -/
theorem devs_at (y : FVec Ideal S512x1024 .f32) (R : Fin 512) (C : Fin 1024) : devs y (ix2 R C) = dev (fun k => y (ix2 R k)) C := by
  pointwise [devs]
  rw [means_at]
  rfl

/-- and the normed entry. -/
theorem norms_at (y : FVec Ideal S512x1024 .f32) (g b : FVec Ideal S1x1024 .f32) (R : Fin 512) (C : Fin 1024) :
    norms y g b (ix2 R C) = normed (fun k => y (ix2 R k)) (fun k => g (ix2 0 k)) (fun k => b (ix2 0 k)) C := by
  pointwise [norms]
  rw [means_at, devs_at]
  unfold normed
  refine congrArg (fun z => dev _ C * Ideal.rsqrt (mean z + _) * _ + _) (funext fun k => ?_)
  pointwise
  rw [devs_at]

/-- What a grid point leaves, at an index. -/
theorem out_at (a : FVec Ideal S512x1024 .bf16) (w : FVec Ideal S1024x1024 .bf16) (x : FVec Ideal S512x1024 .f32) (g b : FVec Ideal S1x1024 .f32) (R : Fin 512) (C : Fin 1024) :
    out0_5 (F := Ideal) a w x g b (ix2 R C) = normed (summed (fun k => x (ix2 R k)) (fun k => a (ix2 R k)) (fun k j => w (ix2 k j))) (fun k => g (ix2 0 k)) (fun k => b (ix2 0 k)) C := by
  unfold out0_5
  rw [View.canon_cons_unit_lit _ _ _ (by decide), View.ld_unit_lit _ _ (by decide), View.ld_unit_lit _ _ (by decide), View.ld_unit_lit _ _ (by decide),
    View.ld_unit_lit _ _ (by decide), View.ld_unit_lit _ _ (by decide), pay_eq]
  exact (norms_at _ g b R C).trans (congrArg (fun y => normed y _ _ C) (funext fun k => sums_at x a w R k))

/-- Where the windows of a grid point lie. -/
theorem win_idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] := by decide +kernel

/-- The grid has 64 points. -/
theorem points : cfg0.N = 64 := by decide +kernel

/-- The weights without their leading axis of one, -/
theorem weights_cast (w : FVec Ideal S1x1024x1024 .f32) (k j : Fin 1024) :
    (truncf (F := Ideal) .bf16 (shapeCast S1024x1024 w shapeCasts_S1x1024x1024_S1024x1024) bitsLt_bf16_f32) (ix2 k j) = w (ix3 (0 : Fin 1) k j) := by
  pointwise

/-- and the layer's gain or bias. -/
theorem params_cast (g : FVec Ideal S2x1024 .f32) (k : Fin 1024) :
    shapeCast S1x1024 (shapeCast S1024 (extractStridedSlice S1x1024 ![0, 0] g slices_S2x1024_S1x1024_0_0) shapeCasts_S1x1024_S1024) shapeCasts_S1024_S1x1024 (ix2 0 k)
      = g (ix2 (0 : Fin 2) k) := by
  pointwise

variable (m : (ℓ : Loc nD τ sig) → Buf (Elt Ideal) ℓ) (c : Dev nD)

/-- The call finds the weights of the argument, -/
theorem weights_found (k j : Fin 1024) : (V m c main_v1 : S1024x1024.Idx → EReal) (ix2 k j) = m ((c : Thread nD τ).loc main_arg1) (ix3 (0 : Fin 1) k j) := by
  have e : V m c main_v1 = truncf (F := Ideal) .bf16 (shapeCast S1024x1024 (m ((c : Thread nD τ).loc main_arg1)) shapeCasts_S1x1024x1024_S1024x1024) bitsLt_bf16_f32 := by
    unfold V
    after_results_simp
    rfl
  exact (congrFun e _).trans (weights_cast _ k j)

/-- the layer's gain -/
theorem gain_found (k : Fin 1024) : (V m c main_v6 : S1x1024.Idx → EReal) (ix2 0 k) = m ((c : Thread nD τ).loc main_arg3) (ix2 (0 : Fin 2) k) := by
  have e : V m c main_v6 = shapeCast S1x1024 (shapeCast S1024 (extractStridedSlice S1x1024 ![0, 0] (m ((c : Thread nD τ).loc main_arg3)) slices_S2x1024_S1x1024_0_0)
      shapeCasts_S1x1024_S1024) shapeCasts_S1024_S1x1024 := by
    unfold V
    after_results_simp
    rfl
  exact (congrFun e _).trans (params_cast _ k)

/-- and its bias. -/
theorem bias_found (k : Fin 1024) : (V m c main_v7 : S1x1024.Idx → EReal) (ix2 0 k) = m ((c : Thread nD τ).loc main_arg4) (ix2 (0 : Fin 2) k) := by
  have e : V m c main_v7 = shapeCast S1x1024 (shapeCast S1024 (extractStridedSlice S1x1024 ![0, 0] (m ((c : Thread nD τ).loc main_arg4)) slices_S2x1024_S1x1024_0_0)
      shapeCasts_S1x1024_S1024) shapeCasts_S1024_S1x1024 := by
    unfold V
    after_results_simp
    rfl
  exact (congrFun e _).trans (params_cast _ k)

/-- The call's result is the reference's. -/
theorem final : (dats m 0 c).arrAt 5 cfg0.N = Cert.Reference6Ideal.Stages.norms (F := Ideal)
    (Cert.Reference6Ideal.Stages.sums (m ((c : Thread nD τ).loc main_arg0)) (m ((c : Thread nD τ).loc main_arg1)) (m ((c : Thread nD τ).loc main_arg2)))
    (m ((c : Thread nD τ).loc main_arg3)) (m ((c : Thread nD τ).loc main_arg4)) := by
  refine (dats m 0 c).arrAt_eq_of_covers 5 _ (by decide +kernel) fun t hf y => ?_
  have ht : t.val < 64 := points ▸ t.isLt
  obtain ⟨h0, h1, h2, h3, h4, h5⟩ := win_idx t
  obtain ⟨R, C, rfl⟩ : ∃ (R : Fin 512) (C : Fin 1024), y = ix2 R C := ⟨y (0 : Fin 2), y (1 : Fin 2), eq_ix2 _⟩
  have emb : ((cfg0.win 5).blk t).view.emb (ix2 R C) = ix2 (⟨t.val * 512 + R.val, by omega⟩ : Fin 32768) C := by
    blk_ext [h5]
  have ea : ∀ k : Fin 1024, (iblk m c 0 t : S512x1024.Idx → EReal) (ix2 R k) = m ((c : Thread nD τ).loc main_arg0) (ix2 (⟨t.val * 512 + R.val, by omega⟩ : Fin 32768) k) := fun k => by
    rw [← V_main_arg0 m c]
    blk_ext [iblk, h0]
  have ew : ∀ k j : Fin 1024, (iblk m c 1 t : S1024x1024.Idx → EReal) (ix2 k j) = m ((c : Thread nD τ).loc main_arg1) (ix3 (0 : Fin 1) k j) := fun k j => by
    refine Eq.trans (b := (V m c main_v1 : S1024x1024.Idx → EReal) (ix2 k j)) ?_ (weights_found m c k j)
    blk_ext [iblk, h1]
  have ex : ∀ k : Fin 1024, (iblk m c 2 t : S512x1024.Idx → EReal) (ix2 R k) = m ((c : Thread nD τ).loc main_arg2) (ix2 (⟨t.val * 512 + R.val, by omega⟩ : Fin 32768) k) := fun k => by
    rw [← V_main_arg2 m c]
    blk_ext [iblk, h2]
  have eg : ∀ k : Fin 1024, (iblk m c 3 t : S1x1024.Idx → EReal) (ix2 0 k) = m ((c : Thread nD τ).loc main_arg3) (ix2 (0 : Fin 2) k) := fun k => by
    refine Eq.trans (b := (V m c main_v6 : S1x1024.Idx → EReal) (ix2 0 k)) ?_ (gain_found m c k)
    blk_ext [iblk, h3]
  have eb : ∀ k : Fin 1024, (iblk m c 4 t : S1x1024.Idx → EReal) (ix2 0 k) = m ((c : Thread nD τ).loc main_arg4) (ix2 (0 : Fin 2) k) := fun k => by
    refine Eq.trans (b := (V m c main_v7 : S1x1024.Idx → EReal) (ix2 0 k)) ?_ (bias_found m c k)
    blk_ext [iblk, h4]
  rw [emb, Cert.Reference6Ideal.Stages.result_at]
  refine Eq.trans ?_ ((congrFun (after0_5 m c t) (ix2 R C)).trans ((out_at _ _ _ _ _ R C).trans ?_))
  · rfl
  · rw [funext ex, funext ea, funext fun k => funext fun j => ew k j, funext eg, funext eb]

end Cert.Kernel6Ideal.Normed

end
-- ==== Proof.Norm7Ref.lean ====
module

public import proofs.«01_k».proof.Proof.Gen.Reference7Ideal.Run
public import proofs.«01_k».proof.Proof.Norm

@[expose] public section

set_option maxRecDepth 16384

noncomputable section

/-! The reference's projection, residual and norm, at an index. -/
namespace Cert.Reference7Ideal.Stages

open Idealize.ShloMosaic Idealize.ShloMosaic.TcCoe Idealize.SL.Sem Idealize.ShloMosaic.Pointwise
open Cert.Reference7Ideal Cert.Reference7Ideal.Gen Cert.Reference7Ideal.Value Cert.Norm

section
variable {F : FTy → Type} [FloatOps F]

/-- The projection with the residual. -/
def sums (a : FVec F S32768x1024 .bf16) (w : FVec F S1x1024x1024 .f32) (x : FVec F S32768x1024 .f32) : FVec F S32768x1024 .f32 :=
  addf (mulf (broadcastInDim S32768x1024 ![] bcast_S_S32768x1024 (constant S_ .f32 0x3FB504F3#32)) x)
    (Host.dotGeneral dot_S32768x1024_S1024x1024_S32768x1024_1_0_0_1_n_n none (extf .f32 a bitsLt_bf16_f32) (shapeCast _ w shapeCasts_S1x1024x1024_S1024x1024))

/-- Every row's mean. -/
def means (y : FVec F S32768x1024 .f32) : FVec F S32768x1 .f32 :=
  Host.divf (broadcastInDim S32768x1 ![0] bcast_S32768_S32768x1_0 (Host.reduceAdd y (constant S_ .f32 0x00000000#32) reducesTo_S32768x1024_S32768_d1 h_S_))
    (broadcastInDim S32768x1 ![] bcast_S_S32768x1 (constant S_ .f32 0x44800000#32))

/-- Every entry's distance from its row's mean. -/
def devs (y : FVec F S32768x1024 .f32) : FVec F S32768x1024 .f32 :=
  subf y (broadcastInDim S32768x1024 ![0, 1] bcast_S32768x1_S32768x1024_0_1 (means y))

/-- The gain or the bias of the layer, in every row. -/
def params (g : FVec F S2x1024 .f32) : FVec F S32768x1024 .f32 :=
  broadcastInDim S32768x1024 ![0, 1] bcast_S1x1024_S32768x1024_0_1 (broadcastInDim S1x1024 ![1] bcast_S1024_S1x1024_1
    (shapeCast _ (extractStridedSlice S1x1024 ![1, 0] g slices_S2x1024_S1x1024_1_0) shapeCasts_S1x1024_S1024))

/-- The normed rows. -/
def norms (y : FVec F S32768x1024 .f32) (g b : FVec F S2x1024 .f32) : FVec F S32768x1024 .f32 :=
  addf (mulf (mulf (devs y) (broadcastInDim S32768x1024 ![0, 1] bcast_S32768x1_S32768x1024_0_1 (Host.rsqrt (addf (means (mulf (devs y) (devs y)))
    (broadcastInDim S32768x1 ![] bcast_S_S32768x1 (constant S_ .f32 0x3727C5AC#32)))))) (params g)) (params b)

/-- The reference's result is its stages, one after the other. -/
theorem res_eq (m : (ℓ : Loc nD τ sig) → Buf (Elt F) ℓ) (c : Dev nD) :
    res_main_v33 m c = norms (sums (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4)) := (rfl)

end

/-- The projection with the residual, at an index. -/
theorem sums_at (a : FVec Ideal S32768x1024 .bf16) (w : FVec Ideal S1x1024x1024 .f32) (x : FVec Ideal S32768x1024 .f32) (r : Fin 32768) (j : Fin 1024) :
    sums a w x (ix2 r j) = summed (fun k => x (ix2 r k)) (fun k => a (ix2 r k)) (fun k j => w (ix3 0 k j)) j := by
  pointwise [sums]
  rfl

/-- A row's mean, -/
theorem means_at (y : FVec Ideal S32768x1024 .f32) (r : Fin 32768) : means y (ix2 r 0) = mean (fun k => y (ix2 r k)) := by
  pointwise [means]
  rfl

/-- an entry's distance from it, -/
theorem devs_at (y : FVec Ideal S32768x1024 .f32) (r : Fin 32768) (j : Fin 1024) : devs y (ix2 r j) = dev (fun k => y (ix2 r k)) j := by
  pointwise [devs]
  rw [means_at]
  rfl

/-- and the normed entry. -/
theorem norms_at (y : FVec Ideal S32768x1024 .f32) (g b : FVec Ideal S2x1024 .f32) (r : Fin 32768) (j : Fin 1024) :
    norms y g b (ix2 r j) = normed (fun k => y (ix2 r k)) (fun k => g (ix2 1 k)) (fun k => b (ix2 1 k)) j := by
  pointwise [norms, params]
  rw [means_at, devs_at]
  unfold normed
  refine congrArg (fun z => dev _ j * Ideal.rsqrt (mean z + _) * _ + _) (funext fun k => ?_)
  pointwise
  rw [devs_at]

/-- The reference's result at an index. -/
theorem result_at (a : FVec Ideal S32768x1024 .bf16) (w : FVec Ideal S1x1024x1024 .f32) (x : FVec Ideal S32768x1024 .f32) (g b : FVec Ideal S2x1024 .f32) (r : Fin 32768)
    (j : Fin 1024) : norms (sums a w x) g b (ix2 r j)
      = normed (summed (fun k => x (ix2 r k)) (fun k => a (ix2 r k)) (fun k j => w (ix3 0 k j))) (fun k => g (ix2 1 k)) (fun k => b (ix2 1 k)) j :=
  (norms_at _ g b r j).trans (congrArg (fun y => normed y _ _ j) (funext fun k => sums_at a w x r k))

end Cert.Reference7Ideal.Stages

end
-- ==== Proof.Norm7.lean ====
module

public import proofs.«01_k».proof.Proof.Gen.Kernel7Ideal.Value
public import proofs.«01_k».proof.Proof.Norm7Ref
public import Idealize.ShloMosaic.Lib.Pipeline.ValueKit

@[expose] public section

set_option maxRecDepth 16384

noncomputable section

/-! The output projection of the attention, its residual and its norm are computed as the reference computes them. -/
namespace Cert.Kernel7Ideal.Normed

open Cert.Kernel7Ideal Cert.Kernel7Ideal.Gen Cert.Norm
open Idealize.ShloMosaic Idealize.ShloMosaic.TcCoe Idealize.SL.Sem Idealize.ShloMosaic.Pointwise Idealize.ShloMosaic.StableHlo

section
variable {F : FTy → Type} [FloatOps F]

/-- The block's projection with the residual. -/
def sums (x : FVec F S512x1024 .f32) (a : FVec F S512x1024 .bf16) (w : FVec F S1024x1024 .bf16) : FVec F S512x1024 .f32 :=
  addf (mulf (broadcast S512x1024 (Scalar.ofBits .f32 0x3FB504F3#32)) x)
    (matmul dot_S512x1024_S1024x1024_S512x1024_1_0_0_1_n_n none a (shapeCast S1024x1024 w shapeCasts_S1024x1024_S1024x1024) (constant S512x1024 .f32 0x00000000#32))

/-- Every row's mean. -/
def means (y : FVec F S512x1024 .f32) : FVec F S512x1 .f32 :=
  divf (shapeCast S512x1 (multiReduction .add [1] S512 y 0x00000000#32 reduces_S512x1024_S512 (.inl rfl) rfl) shapeCasts_S512_S512x1)
    (broadcast S512x1 (Scalar.ofBits .f32 0x44800000#32))

/-- Every entry's distance from its row's mean. -/
def devs (y : FVec F S512x1024 .f32) : FVec F S512x1024 .f32 := subf y (broadcastTo S512x1024 (means y) broadcasts_S512x1_S512x1024)

/-- The normed rows. -/
def norms (y : FVec F S512x1024 .f32) (g b : FVec F S1x1024 .f32) : FVec F S512x1024 .f32 :=
  addf (mulf (mulf (devs y) (broadcastTo S512x1024 (rsqrt (addf (means (mulf (devs y) (devs y))) (broadcast S512x1 (Scalar.ofBits .f32 0x3727C5AC#32)))) broadcasts_S512x1_S512x1024))
    (broadcastTo S512x1024 (shapeCast S1x1024 g shapeCasts_S1x1024_S1x1024) broadcasts_S1x1024_S512x1024))
    (broadcastTo S512x1024 (shapeCast S1x1024 b shapeCasts_S1x1024_S1x1024) broadcasts_S1x1024_S512x1024)

/-- The body's result is its stages, one after the other. -/
theorem pay_eq (x : FVec F S512x1024 .f32) (a : FVec F S512x1024 .bf16) (w : FVec F S1024x1024 .bf16) (g b : FVec F S1x1024 .f32) :
    k0_pay1 x a w g b = norms (sums x a w) g b := (rfl)

end

/-- The projection with the residual, at an index. -/
theorem sums_at (x : FVec Ideal S512x1024 .f32) (a : FVec Ideal S512x1024 .bf16) (w : FVec Ideal S1024x1024 .bf16) (R : Fin 512) (C : Fin 1024) :
    sums x a w (ix2 R C) = summed (fun k => x (ix2 R k)) (fun k => a (ix2 R k)) (fun k j => w (ix2 k j)) C := by
  pointwise [sums]
  rfl

/-- A row's mean, -/
theorem means_at (y : FVec Ideal S512x1024 .f32) (R : Fin 512) : means y (ix2 R 0) = mean (fun k => y (ix2 R k)) := by
  pointwise [means]
  rfl

/-- an entry's distance from it, -/
theorem devs_at (y : FVec Ideal S512x1024 .f32) (R : Fin 512) (C : Fin 1024) : devs y (ix2 R C) = dev (fun k => y (ix2 R k)) C := by
  pointwise [devs]
  rw [means_at]
  rfl

/-- and the normed entry. -/
theorem norms_at (y : FVec Ideal S512x1024 .f32) (g b : FVec Ideal S1x1024 .f32) (R : Fin 512) (C : Fin 1024) :
    norms y g b (ix2 R C) = normed (fun k => y (ix2 R k)) (fun k => g (ix2 0 k)) (fun k => b (ix2 0 k)) C := by
  pointwise [norms]
  rw [means_at, devs_at]
  unfold normed
  refine congrArg (fun z => dev _ C * Ideal.rsqrt (mean z + _) * _ + _) (funext fun k => ?_)
  pointwise
  rw [devs_at]

/-- What a grid point leaves, at an index. -/
theorem out_at (a : FVec Ideal S512x1024 .bf16) (w : FVec Ideal S1024x1024 .bf16) (x : FVec Ideal S512x1024 .f32) (g b : FVec Ideal S1x1024 .f32) (R : Fin 512) (C : Fin 1024) :
    out0_5 (F := Ideal) a w x g b (ix2 R C) = normed (summed (fun k => x (ix2 R k)) (fun k => a (ix2 R k)) (fun k j => w (ix2 k j))) (fun k => g (ix2 0 k)) (fun k => b (ix2 0 k)) C := by
  unfold out0_5
  rw [View.canon_cons_unit_lit _ _ _ (by decide), View.ld_unit_lit _ _ (by decide), View.ld_unit_lit _ _ (by decide), View.ld_unit_lit _ _ (by decide),
    View.ld_unit_lit _ _ (by decide), View.ld_unit_lit _ _ (by decide), pay_eq]
  exact (norms_at _ g b R C).trans (congrArg (fun y => normed y _ _ C) (funext fun k => sums_at x a w R k))

/-- Where the windows of a grid point lie. -/
theorem win_idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] := by decide +kernel

/-- The grid has 64 points. -/
theorem points : cfg0.N = 64 := by decide +kernel

/-- The weights without their leading axis of one, -/
theorem weights_cast (w : FVec Ideal S1x1024x1024 .f32) (k j : Fin 1024) :
    (truncf (F := Ideal) .bf16 (shapeCast S1024x1024 w shapeCasts_S1x1024x1024_S1024x1024) bitsLt_bf16_f32) (ix2 k j) = w (ix3 (0 : Fin 1) k j) := by
  pointwise

/-- and the layer's gain or bias. -/
theorem params_cast (g : FVec Ideal S2x1024 .f32) (k : Fin 1024) :
    shapeCast S1x1024 (shapeCast S1024 (extractStridedSlice S1x1024 ![1, 0] g slices_S2x1024_S1x1024_1_0) shapeCasts_S1x1024_S1024) shapeCasts_S1024_S1x1024 (ix2 0 k)
      = g (ix2 (1 : Fin 2) k) := by
  pointwise

variable (m : (ℓ : Loc nD τ sig) → Buf (Elt Ideal) ℓ) (c : Dev nD)

/-- The call finds the weights of the argument, -/
theorem weights_found (k j : Fin 1024) : (V m c main_v1 : S1024x1024.Idx → EReal) (ix2 k j) = m ((c : Thread nD τ).loc main_arg1) (ix3 (0 : Fin 1) k j) := by
  have e : V m c main_v1 = truncf (F := Ideal) .bf16 (shapeCast S1024x1024 (m ((c : Thread nD τ).loc main_arg1)) shapeCasts_S1x1024x1024_S1024x1024) bitsLt_bf16_f32 := by
    unfold V
    after_results_simp
    rfl
  exact (congrFun e _).trans (weights_cast _ k j)

/-- the layer's gain -/
theorem gain_found (k : Fin 1024) : (V m c main_v6 : S1x1024.Idx → EReal) (ix2 0 k) = m ((c : Thread nD τ).loc main_arg3) (ix2 (1 : Fin 2) k) := by
  have e : V m c main_v6 = shapeCast S1x1024 (shapeCast S1024 (extractStridedSlice S1x1024 ![1, 0] (m ((c : Thread nD τ).loc main_arg3)) slices_S2x1024_S1x1024_1_0)
      shapeCasts_S1x1024_S1024) shapeCasts_S1024_S1x1024 := by
    unfold V
    after_results_simp
    rfl
  exact (congrFun e _).trans (params_cast _ k)

/-- and its bias. -/
theorem bias_found (k : Fin 1024) : (V m c main_v7 : S1x1024.Idx → EReal) (ix2 0 k) = m ((c : Thread nD τ).loc main_arg4) (ix2 (1 : Fin 2) k) := by
  have e : V m c main_v7 = shapeCast S1x1024 (shapeCast S1024 (extractStridedSlice S1x1024 ![1, 0] (m ((c : Thread nD τ).loc main_arg4)) slices_S2x1024_S1x1024_1_0)
      shapeCasts_S1x1024_S1024) shapeCasts_S1024_S1x1024 := by
    unfold V
    after_results_simp
    rfl
  exact (congrFun e _).trans (params_cast _ k)

/-- The call's result is the reference's. -/
theorem final : (dats m 0 c).arrAt 5 cfg0.N = Cert.Reference7Ideal.Stages.norms (F := Ideal)
    (Cert.Reference7Ideal.Stages.sums (m ((c : Thread nD τ).loc main_arg0)) (m ((c : Thread nD τ).loc main_arg1)) (m ((c : Thread nD τ).loc main_arg2)))
    (m ((c : Thread nD τ).loc main_arg3)) (m ((c : Thread nD τ).loc main_arg4)) := by
  refine (dats m 0 c).arrAt_eq_of_covers 5 _ (by decide +kernel) fun t hf y => ?_
  have ht : t.val < 64 := points ▸ t.isLt
  obtain ⟨h0, h1, h2, h3, h4, h5⟩ := win_idx t
  obtain ⟨R, C, rfl⟩ : ∃ (R : Fin 512) (C : Fin 1024), y = ix2 R C := ⟨y (0 : Fin 2), y (1 : Fin 2), eq_ix2 _⟩
  have emb : ((cfg0.win 5).blk t).view.emb (ix2 R C) = ix2 (⟨t.val * 512 + R.val, by omega⟩ : Fin 32768) C := by
    blk_ext [h5]
  have ea : ∀ k : Fin 1024, (iblk m c 0 t : S512x1024.Idx → EReal) (ix2 R k) = m ((c : Thread nD τ).loc main_arg0) (ix2 (⟨t.val * 512 + R.val, by omega⟩ : Fin 32768) k) := fun k => by
    rw [← V_main_arg0 m c]
    blk_ext [iblk, h0]
  have ew : ∀ k j : Fin 1024, (iblk m c 1 t : S1024x1024.Idx → EReal) (ix2 k j) = m ((c : Thread nD τ).loc main_arg1) (ix3 (0 : Fin 1) k j) := fun k j => by
    refine Eq.trans (b := (V m c main_v1 : S1024x1024.Idx → EReal) (ix2 k j)) ?_ (weights_found m c k j)
    blk_ext [iblk, h1]
  have ex : ∀ k : Fin 1024, (iblk m c 2 t : S512x1024.Idx → EReal) (ix2 R k) = m ((c : Thread nD τ).loc main_arg2) (ix2 (⟨t.val * 512 + R.val, by omega⟩ : Fin 32768) k) := fun k => by
    rw [← V_main_arg2 m c]
    blk_ext [iblk, h2]
  have eg : ∀ k : Fin 1024, (iblk m c 3 t : S1x1024.Idx → EReal) (ix2 0 k) = m ((c : Thread nD τ).loc main_arg3) (ix2 (1 : Fin 2) k) := fun k => by
    refine Eq.trans (b := (V m c main_v6 : S1x1024.Idx → EReal) (ix2 0 k)) ?_ (gain_found m c k)
    blk_ext [iblk, h3]
  have eb : ∀ k : Fin 1024, (iblk m c 4 t : S1x1024.Idx → EReal) (ix2 0 k) = m ((c : Thread nD τ).loc main_arg4) (ix2 (1 : Fin 2) k) := fun k => by
    refine Eq.trans (b := (V m c main_v7 : S1x1024.Idx → EReal) (ix2 0 k)) ?_ (bias_found m c k)
    blk_ext [iblk, h4]
  rw [emb, Cert.Reference7Ideal.Stages.result_at]
  refine Eq.trans ?_ ((congrFun (after0_5 m c t) (ix2 R C)).trans ((out_at _ _ _ _ _ R C).trans ?_))
  · rfl
  · rw [funext ex, funext ea, funext fun k => funext fun j => ew k j, funext eg, funext eb]

end Cert.Kernel7Ideal.Normed

end
-- ==== Proof.lean ====
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel2
public import proofs.«01_k».proof.Proof.Gen.Kernel2.Launch
public import proofs.«01_k».proof.Proof.Gen.Kernel2.Skeleton
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Final
public import proofs.«01_k».proof.Proof.ExpertFinal
public import proofs.«01_k».proof.Proof.ExpertBits
public import proofs.«01_k».proof.Proof.Project3
public import proofs.«01_k».proof.Proof.Project4
public import proofs.«01_k».proof.Proof.Project5
public import proofs.«01_k».proof.Proof.Norm6
public import proofs.«01_k».proof.Proof.Norm7
public import Idealize.ShloMosaic.Adequacy
public import Idealize.ShloMosaic.Init

@[expose] public section

noncomputable section

namespace Cert.Proof

open Idealize.ShloMosaic Idealize.ShloMosaic.TcCoe Idealize.SL.Sem

/-- The side conditions of the precondition's operations. -/
theorem finite_facts : Cert.Pre_finite.Facts where
  bitsLt_bf16_f32 := by decide
  bcast_S_S32768x1024 := by decide
  reducesTo_S32768x1024_S_d0_1 := by decide
  h_S_ := by decide
  slices_S32768x2048_S32768x1024_0_0 := by decide
  bcast_S_S1x16x320 := by decide
  reducesTo_S1x16x320_S_d0_1_2 := by decide

/-- The reference runs, leaves its arguments and has no semaphores. -/
theorem reference_frame : quiescent_ReferenceIdeal := fun m ρ _ =>
  (θ_run _ _ _).mono (fun r h => ⟨fun c => (h c).2, sem_eq_zero_of_no_sems (by decide) r.2⟩)
    (Cert.ReferenceIdeal.Value.run (F := Ideal) m ρ)

/-- The kernel and the reference compute one function of finite queries, keys and biases. -/
theorem attention [Cert.Pre_finite.Facts] : algebraic_KernelIdeal_ReferenceIdeal_pre_finite := by
  intro m g m' g' hpre hargs
  refine ⟨fun c => (Cert.KernelIdeal.Gen.dats m 0 c).arrAt 6 Cert.KernelIdeal.cfg0.N, ?_, ?_⟩
  · exact Cert.KernelIdeal.Value.run_blocks m g
  · refine (θ_run _ _ _).mono (fun r h c => ?_) (Cert.ReferenceIdeal.Value.run (F := Ideal) m' g')
    obtain ⟨hv, h0, h1, h2⟩ := h c
    obtain ⟨e0, e1, e2⟩ := hargs c
    obtain ⟨hq, hk, hb⟩ := Cert.Att.finite_entries _ _ _ (hpre c)
    refine ⟨hv.trans ?_, h0, h1, h2⟩
    rw [Cert.ReferenceIdeal.Stages.res_eq, e0, e1, e2]
    exact (Cert.KernelIdeal.Att.final m c (fun i j => hq _) (fun i j => hk i j) (fun i j => hb _)).symm

/-- The side conditions of the routed experts' precondition. -/
theorem has_run_facts : Cert.Pre_has_run.Facts where
  bcast_S_S256 := by decide
  bcast_S_S_ := by decide
  reduceWindows_S256_S256_w256s1p255_0 := by decide
  h_S_ := by decide
  slices_S256_S1_255 := by decide
  shapeCasts_S1_S_ := by decide

open Cert.Kernel2Ideal.Experts in
/-- The routed experts' call runs, leaves its arguments and ends with every counter at zero. -/
theorem experts_frame [Cert.Pre_has_run.Facts] : quiescent_Kernel2Ideal := fun m ρ h =>
  args_kept m ρ (fits m (pre_words _ _ _ _ (h 0)))

/-- The reference runs, leaves its arguments and has no semaphores. -/
theorem experts_reference_frame : quiescent_Reference2Ideal := fun m ρ _ =>
  (θ_run _ _ _).mono (fun r h => ⟨fun c => (h c).2, sem_eq_zero_of_no_sems (by decide) r.2⟩)
    (Cert.Reference2Ideal.Value.run (F := Ideal) m ρ)

open Cert.Kernel2Ideal.Experts in
/-- The call and the reference compute one function of the arguments, wherever the runs fit the rows. -/
theorem experts [Cert.Pre_has_run.Facts] : algebraic_Kernel2Ideal_Reference2Ideal := by
  intro m g m' g' hpre hargs
  have hb : Bounded m := pre_words _ _ _ _ (hpre 0)
  refine ⟨fun c => (plan m (fits m hb) 0 c).arrAt 3 (pipe m (fits m hb)).N, ?_, ?_⟩
  · refine (θ_run _ _ _).mono (fun r h c => ?_) (θ_run_and (run m g (fits m hb)) (args_kept m g (fits m hb)))
    exact ⟨(h.1.1 c).1 3, h.2.1 c⟩
  · refine (θ_run _ _ _).mono (fun r h c => ?_) (Cert.Reference2Ideal.Value.run (F := Ideal) m' g')
    obtain ⟨hv, h0, h1, h2, h3⟩ := h c
    obtain ⟨e0, e1, e2, e3⟩ := hargs c
    refine ⟨hv.trans ?_, h0, h1, h2, h3⟩
    rw [Cert.Reference2Ideal.Rows.res_eq, e0, e1, e2, e3]
    obtain rfl : c = 0 := Subsingleton.elim _ _
    exact (final m 0 hb (fits m hb)).symm

/-- The reference runs, leaves its arguments and has no semaphores. -/
theorem reference3_frame : quiescent_Reference3Ideal := fun m ρ _ =>
  (θ_run _ _ _).mono (fun r h => ⟨fun c => (h c).2, sem_eq_zero_of_no_sems (by decide) r.2⟩)
    (Cert.Reference3Ideal.Value.run (F := Ideal) m ρ)

/-- The input projection of the mixer: the call and the reference compute one function of the arguments. -/
theorem call3 : algebraic_Kernel3Ideal_Reference3Ideal := by
  intro m g m' g' hpre hargs
  refine ⟨fun c => (Cert.Kernel3Ideal.Gen.dats m 0 c).arrAt 2 Cert.Kernel3Ideal.cfg0.N, Cert.Kernel3Ideal.Value.run_blocks m g, ?_⟩
  refine (θ_run _ _ _).mono (fun r h c => ?_) (Cert.Reference3Ideal.Value.run (F := Ideal) m' g')
  obtain ⟨hv, h0, h1⟩ := h c
  obtain ⟨e0, e1⟩ := hargs c
  refine ⟨hv.trans ?_, h0, h1⟩
  rw [e0, e1]
  exact (Cert.Kernel3Ideal.Product.final m c).symm

/-- The reference runs, leaves its arguments and has no semaphores. -/
theorem reference4_frame : quiescent_Reference4Ideal := fun m ρ _ =>
  (θ_run _ _ _).mono (fun r h => ⟨fun c => (h c).2, sem_eq_zero_of_no_sems (by decide) r.2⟩)
    (Cert.Reference4Ideal.Value.run (F := Ideal) m ρ)

/-- The shared keys and values: the call and the reference compute one function of the arguments. -/
theorem call4 : algebraic_Kernel4Ideal_Reference4Ideal := by
  intro m g m' g' hpre hargs
  refine ⟨fun c => (Cert.Kernel4Ideal.Gen.dats m 0 c).arrAt 2 Cert.Kernel4Ideal.cfg0.N, Cert.Kernel4Ideal.Value.run_blocks m g, ?_⟩
  refine (θ_run _ _ _).mono (fun r h c => ?_) (Cert.Reference4Ideal.Value.run (F := Ideal) m' g')
  obtain ⟨hv, h0, h1⟩ := h c
  obtain ⟨e0, e1⟩ := hargs c
  refine ⟨hv.trans ?_, h0, h1⟩
  rw [e0, e1]
  exact (Cert.Kernel4Ideal.Product.final m c).symm

/-- The reference runs, leaves its arguments and has no semaphores. -/
theorem reference5_frame : quiescent_Reference5Ideal := fun m ρ _ =>
  (θ_run _ _ _).mono (fun r h => ⟨fun c => (h c).2, sem_eq_zero_of_no_sems (by decide) r.2⟩)
    (Cert.Reference5Ideal.Value.run (F := Ideal) m ρ)

/-- The queries: the call and the reference compute one function of the arguments. -/
theorem call5 : algebraic_Kernel5Ideal_Reference5Ideal := by
  intro m g m' g' hpre hargs
  refine ⟨fun c => (Cert.Kernel5Ideal.Gen.dats m 0 c).arrAt 2 Cert.Kernel5Ideal.cfg0.N, Cert.Kernel5Ideal.Value.run_blocks m g, ?_⟩
  refine (θ_run _ _ _).mono (fun r h c => ?_) (Cert.Reference5Ideal.Value.run (F := Ideal) m' g')
  obtain ⟨hv, h0, h1⟩ := h c
  obtain ⟨e0, e1⟩ := hargs c
  refine ⟨hv.trans ?_, h0, h1⟩
  rw [e0, e1]
  exact (Cert.Kernel5Ideal.Product.final m c).symm

/-- The reference runs, leaves its arguments and has no semaphores. -/
theorem reference6_frame : quiescent_Reference6Ideal := fun m ρ _ =>
  (θ_run _ _ _).mono (fun r h => ⟨fun c => (h c).2, sem_eq_zero_of_no_sems (by decide) r.2⟩)
    (Cert.Reference6Ideal.Value.run (F := Ideal) m ρ)

/-- The mixer's output projection, residual and norm: the call and the reference compute one function of the arguments. -/
theorem call6 : algebraic_Kernel6Ideal_Reference6Ideal := by
  intro m g m' g' hpre hargs
  refine ⟨fun c => (Cert.Kernel6Ideal.Gen.dats m 0 c).arrAt 5 Cert.Kernel6Ideal.cfg0.N,
    (θ_run _ _ _).mono (fun r h c => ⟨(h c).1, (h c).2.2⟩) (Cert.Kernel6Ideal.Value.run_blocks m g), ?_⟩
  refine (θ_run _ _ _).mono (fun r h c => ?_) (Cert.Reference6Ideal.Value.run (F := Ideal) m' g')
  obtain ⟨hv, h0⟩ := h c
  obtain ⟨e0, e1, e2, e3, e4⟩ := hargs c
  refine ⟨hv.trans ?_, h0⟩
  rw [Cert.Reference6Ideal.Stages.res_eq, e0, e1, e2, e3, e4]
  exact (Cert.Kernel6Ideal.Normed.final m c).symm

/-- The reference runs, leaves its arguments and has no semaphores. -/
theorem reference7_frame : quiescent_Reference7Ideal := fun m ρ _ =>
  (θ_run _ _ _).mono (fun r h => ⟨fun c => (h c).2, sem_eq_zero_of_no_sems (by decide) r.2⟩)
    (Cert.Reference7Ideal.Value.run (F := Ideal) m ρ)

/-- The attention's output projection, residual and norm: the call and the reference compute one function of the arguments. -/
theorem call7 : algebraic_Kernel7Ideal_Reference7Ideal := by
  intro m g m' g' hpre hargs
  refine ⟨fun c => (Cert.Kernel7Ideal.Gen.dats m 0 c).arrAt 5 Cert.Kernel7Ideal.cfg0.N,
    (θ_run _ _ _).mono (fun r h c => ⟨(h c).1, (h c).2.2⟩) (Cert.Kernel7Ideal.Value.run_blocks m g), ?_⟩
  refine (θ_run _ _ _).mono (fun r h c => ?_) (Cert.Reference7Ideal.Value.run (F := Ideal) m' g')
  obtain ⟨hv, h0⟩ := h c
  obtain ⟨e0, e1, e2, e3, e4⟩ := hargs c
  refine ⟨hv.trans ?_, h0⟩
  rw [Cert.Reference7Ideal.Stages.res_eq, e0, e1, e2, e3, e4]
  exact (Cert.Kernel7Ideal.Normed.final m c).symm

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  finite_facts, has_run_facts,
  fun m ρ _ => Cert.Kernel.Gen.frame m ρ,
  fun m ρ _ => Cert.KernelIdeal.Gen.frame m ρ,
  fun m ρ _ => Cert.KernelIdeal.Gen.frame m ρ,
  fun m ρ _ => reference_frame m ρ trivial,
  fun m ρ _ => reference_frame m ρ trivial,
  @Cert.Kernel2.Experts.frame_bits has_run_facts,
  @experts_frame has_run_facts,
  fun m ρ _ => experts_reference_frame m ρ trivial,
  fun m ρ _ => experts_reference_frame m ρ trivial,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, reference4_frame,
  fun m ρ _ => Cert.Kernel5.Gen.frame m ρ, fun m ρ _ => Cert.Kernel5Ideal.Gen.frame m ρ, reference5_frame,
  fun m ρ _ => Cert.Kernel6.Gen.frame m ρ, fun m ρ _ => Cert.Kernel6Ideal.Gen.frame m ρ, reference6_frame,
  fun m ρ _ => Cert.Kernel7.Gen.frame m ρ, fun m ρ _ => Cert.Kernel7Ideal.Gen.frame m ρ, reference7_frame,
  trivial,
  @attention finite_facts,
  trivial,
  @experts has_run_facts,
  trivial, call3, trivial, call4, trivial, call5, trivial, call6, trivial, call7⟩

end Cert.Proof

end
